-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_after_first_step [hPre_after_first_step : Cert.Pre_after_first_step.Facts] (m : (ℓ : Loc Cert.KernelIdeal.nD Cert.KernelIdeal.τ Cert.KernelIdeal.sig) → Buf (Elt Ideal) ℓ) : Prop :=
  ∀ c : Dev Cert.KernelIdeal.nD,
    (Cert.Pre_after_first_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_after_first_step [hPre_after_first_step : Cert.Pre_after_first_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_after_first_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_after_first_step [hKernelIdeal : Cert.KernelIdeal.Facts] [hPre_after_first_step : Cert.Pre_after_first_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_after_first_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_after_first_step [hReferenceIdeal : Cert.ReferenceIdeal.Facts] [hPre_after_first_step : Cert.Pre_after_first_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_after_first_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_after_first_step [hKernelIdeal : Cert.KernelIdeal.Facts] [hReferenceIdeal : Cert.ReferenceIdeal.Facts] [hPre_after_first_step : Cert.Pre_after_first_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_after_first_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v129_0) = v1 c
          ∧ r.2.mem ((c.tc : Thread Cert.ReferenceIdeal.nD Cert.ReferenceIdeal.τ).loc Cert.ReferenceIdeal.main_v129_1) = v2 c
          ∧ r.2.mem ((c.tc : Thread Cert.ReferenceIdeal.nD Cert.ReferenceIdeal.τ).loc Cert.ReferenceIdeal.main_v208_0) = v3 c
          ∧ r.2.mem ((c.tc : Thread Cert.ReferenceIdeal.nD Cert.ReferenceIdeal.τ).loc Cert.ReferenceIdeal.main_v208_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_after_first_step : Cert.Pre_after_first_step.Facts),
    quiescent_Kernel (hKernel := hKernel)
    ∧ quiescent_KernelIdeal (hKernelIdeal := hKernelIdeal)
    ∧ quiescent_KernelIdeal_pre_after_first_step (hKernelIdeal := hKernelIdeal) (hPre_after_first_step := hPre_after_first_step)
    ∧ quiescent_ReferenceIdeal (hReferenceIdeal := hReferenceIdeal)
    ∧ quiescent_ReferenceIdeal_pre_after_first_step (hReferenceIdeal := hReferenceIdeal) (hPre_after_first_step := hPre_after_first_step)
    ∧ preserves_Kernel_KernelIdeal
    ∧ algebraic_KernelIdeal_ReferenceIdeal_pre_after_first_step (hKernelIdeal := hKernelIdeal) (hReferenceIdeal := hReferenceIdeal) (hPre_after_first_step := hPre_after_first_step)
-- ==== Pre_after_first_step.lean ====
abbrev S7168x2048 : Shape := ⟨2, ![7168, 2048]⟩
abbrev S7168x16 : Shape := ⟨2, ![7168, 16]⟩
abbrev S_ : Shape := ⟨0, ![]⟩

class Facts : Prop where

variable [Facts]

def fn {F : FTy → Type} [FloatOps F] (main_arg0 : FVec F S7168x2048 .f32) (main_arg1 : FVec F S7168x2048 .bf16) (main_arg2 : IVec S7168x2048 8) (main_arg3 : FVec F S7168x16 .f32) (main_arg4 : IVec S7168x2048 8) (main_arg5 : FVec F S7168x16 .f32) (main_arg6 : IVec S_ 32) (main_arg7 : FVec F S_ .f32) : IVec S_ 1 :=
  let main_c : IVec S_ 32 := constantI S_ 32 0#32
  let main_v0 : IVec S_ 1 := cmpi .ne main_arg6 main_c
  main_v0
-- ==== Kernel.lean ====
abbrev S7168x2048 : Shape := ⟨2, ![7168, 2048]⟩
abbrev S7168x16 : Shape := ⟨2, ![7168, 16]⟩
abbrev S_ : Shape := ⟨0, ![]⟩
abbrev S1 : Shape := ⟨1, ![1]⟩
abbrev S256x2048 : Shape := ⟨2, ![256, 2048]⟩
abbrev S256x16 : Shape := ⟨2, ![256, 16]⟩
abbrev S8x128 : Shape := ⟨2, ![8, 128]⟩
abbrev S14 : Shape := ⟨1, ![14]⟩
abbrev S512x2048 : Shape := ⟨2, ![512, 2048]⟩
abbrev S1x1 : Shape := ⟨2, ![1, 1]⟩
abbrev S16x2048 : Shape := ⟨2, ![16, 2048]⟩
abbrev S2x8x16x128 : Shape := ⟨4, ![2, 8, 16, 128]⟩
abbrev S1x8x128 : Shape := ⟨3, ![1, 8, 128]⟩
abbrev S1x1x1 : Shape := ⟨3, ![1, 1, 1]⟩
abbrev S1x128 : Shape := ⟨2, ![1, 128]⟩
abbrev S32x16 : Shape := ⟨2, ![32, 16]⟩
abbrev S32x128 : Shape := ⟨2, ![32, 128]⟩
abbrev S32x1 : Shape := ⟨2, ![32, 1]⟩
abbrev S32 : Shape := ⟨1, ![32]⟩

abbrev nBuf : Space → Nat
  | .hbm => 15
  | .vmem => 22
  | .smem => 2
  | _ => 0

abbrev bufTy : (tb : Table) → Fin (tcTables nBuf tb) → BufTy
  | .hbm, ⟨0, _⟩ => ⟨S7168x2048, .f32⟩
  | .hbm, ⟨1, _⟩ => ⟨S7168x2048, .bf16⟩
  | .hbm, ⟨2, _⟩ => ⟨S7168x2048, .i8⟩
  | .hbm, ⟨3, _⟩ => ⟨S7168x16, .f32⟩
  | .hbm, ⟨4, _⟩ => ⟨S7168x2048, .i8⟩
  | .hbm, ⟨5, _⟩ => ⟨S7168x16, .f32⟩
  | .hbm, ⟨6, _⟩ => ⟨S_, .i32⟩
  | .hbm, ⟨7, _⟩ => ⟨S_, .f32⟩
  | .hbm, ⟨8, _⟩ => ⟨S1, .i32⟩
  | .hbm, ⟨9, _⟩ => ⟨S1, .f32⟩
  | .hbm, ⟨10, _⟩ => ⟨S7168x2048, .f32⟩
  | .hbm, ⟨11, _⟩ => ⟨S7168x2048, .i8⟩
  | .hbm, ⟨12, _⟩ => ⟨S7168x16, .f32⟩
  | .hbm, ⟨13, _⟩ => ⟨S7168x2048, .i8⟩
  | .hbm, ⟨14, _⟩ => ⟨S7168x16, .f32⟩
  | .local _ .vmem, ⟨0, _⟩ => ⟨S256x2048, .f32⟩
  | .local _ .vmem, ⟨1, _⟩ => ⟨S256x2048, .f32⟩
  | .local _ .vmem, ⟨2, _⟩ => ⟨S256x2048, .i8⟩
  | .local _ .vmem, ⟨3, _⟩ => ⟨S256x2048, .i8⟩
  | .local _ .vmem, ⟨4, _⟩ => ⟨S256x16, .f32⟩
  | .local _ .vmem, ⟨5, _⟩ => ⟨S256x16, .f32⟩
  | .local _ .vmem, ⟨6, _⟩ => ⟨S256x2048, .i8⟩
  | .local _ .vmem, ⟨7, _⟩ => ⟨S256x2048, .i8⟩
  | .local _ .vmem, ⟨8, _⟩ => ⟨S256x16, .f32⟩
  | .local _ .vmem, ⟨9, _⟩ => ⟨S256x16, .f32⟩
  | .local _ .vmem, ⟨10, _⟩ => ⟨S256x2048, .f32⟩
  | .local _ .vmem, ⟨11, _⟩ => ⟨S256x2048, .f32⟩
  | .local _ .vmem, ⟨12, _⟩ => ⟨S256x2048, .i8⟩
  | .local _ .vmem, ⟨13, _⟩ => ⟨S256x2048, .i8⟩
  | .local _ .vmem, ⟨14, _⟩ => ⟨S256x16, .f32⟩
  | .local _ .vmem, ⟨15, _⟩ => ⟨S256x16, .f32⟩
  | .local _ .vmem, ⟨16, _⟩ => ⟨S256x2048, .i8⟩
  | .local _ .vmem, ⟨17, _⟩ => ⟨S256x2048, .i8⟩
  | .local _ .vmem, ⟨18, _⟩ => ⟨S256x16, .f32⟩
  | .local _ .vmem, ⟨19, _⟩ => ⟨S256x16, .f32⟩
  | .local _ .vmem, ⟨20, _⟩ => ⟨S7168x2048, .bf16⟩
  | .local _ .vmem, ⟨21, _⟩ => ⟨S8x128, .f32⟩
  | .local _ .smem, ⟨0, _⟩ => ⟨S1, .i32⟩
  | .local _ .smem, ⟨1, _⟩ => ⟨S1, .f32⟩
  | _, _ => ⟨S7168x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_59 : BitVec 32 := 0#32
  let c32_i32 : BitVec 32 := 32#32
  let v72 : BitVec 32 := Scalar.addi c0_i32_59 c32_i32
  let c1_i32_60 : BitVec 32 := 1#32
  ⟨c0_i32_59, v72, c1_i32_60⟩
def k0_off1 (k0_t1 : Fin k0_t1_loop.trips) : Fin 2 → Nat :=
  let c0_i32_195 : BitVec 32 := 0#32
  let c0_i32_59 : BitVec 32 := 0#32
  let c1_i32_60 : BitVec 32 := 1#32
  let arg17 : BitVec 32 := Scf.iv c0_i32_59 c1_i32_60 k0_t1
  let c16_i32 : BitVec 32 := 16#32
  let v193 : BitVec 32 := Scalar.muli arg17 c16_i32
  let v194 : BitVec 32 := Scalar.addi c0_i32_195 v193
  let v195 : Index := Scalar.indexCast v194
  let c0_196 : Index := 0#32
  ![v195.toNat, 0]
@[reducible] def k0_t2_loop : Scf.Loop 32 :=
  let c0_i32_67 : BitVec 32 := 0#32
  let c32_i32_68 : BitVec 32 := 32#32
  let v78 : BitVec 32 := Scalar.addi c0_i32_67 c32_i32_68
  let c1_i32_69 : BitVec 32 := 1#32
  ⟨c0_i32_67, v78, c1_i32_69⟩
def k0_off2 (k0_t2 : Fin k0_t2_loop.trips) : Fin 2 → Nat :=
  let c512_i32_195 : BitVec 32 := 512#32
  let c0_i32_67 : BitVec 32 := 0#32
  let c1_i32_69 : BitVec 32 := 1#32
  let arg17 : BitVec 32 := Scf.iv c0_i32_67 c1_i32_69 k0_t2
  let c16_i32 : BitVec 32 := 16#32
  let v193 : BitVec 32 := Scalar.muli arg17 c16_i32
  let v194 : BitVec 32 := Scalar.addi c512_i32_195 v193
  let v195 : Index := Scalar.indexCast v194
  let c0_196 : Index := 0#32
  ![v195.toNat, 0]
@[reducible] def k0_t3_loop : Scf.Loop 32 :=
  let c0_i32_76 : BitVec 32 := 0#32
  let c32_i32_77 : BitVec 32 := 32#32
  let v84 : BitVec 32 := Scalar.addi c0_i32_76 c32_i32_77
  let c1_i32_78 : BitVec 32 := 1#32
  ⟨c0_i32_76, v84, c1_i32_78⟩
def k0_off3 (k0_t3 : Fin k0_t3_loop.trips) : Fin 2 → Nat :=
  let c1024_i32_195 : BitVec 32 := 1024#32
  let c0_i32_76 : BitVec 32 := 0#32
  let c1_i32_78 : BitVec 32 := 1#32
  let arg17 : BitVec 32 := Scf.iv c0_i32_76 c1_i32_78 k0_t3
  let c16_i32 : BitVec 32 := 16#32
  let v193 : BitVec 32 := Scalar.muli arg17 c16_i32
  let v194 : BitVec 32 := Scalar.addi c1024_i32_195 v193
  let v195 : Index := Scalar.indexCast v194
  let c0_196 : Index := 0#32
  ![v195.toNat, 0]
@[reducible] def k0_t4_loop : Scf.Loop 32 :=
  let c0_i32_85 : BitVec 32 := 0#32
  let c32_i32_86 : BitVec 32 := 32#32
  let v90 : BitVec 32 := Scalar.addi c0_i32_85 c32_i32_86
  let c1_i32_87 : BitVec 32 := 1#32
  ⟨c0_i32_85, v90, c1_i32_87⟩
def k0_off4 (k0_t4 : Fin k0_t4_loop.trips) : Fin 2 → Nat :=
  let c1536_i32_195 : BitVec 32 := 1536#32
  let c0_i32_85 : BitVec 32 := 0#32
  let c1_i32_87 : BitVec 32 := 1#32
  let arg17 : BitVec 32 := Scf.iv c0_i32_85 c1_i32_87 k0_t4
  let c16_i32 : BitVec 32 := 16#32
  let v193 : BitVec 32 := Scalar.muli arg17 c16_i32
  let v194 : BitVec 32 := Scalar.addi c1536_i32_195 v193
  let v195 : Index := Scalar.indexCast v194
  let c0_196 : Index := 0#32
  ![v195.toNat, 0]
@[reducible] def k0_t5_loop : Scf.Loop 32 :=
  let c0_i32_94 : BitVec 32 := 0#32
  let c32_i32_95 : BitVec 32 := 32#32
  let v96 : BitVec 32 := Scalar.addi c0_i32_94 c32_i32_95
  let c1_i32_96 : BitVec 32 := 1#32
  ⟨c0_i32_94, v96, c1_i32_96⟩
def k0_off5 (k0_t5 : Fin k0_t5_loop.trips) : Fin 2 → Nat :=
  let c2048_i32_195 : BitVec 32 := 2048#32
  let c0_i32_94 : BitVec 32 := 0#32
  let c1_i32_96 : BitVec 32 := 1#32
  let arg17 : BitVec 32 := Scf.iv c0_i32_94 c1_i32_96 k0_t5
  let c16_i32 : BitVec 32 := 16#32
  let v193 : BitVec 32 := Scalar.muli arg17 c16_i32
  let v194 : BitVec 32 := Scalar.addi c2048_i32_195 v193
  let v195 : Index := Scalar.indexCast v194
  let c0_196 : Index := 0#32
  ![v195.toNat, 0]
@[reducible] def k0_t6_loop : Scf.Loop 32 :=
  let c0_i32_103 : BitVec 32 := 0#32
  let c32_i32_104 : BitVec 32 := 32#32
  let v102 : BitVec 32 := Scalar.addi c0_i32_103 c32_i32_104
  let c1_i32_105 : BitVec 32 := 1#32
  ⟨c0_i32_103, v102, c1_i32_105⟩
def k0_off6 (k0_t6 : Fin k0_t6_loop.trips) : Fin 2 → Nat :=
  let c2560_i32_195 : BitVec 32 := 2560#32
  let c0_i32_103 : BitVec 32 := 0#32
  let c1_i32_105 : BitVec 32 := 1#32
  let arg17 : BitVec 32 := Scf.iv c0_i32_103 c1_i32_105 k0_t6
  let c16_i32 : BitVec 32 := 16#32
  let v193 : BitVec 32 := Scalar.muli arg17 c16_i32
  let v194 : BitVec 32 := Scalar.addi c2560_i32_195 v193
  let v195 : Index := Scalar.indexCast v194
  let c0_196 : Index := 0#32
  ![v195.toNat, 0]
@[reducible] def k0_t7_loop : Scf.Loop 32 :=
  let c0_i32_112 : BitVec 32 := 0#32
  let c32_i32_113 : BitVec 32 := 32#32
  let v108 : BitVec 32 := Scalar.addi c0_i32_112 c32_i32_113
  let c1_i32_114 : BitVec 32 := 1#32
  ⟨c0_i32_112, v108, c1_i32_114⟩
def k0_off7 (k0_t7 : Fin k0_t7_loop.trips) : Fin 2 → Nat :=
  let c3072_i32_195 : BitVec 32 := 3072#32
  let c0_i32_112 : BitVec 32 := 0#32
  let c1_i32_114 : BitVec 32 := 1#32
  let arg17 : BitVec 32 := Scf.iv c0_i32_112 c1_i32_114 k0_t7
  let c16_i32 : BitVec 32 := 16#32
  let v193 : BitVec 32 := Scalar.muli arg17 c16_i32
  let v194 : BitVec 32 := Scalar.addi c3072_i32_195 v193
  let v195 : Index := Scalar.indexCast v194
  let c0_196 : Index := 0#32
  ![v195.toNat, 0]
@[reducible] def k0_t8_loop : Scf.Loop 32 :=
  let c0_i32_121 : BitVec 32 := 0#32
  let c32_i32_122 : BitVec 32 := 32#32
  let v114 : BitVec 32 := Scalar.addi c0_i32_121 c32_i32_122
  let c1_i32_123 : BitVec 32 := 1#32
  ⟨c0_i32_121, v114, c1_i32_123⟩
def k0_off8 (k0_t8 : Fin k0_t8_loop.trips) : Fin 2 → Nat :=
  let c3584_i32_195 : BitVec 32 := 3584#32
  let c0_i32_121 : BitVec 32 := 0#32
  let c1_i32_123 : BitVec 32 := 1#32
  let arg17 : BitVec 32 := Scf.iv c0_i32_121 c1_i32_123 k0_t8
  let c16_i32 : BitVec 32 := 16#32
  let v193 : BitVec 32 := Scalar.muli arg17 c16_i32
  let v194 : BitVec 32 := Scalar.addi c3584_i32_195 v193
  let v195 : Index := Scalar.indexCast v194
  let c0_196 : Index := 0#32
  ![v195.toNat, 0]
@[reducible] def k0_t9_loop : Scf.Loop 32 :=
  let c0_i32_130 : BitVec 32 := 0#32
  let c32_i32_131 : BitVec 32 := 32#32
  let v120 : BitVec 32 := Scalar.addi c0_i32_130 c32_i32_131
  let c1_i32_132 : BitVec 32 := 1#32
  ⟨c0_i32_130, v120, c1_i32_132⟩
def k0_off9 (k0_t9 : Fin k0_t9_loop.trips) : Fin 2 → Nat :=
  let c4096_i32_195 : BitVec 32 := 4096#32
  let c0_i32_130 : BitVec 32 := 0#32
  let c1_i32_132 : BitVec 32 := 1#32
  let arg17 : BitVec 32 := Scf.iv c0_i32_130 c1_i32_132 k0_t9
  let c16_i32 : BitVec 32 := 16#32
  let v193 : BitVec 32 := Scalar.muli arg17 c16_i32
  let v194 : BitVec 32 := Scalar.addi c4096_i32_195 v193
  let v195 : Index := Scalar.indexCast v194
  let c0_196 : Index := 0#32
  ![v195.toNat, 0]
@[reducible] def k0_t10_loop : Scf.Loop 32 :=
  let c0_i32_139 : BitVec 32 := 0#32
  let c32_i32_140 : BitVec 32 := 32#32
  let v126 : BitVec 32 := Scalar.addi c0_i32_139 c32_i32_140
  let c1_i32_141 : BitVec 32 := 1#32
  ⟨c0_i32_139, v126, c1_i32_141⟩
def k0_off10 (k0_t10 : Fin k0_t10_loop.trips) : Fin 2 → Nat :=
  let c4608_i32_195 : BitVec 32 := 4608#32
  let c0_i32_139 : BitVec 32 := 0#32
  let c1_i32_141 : BitVec 32 := 1#32
  let arg17 : BitVec 32 := Scf.iv c0_i32_139 c1_i32_141 k0_t10
  let c16_i32 : BitVec 32 := 16#32
  let v193 : BitVec 32 := Scalar.muli arg17 c16_i32
  let v194 : BitVec 32 := Scalar.addi c4608_i32_195 v193
  let v195 : Index := Scalar.indexCast v194
  let c0_196 : Index := 0#32
  ![v195.toNat, 0]
@[reducible] def k0_t11_loop : Scf.Loop 32 :=
  let c0_i32_148 : BitVec 32 := 0#32
  let c32_i32_149 : BitVec 32 := 32#32
  let v132 : BitVec 32 := Scalar.addi c0_i32_148 c32_i32_149
  let c1_i32_150 : BitVec 32 := 1#32
  ⟨c0_i32_148, v132, c1_i32_150⟩
def k0_off11 (k0_t11 : Fin k0_t11_loop.trips) : Fin 2 → Nat :=
  let c5120_i32_195 : BitVec 32 := 5120#32
  let c0_i32_148 : BitVec 32 := 0#32
  let c1_i32_150 : BitVec 32 := 1#32
  let arg17 : BitVec 32 := Scf.iv c0_i32_148 c1_i32_150 k0_t11
  let c16_i32 : BitVec 32 := 16#32
  let v193 : BitVec 32 := Scalar.muli arg17 c16_i32
  let v194 : BitVec 32 := Scalar.addi c5120_i32_195 v193
  let v195 : Index := Scalar.indexCast v194
  let c0_196 : Index := 0#32
  ![v195.toNat, 0]
@[reducible] def k0_t12_loop : Scf.Loop 32 :=
  let c0_i32_157 : BitVec 32 := 0#32
  let c32_i32_158 : BitVec 32 := 32#32
  let v138 : BitVec 32 := Scalar.addi c0_i32_157 c32_i32_158
  let c1_i32_159 : BitVec 32 := 1#32
  ⟨c0_i32_157, v138, c1_i32_159⟩
def k0_off12 (k0_t12 : Fin k0_t12_loop.trips) : Fin 2 → Nat :=
  let c5632_i32_195 : BitVec 32 := 5632#32
  let c0_i32_157 : BitVec 32 := 0#32
  let c1_i32_159 : BitVec 32 := 1#32
  let arg17 : BitVec 32 := Scf.iv c0_i32_157 c1_i32_159 k0_t12
  let c16_i32 : BitVec 32 := 16#32
  let v193 : BitVec 32 := Scalar.muli arg17 c16_i32
  let v194 : BitVec 32 := Scalar.addi c5632_i32_195 v193
  let v195 : Index := Scalar.indexCast v194
  let c0_196 : Index := 0#32
  ![v195.toNat, 0]
@[reducible] def k0_t13_loop : Scf.Loop 32 :=
  let c0_i32_166 : BitVec 32 := 0#32
  let c32_i32_167 : BitVec 32 := 32#32
  let v144 : BitVec 32 := Scalar.addi c0_i32_166 c32_i32_167
  let c1_i32_168 : BitVec 32 := 1#32
  ⟨c0_i32_166, v144, c1_i32_168⟩
def k0_off13 (k0_t13 : Fin k0_t13_loop.trips) : Fin 2 → Nat :=
  let c6144_i32_195 : BitVec 32 := 6144#32
  let c0_i32_166 : BitVec 32 := 0#32
  let c1_i32_168 : BitVec 32 := 1#32
  let arg17 : BitVec 32 := Scf.iv c0_i32_166 c1_i32_168 k0_t13
  let c16_i32 : BitVec 32 := 16#32
  let v193 : BitVec 32 := Scalar.muli arg17 c16_i32
  let v194 : BitVec 32 := Scalar.addi c6144_i32_195 v193
  let v195 : Index := Scalar.indexCast v194
  let c0_196 : Index := 0#32
  ![v195.toNat, 0]
@[reducible] def k0_t14_loop : Scf.Loop 32 :=
  let c0_i32_175 : BitVec 32 := 0#32
  let c32_i32_176 : BitVec 32 := 32#32
  let v150 : BitVec 32 := Scalar.addi c0_i32_175 c32_i32_176
  let c1_i32_177 : BitVec 32 := 1#32
  ⟨c0_i32_175, v150, c1_i32_177⟩
def k0_off14 (k0_t14 : Fin k0_t14_loop.trips) : Fin 2 → Nat :=
  let c6656_i32_195 : BitVec 32 := 6656#32
  let c0_i32_175 : BitVec 32 := 0#32
  let c1_i32_177 : BitVec 32 := 1#32
  let arg17 : BitVec 32 := Scf.iv c0_i32_175 c1_i32_177 k0_t14
  let c16_i32 : BitVec 32 := 16#32
  let v193 : BitVec 32 := Scalar.muli arg17 c16_i32
  let v194 : BitVec 32 := Scalar.addi c6656_i32_195 v193
  let v195 : Index := Scalar.indexCast v194
  let c0_196 : Index := 0#32
  ![v195.toNat, 0]
@[reducible] def k0_t15_loop : Scf.Loop 32 :=
  let c0_i32_4 : BitVec 32 := 0#32
  let c8_i32 : BitVec 32 := 8#32
  let v6 : BitVec 32 := Scalar.addi c0_i32_4 c8_i32
  let c1_i32 : BitVec 32 := 1#32
  ⟨c0_i32_4, v6, c1_i32⟩
def k0_mult1 (k0_t15 : Fin k0_t15_loop.trips) : BitVec 32 :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  v7
def k0_mult2 (i : grid0.Coords) (k0_t15 : Fin k0_t15_loop.trips) : BitVec 32 :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  v11
def k0_off15 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v13 : Index := Scalar.indexCast v8
  let c0_7 : Index := 0#32
  ![v13.toNat, 0]
def k0_off16 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v17 : Index := Scalar.indexCast v12
  let c0_9 : Index := 0#32
  ![v17.toNat, 0]
def k0_off17 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v22 : Index := Scalar.indexCast v8
  let c0_10 : Index := 0#32
  ![v22.toNat, 0]
def k0_off18 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v81 : Index := Scalar.indexCast v8
  let c0_27 : Index := 0#32
  ![v81.toNat, 0]
def k0_off19 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v104 : Index := Scalar.indexCast v12
  let c128 : Index := 128#32
  ![v104.toNat, 128]
def k0_off20 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v109 : Index := Scalar.indexCast v8
  let c128_36 : Index := 128#32
  ![v109.toNat, 128]
def k0_off21 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v168 : Index := Scalar.indexCast v8
  let c1_54 : Index := 1#32
  ![v168.toNat, 1]
def k0_off22 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v191 : Index := Scalar.indexCast v12
  let c256 : Index := 256#32
  ![v191.toNat, 256]
def k0_off23 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v196 : Index := Scalar.indexCast v8
  let c256_63 : Index := 256#32
  ![v196.toNat, 256]
def k0_off24 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v255 : Index := Scalar.indexCast v8
  let c2_81 : Index := 2#32
  ![v255.toNat, 2]
def k0_off25 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v278 : Index := Scalar.indexCast v12
  let c384 : Index := 384#32
  ![v278.toNat, 384]
def k0_off26 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v283 : Index := Scalar.indexCast v8
  let c384_90 : Index := 384#32
  ![v283.toNat, 384]
def k0_off27 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v342 : Index := Scalar.indexCast v8
  let c3 : Index := 3#32
  ![v342.toNat, 3]
def k0_off28 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v365 : Index := Scalar.indexCast v12
  let c512 : Index := 512#32
  ![v365.toNat, 512]
def k0_off29 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v370 : Index := Scalar.indexCast v8
  let c512_116 : Index := 512#32
  ![v370.toNat, 512]
def k0_off30 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v429 : Index := Scalar.indexCast v8
  let c4 : Index := 4#32
  ![v429.toNat, 4]
def k0_off31 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v452 : Index := Scalar.indexCast v12
  let c640 : Index := 640#32
  ![v452.toNat, 640]
def k0_off32 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v457 : Index := Scalar.indexCast v8
  let c640_142 : Index := 640#32
  ![v457.toNat, 640]
def k0_off33 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v516 : Index := Scalar.indexCast v8
  let c5 : Index := 5#32
  ![v516.toNat, 5]
def k0_off34 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v539 : Index := Scalar.indexCast v12
  let c768 : Index := 768#32
  ![v539.toNat, 768]
def k0_off35 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v544 : Index := Scalar.indexCast v8
  let c768_168 : Index := 768#32
  ![v544.toNat, 768]
def k0_off36 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v603 : Index := Scalar.indexCast v8
  let c6 : Index := 6#32
  ![v603.toNat, 6]
def k0_off37 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v626 : Index := Scalar.indexCast v12
  let c896 : Index := 896#32
  ![v626.toNat, 896]
def k0_off38 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v631 : Index := Scalar.indexCast v8
  let c896_194 : Index := 896#32
  ![v631.toNat, 896]
def k0_off39 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v690 : Index := Scalar.indexCast v8
  let c7 : Index := 7#32
  ![v690.toNat, 7]
def k0_off40 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v713 : Index := Scalar.indexCast v12
  let c1024 : Index := 1024#32
  ![v713.toNat, 1024]
def k0_off41 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v718 : Index := Scalar.indexCast v8
  let c1024_220 : Index := 1024#32
  ![v718.toNat, 1024]
def k0_off42 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v777 : Index := Scalar.indexCast v8
  let c8 : Index := 8#32
  ![v777.toNat, 8]
def k0_off43 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v800 : Index := Scalar.indexCast v12
  let c1152 : Index := 1152#32
  ![v800.toNat, 1152]
def k0_off44 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v805 : Index := Scalar.indexCast v8
  let c1152_246 : Index := 1152#32
  ![v805.toNat, 1152]
def k0_off45 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v864 : Index := Scalar.indexCast v8
  let c9 : Index := 9#32
  ![v864.toNat, 9]
def k0_off46 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v887 : Index := Scalar.indexCast v12
  let c1280 : Index := 1280#32
  ![v887.toNat, 1280]
def k0_off47 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v892 : Index := Scalar.indexCast v8
  let c1280_272 : Index := 1280#32
  ![v892.toNat, 1280]
def k0_off48 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v951 : Index := Scalar.indexCast v8
  let c10 : Index := 10#32
  ![v951.toNat, 10]
def k0_off49 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v974 : Index := Scalar.indexCast v12
  let c1408 : Index := 1408#32
  ![v974.toNat, 1408]
def k0_off50 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v979 : Index := Scalar.indexCast v8
  let c1408_298 : Index := 1408#32
  ![v979.toNat, 1408]
def k0_off51 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1038 : Index := Scalar.indexCast v8
  let c11 : Index := 11#32
  ![v1038.toNat, 11]
def k0_off52 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v1061 : Index := Scalar.indexCast v12
  let c1536 : Index := 1536#32
  ![v1061.toNat, 1536]
def k0_off53 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1066 : Index := Scalar.indexCast v8
  let c1536_324 : Index := 1536#32
  ![v1066.toNat, 1536]
def k0_off54 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1125 : Index := Scalar.indexCast v8
  let c12 : Index := 12#32
  ![v1125.toNat, 12]
def k0_off55 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v1148 : Index := Scalar.indexCast v12
  let c1664 : Index := 1664#32
  ![v1148.toNat, 1664]
def k0_off56 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1153 : Index := Scalar.indexCast v8
  let c1664_350 : Index := 1664#32
  ![v1153.toNat, 1664]
def k0_off57 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1212 : Index := Scalar.indexCast v8
  let c13 : Index := 13#32
  ![v1212.toNat, 13]
def k0_off58 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v1235 : Index := Scalar.indexCast v12
  let c1792 : Index := 1792#32
  ![v1235.toNat, 1792]
def k0_off59 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1240 : Index := Scalar.indexCast v8
  let c1792_376 : Index := 1792#32
  ![v1240.toNat, 1792]
def k0_off60 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1299 : Index := Scalar.indexCast v8
  let c14 : Index := 14#32
  ![v1299.toNat, 14]
def k0_off61 (i : grid0.Coords) (k0_t15 : Fin k0_t15_loop.trips) : Fin 2 → Nat :=
  let arg0 : BitVec 32 := BitVec.ofNat 32 (i 0).val
  let c256_i32 : BitVec 32 := 256#32
  let v9 : BitVec 32 := Scalar.muli arg0 c256_i32
  let c0_i32_4 : BitVec 32 := 0#32
  let c1_i32 : BitVec 32 := 1#32
  let arg17 : BitVec 32 := Scf.iv c0_i32_4 c1_i32 k0_t15
  let c32_i32_6 : BitVec 32 := 32#32
  let v10 : BitVec 32 := Scalar.muli arg17 c32_i32_6
  let v11 : BitVec 32 := Scalar.addi v9 v10
  let v12 : BitVec 32 := v11
  let v1322 : Index := Scalar.indexCast v12
  let c1920 : Index := 1920#32
  ![v1322.toNat, 1920]
def k0_off62 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1327 : Index := Scalar.indexCast v8
  let c1920_402 : Index := 1920#32
  ![v1327.toNat, 1920]
def k0_off63 (k0_t15 : Fin k0_t15_loop.trips) : Fin 2 → Nat :=
  let c0_i32_4 : BitVec 32 := 0#32
  let c1_i32 : BitVec 32 := 1#32
  let arg17 : BitVec 32 := Scf.iv c0_i32_4 c1_i32 k0_t15
  let c32_i32 : BitVec 32 := 32#32
  let v7 : BitVec 32 := Scalar.muli arg17 c32_i32
  let v8 : BitVec 32 := v7
  let v1386 : Index := Scalar.indexCast v8
  let c15 : Index := 15#32
  ![v1386.toNat, 15]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S7168x2048 : Shape := ⟨2, ![7168, 2048]⟩
abbrev S7168x16 : Shape := ⟨2, ![7168, 16]⟩
abbrev S_ : Shape := ⟨0, ![]⟩
abbrev S7168x16x1 : Shape := ⟨3, ![7168, 16, 1]⟩
abbrev S7168x16x128 : Shape := ⟨3, ![7168, 16, 128]⟩
abbrev S7168x128 : Shape := ⟨2, ![7168, 128]⟩
abbrev S7168 : Shape := ⟨1, ![7168]⟩
abbrev S7168x1 : Shape := ⟨2, ![7168, 1]⟩

abbrev nBuf : Space → Nat
  | .hbm => 287
  | .vmem => 0
  | .smem => 0
  | _ => 0

abbrev hbmTy0_0 (i : Nat) : BufTy := match i % 128 with
  | 0 => ⟨S7168x2048, .f32⟩
  | 1 => ⟨S7168x2048, .bf16⟩
  | 2 => ⟨S7168x2048, .i8⟩
  | 3 => ⟨S7168x16, .f32⟩
  | 4 => ⟨S7168x2048, .i8⟩
  | 5 => ⟨S7168x16, .f32⟩
  | 6 => ⟨S_, .i32⟩
  | 7 => ⟨S_, .f32⟩
  | 8 => ⟨S7168x2048, .f32⟩
  | 9 => ⟨S7168x2048, .f32⟩
  | 10 => ⟨S7168x2048, .f32⟩
  | 11 => ⟨S7168x2048, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S7168x2048, .f32⟩
  | 20 => ⟨S7168x2048, .f32⟩
  | 21 => ⟨S7168x2048, .i32⟩
  | 22 => ⟨S7168x2048, .f32⟩
  | 23 => ⟨S7168x16x1, .f32⟩
  | 24 => ⟨S7168x16x128, .f32⟩
  | 25 => ⟨S7168x2048, .f32⟩
  | 26 => ⟨S7168x2048, .f32⟩
  | 27 => ⟨S7168x2048, .i32⟩
  | 28 => ⟨S7168x2048, .f32⟩
  | 29 => ⟨S7168x16x1, .f32⟩
  | 30 => ⟨S7168x16x128, .f32⟩
  | 31 => ⟨S7168x2048, .f32⟩
  | 32 => ⟨S7168x2048, .f32⟩
  | 33 => ⟨S_, .f32⟩
  | 34 => ⟨S7168x2048, .f32⟩
  | 35 => ⟨S7168x2048, .f32⟩
  | 36 => ⟨S_, .f32⟩
  | 37 => ⟨S7168x2048, .f32⟩
  | 38 => ⟨S7168x2048, .f32⟩
  | 39 => ⟨S7168x2048, .f32⟩
  | 40 => ⟨S_, .f32⟩
  | 41 => ⟨S7168x2048, .f32⟩
  | 42 => ⟨S7168x2048, .f32⟩
  | 43 => ⟨S7168x2048, .f32⟩
  | 44 => ⟨S_, .f32⟩
  | 45 => ⟨S7168x2048, .f32⟩
  | 46 => ⟨S7168x2048, .f32⟩
  | 47 => ⟨S7168x2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S7168x2048, .f32⟩
  | 58 => ⟨S7168x2048, .f32⟩
  | 59 => ⟨S7168x2048, .f32⟩
  | 60 => ⟨S7168x2048, .f32⟩
  | 61 => ⟨S7168x2048, .f32⟩
  | 62 => ⟨S_, .f32⟩
  | 63 => ⟨S7168x2048, .f32⟩
  | 64 => ⟨S7168x2048, .f32⟩
  | 65 => ⟨S7168x2048, .f32⟩
  | 66 => ⟨S_, .f32⟩
  | 67 => ⟨S7168x2048, .f32⟩
  | 68 => ⟨S7168x2048, .f32⟩
  | 69 => ⟨S7168x2048, .f32⟩
  | 70 => ⟨S_, .f32⟩
  | 71 => ⟨S7168x2048, .f32⟩
  | 72 => ⟨S7168x2048, .f32⟩
  | 73 => ⟨S7168x128, .f32⟩
  | 74 => ⟨S7168x128, .f32⟩
  | 75 => ⟨S_, .f32⟩
  | 76 => ⟨S7168, .f32⟩
  | 77 => ⟨S7168x1, .f32⟩
  | 78 => ⟨S7168x128, .f32⟩
  | 79 => ⟨S7168x128, .f32⟩
  | 80 => ⟨S_, .f32⟩
  | 81 => ⟨S7168, .f32⟩
  | 82 => ⟨S7168x1, .f32⟩
  | 83 => ⟨S7168x128, .f32⟩
  | 84 => ⟨S7168x128, .f32⟩
  | 85 => ⟨S_, .f32⟩
  | 86 => ⟨S7168, .f32⟩
  | 87 => ⟨S7168x1, .f32⟩
  | 88 => ⟨S7168x128, .f32⟩
  | 89 => ⟨S7168x128, .f32⟩
  | 90 => ⟨S_, .f32⟩
  | 91 => ⟨S7168, .f32⟩
  | 92 => ⟨S7168x1, .f32⟩
  | 93 => ⟨S7168x128, .f32⟩
  | 94 => ⟨S7168x128, .f32⟩
  | 95 => ⟨S_, .f32⟩
  | 96 => ⟨S7168, .f32⟩
  | 97 => ⟨S7168x1, .f32⟩
  | 98 => ⟨S7168x128, .f32⟩
  | 99 => ⟨S7168x128, .f32⟩
  | 100 => ⟨S_, .f32⟩
  | 101 => ⟨S7168, .f32⟩
  | 102 => ⟨S7168x1, .f32⟩
  | 103 => ⟨S7168x128, .f32⟩
  | 104 => ⟨S7168x128, .f32⟩
  | 105 => ⟨S_, .f32⟩
  | 106 => ⟨S7168, .f32⟩
  | 107 => ⟨S7168x1, .f32⟩
  | 108 => ⟨S7168x128, .f32⟩
  | 109 => ⟨S7168x128, .f32⟩
  | 110 => ⟨S_, .f32⟩
  | 111 => ⟨S7168, .f32⟩
  | 112 => ⟨S7168x1, .f32⟩
  | 113 => ⟨S7168x128, .f32⟩
  | 114 => ⟨S7168x128, .f32⟩
  | 115 => ⟨S_, .f32⟩
  | 116 => ⟨S7168, .f32⟩
  | 117 => ⟨S7168x1, .f32⟩
  | 118 => ⟨S7168x128, .f32⟩
  | 119 => ⟨S7168x128, .f32⟩
  | 120 => ⟨S_, .f32⟩
  | 121 => ⟨S7168, .f32⟩
  | 122 => ⟨S7168x1, .f32⟩
  | 123 => ⟨S7168x128, .f32⟩
  | 124 => ⟨S7168x128, .f32⟩
  | 125 => ⟨S_, .f32⟩
  | 126 => ⟨S7168, .f32⟩
  | 127 => ⟨S7168x1, .f32⟩
  | _ => ⟨S7168x2048, .f32⟩

abbrev hbmTy0_1 (i : Nat) : BufTy := match i % 128 with
  | 0 => ⟨S7168x128, .f32⟩
  | 1 => ⟨S7168x128, .f32⟩
  | 2 => ⟨S_, .f32⟩
  | 3 => ⟨S7168, .f32⟩
  | 4 => ⟨S7168x1, .f32⟩
  | 5 => ⟨S7168x128, .f32⟩
  | 6 => ⟨S7168x128, .f32⟩
  | 7 => ⟨S_, .f32⟩
  | 8 => ⟨S7168, .f32⟩
  | 9 => ⟨S7168x1, .f32⟩
  | 10 => ⟨S7168x128, .f32⟩
  | 11 => ⟨S7168x128, .f32⟩
  | 12 => ⟨S_, .f32⟩
  | 13 => ⟨S7168, .f32⟩
  | 14 => ⟨S7168x1, .f32⟩
  | 15 => ⟨S7168x128, .f32⟩
  | 16 => ⟨S7168x128, .f32⟩
  | 17 => ⟨S_, .f32⟩
  | 18 => ⟨S7168, .f32⟩
  | 19 => ⟨S7168x1, .f32⟩
  | 20 => ⟨S7168x128, .f32⟩
  | 21 => ⟨S7168x128, .f32⟩
  | 22 => ⟨S_, .f32⟩
  | 23 => ⟨S7168, .f32⟩
  | 24 => ⟨S7168x1, .f32⟩
  | 25 => ⟨S7168x16, .f32⟩
  | 26 => ⟨S_, .f32⟩
  | 27 => ⟨S7168x16, .f32⟩
  | 28 => ⟨S7168x16, .i1⟩
  | 29 => ⟨S_, .f32⟩
  | 30 => ⟨S7168x16, .f32⟩
  | 31 => ⟨S7168x16, .f32⟩
  | 32 => ⟨S_, .f32⟩
  | 33 => ⟨S7168x16, .f32⟩
  | 34 => ⟨S7168x16, .f32⟩
  | 35 => ⟨S7168x16x1, .f32⟩
  | 36 => ⟨S7168x16x128, .f32⟩
  | 37 => ⟨S7168x2048, .f32⟩
  | 38 => ⟨S7168x2048, .f32⟩
  | 39 => ⟨S7168x2048, .f32⟩
  | 40 => ⟨S_, .f32⟩
  | 41 => ⟨S_, .f32⟩
  | 42 => ⟨S_, .f32⟩
  | 43 => ⟨S7168x2048, .f32⟩
  | 44 => ⟨S7168x2048, .f32⟩
  | 45 => ⟨S_, .f32⟩
  | 46 => ⟨S7168x2048, .f32⟩
  | 47 => ⟨S7168x2048, .f32⟩
  | 48 => ⟨S7168x2048, .i32⟩
  | 49 => ⟨S7168x2048, .i8⟩
  | 50 => ⟨S7168x2048, .i8⟩
  | 51 => ⟨S7168x16, .f32⟩
  | 52 => ⟨S7168x128, .f32⟩
  | 53 => ⟨S7168x128, .f32⟩
  | 54 => ⟨S_, .f32⟩
  | 55 => ⟨S7168, .f32⟩
  | 56 => ⟨S7168x1, .f32⟩
  | 57 => ⟨S7168x128, .f32⟩
  | 58 => ⟨S7168x128, .f32⟩
  | 59 => ⟨S_, .f32⟩
  | 60 => ⟨S7168, .f32⟩
  | 61 => ⟨S7168x1, .f32⟩
  | 62 => ⟨S7168x128, .f32⟩
  | 63 => ⟨S7168x128, .f32⟩
  | 64 => ⟨S_, .f32⟩
  | 65 => ⟨S7168, .f32⟩
  | 66 => ⟨S7168x1, .f32⟩
  | 67 => ⟨S7168x128, .f32⟩
  | 68 => ⟨S7168x128, .f32⟩
  | 69 => ⟨S_, .f32⟩
  | 70 => ⟨S7168, .f32⟩
  | 71 => ⟨S7168x1, .f32⟩
  | 72 => ⟨S7168x128, .f32⟩
  | 73 => ⟨S7168x128, .f32⟩
  | 74 => ⟨S_, .f32⟩
  | 75 => ⟨S7168, .f32⟩
  | 76 => ⟨S7168x1, .f32⟩
  | 77 => ⟨S7168x128, .f32⟩
  | 78 => ⟨S7168x128, .f32⟩
  | 79 => ⟨S_, .f32⟩
  | 80 => ⟨S7168, .f32⟩
  | 81 => ⟨S7168x1, .f32⟩
  | 82 => ⟨S7168x128, .f32⟩
  | 83 => ⟨S7168x128, .f32⟩
  | 84 => ⟨S_, .f32⟩
  | 85 => ⟨S7168, .f32⟩
  | 86 => ⟨S7168x1, .f32⟩
  | 87 => ⟨S7168x128, .f32⟩
  | 88 => ⟨S7168x128, .f32⟩
  | 89 => ⟨S_, .f32⟩
  | 90 => ⟨S7168, .f32⟩
  | 91 => ⟨S7168x1, .f32⟩
  | 92 => ⟨S7168x128, .f32⟩
  | 93 => ⟨S7168x128, .f32⟩
  | 94 => ⟨S_, .f32⟩
  | 95 => ⟨S7168, .f32⟩
  | 96 => ⟨S7168x1, .f32⟩
  | 97 => ⟨S7168x128, .f32⟩
  | 98 => ⟨S7168x128, .f32⟩
  | 99 => ⟨S_, .f32⟩
  | 100 => ⟨S7168, .f32⟩
  | 101 => ⟨S7168x1, .f32⟩
  | 102 => ⟨S7168x128, .f32⟩
  | 103 => ⟨S7168x128, .f32⟩
  | 104 => ⟨S_, .f32⟩
  | 105 => ⟨S7168, .f32⟩
  | 106 => ⟨S7168x1, .f32⟩
  | 107 => ⟨S7168x128, .f32⟩
  | 108 => ⟨S7168x128, .f32⟩
  | 109 => ⟨S_, .f32⟩
  | 110 => ⟨S7168, .f32⟩
  | 111 => ⟨S7168x1, .f32⟩
  | 112 => ⟨S7168x128, .f32⟩
  | 113 => ⟨S7168x128, .f32⟩
  | 114 => ⟨S_, .f32⟩
  | 115 => ⟨S7168, .f32⟩
  | 116 => ⟨S7168x1, .f32⟩
  | 117 => ⟨S7168x128, .f32⟩
  | 118 => ⟨S7168x128, .f32⟩
  | 119 => ⟨S_, .f32⟩
  | 120 => ⟨S7168, .f32⟩
  | 121 => ⟨S7168x1, .f32⟩
  | 122 => ⟨S7168x128, .f32⟩
  | 123 => ⟨S7168x128, .f32⟩
  | 124 => ⟨S_, .f32⟩
  | 125 => ⟨S7168, .f32⟩
  | 126 => ⟨S7168x1, .f32⟩
  | 127 => ⟨S7168x128, .f32⟩
  | _ => ⟨S7168x2048, .f32⟩

abbrev hbmTy0_2 (i : Nat) : BufTy := match i % 128 with
  | 0 => ⟨S7168x128, .f32⟩
  | 1 => ⟨S_, .f32⟩
  | 2 => ⟨S7168, .f32⟩
  | 3 => ⟨S7168x1, .f32⟩
  | 4 => ⟨S7168x16, .f32⟩
  | 5 => ⟨S_, .f32⟩
  | 6 => ⟨S7168x16, .f32⟩
  | 7 => ⟨S7168x16, .i1⟩
  | 8 => ⟨S_, .f32⟩
  | 9 => ⟨S7168x16, .f32⟩
  | 10 => ⟨S7168x16, .f32⟩
  | 11 => ⟨S_, .f32⟩
  | 12 => ⟨S7168x16, .f32⟩
  | 13 => ⟨S7168x16, .f32⟩
  | 14 => ⟨S7168x16x1, .f32⟩
  | 15 => ⟨S7168x16x128, .f32⟩
  | 16 => ⟨S7168x2048, .f32⟩
  | 17 => ⟨S7168x2048, .f32⟩
  | 18 => ⟨S7168x2048, .f32⟩
  | 19 => ⟨S_, .f32⟩
  | 20 => ⟨S_, .f32⟩
  | 21 => ⟨S_, .f32⟩
  | 22 => ⟨S7168x2048, .f32⟩
  | 23 => ⟨S7168x2048, .f32⟩
  | 24 => ⟨S_, .f32⟩
  | 25 => ⟨S7168x2048, .f32⟩
  | 26 => ⟨S7168x2048, .f32⟩
  | 27 => ⟨S7168x2048, .i32⟩
  | 28 => ⟨S7168x2048, .i8⟩
  | 29 => ⟨S7168x2048, .i8⟩
  | 30 => ⟨S7168x16, .f32⟩
  | _ => ⟨S7168x2048, .f32⟩

abbrev hbmTy (i : Nat) : BufTy := match i / 128 with
  | 0 => hbmTy0_0 i
  | 1 => hbmTy0_1 i
  | 2 => hbmTy0_2 i
  | _ => ⟨S7168x2048, .f32⟩

abbrev bufTy : (tb : Table) → Fin (tcTables nBuf tb) → BufTy
  | .hbm, ⟨i, _⟩ => hbmTy i
  | _, _ => ⟨S7168x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_22 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_23 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_25 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_26 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_27 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_28 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_29 : Ref sig .tc := ⟨.hbm, 154, rfl⟩
abbrev main_v116 : Ref sig .tc := ⟨.hbm, 155, rfl⟩
abbrev main_v117 : Ref sig .tc := ⟨.hbm, 156, rfl⟩
abbrev main_cst_30 : Ref sig .tc := ⟨.hbm, 157, rfl⟩
abbrev main_v118 : Ref sig .tc := ⟨.hbm, 158, rfl⟩
abbrev main_v119 : Ref sig .tc := ⟨.hbm, 159, rfl⟩
abbrev main_cst_31 : Ref sig .tc := ⟨.hbm, 160, rfl⟩
abbrev main_call0_v0 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_32 : Ref sig .tc := ⟨.hbm, 168, rfl⟩
abbrev main_cst_33 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129_0 : Ref sig .tc := ⟨.hbm, 178, rfl⟩
abbrev main_v129_1 : Ref sig .tc := ⟨.hbm, 179, rfl⟩
abbrev main_v130 : Ref sig .tc := ⟨.hbm, 180, rfl⟩
abbrev main_v131 : Ref sig .tc := ⟨.hbm, 181, rfl⟩
abbrev main_cst_34 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_35 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_36 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_37 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_38 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_39 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_40 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_41 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_42 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_cst_43 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_44 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_45 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_46 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_cst_47 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_48 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_cst_49 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_cst_50 : Ref sig .tc := ⟨.hbm, 261, rfl⟩
abbrev main_v195 : Ref sig .tc := ⟨.hbm, 262, rfl⟩
abbrev main_v196 : Ref sig .tc := ⟨.hbm, 263, rfl⟩
abbrev main_cst_51 : Ref sig .tc := ⟨.hbm, 264, rfl⟩
abbrev main_v197 : Ref sig .tc := ⟨.hbm, 265, rfl⟩
abbrev main_v198 : Ref sig .tc := ⟨.hbm, 266, rfl⟩
abbrev main_cst_52 : Ref sig .tc := ⟨.hbm, 267, rfl⟩
abbrev main_call3_v0 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_cst_53 : Ref sig .tc := ⟨.hbm, 275, rfl⟩
abbrev main_cst_54 : Ref sig .tc := ⟨.hbm, 276, rfl⟩
abbrev main_call5_v0 : Ref sig .tc := ⟨.hbm, 277, rfl⟩
abbrev main_call5_v1 : Ref sig .tc := ⟨.hbm, 278, rfl⟩
abbrev main_call5_v2 : Ref sig .tc := ⟨.hbm, 279, rfl⟩
abbrev main_call5_v3 : Ref sig .tc := ⟨.hbm, 280, rfl⟩
abbrev main_call5_v4 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208_0 : Ref sig .tc := ⟨.hbm, 285, rfl⟩
abbrev main_v208_1 : Ref sig .tc := ⟨.hbm, 286, rfl⟩

abbrev nD : Nat := 1
abbrev τ : Topo := Topo.v7x

variable {F : FTy → Type} [FloatOps F]
-- ==== Proof.Chunks.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- The 16 rows of a chunk's `k`-th slab lie among the chunk's 512 rows. -/
theorem slab_sub {off off' : Fin 2 → ℕ} {inb : ∀ a, off a + S16x2048.size a ≤ S7168x2048.size a}
    {inb' : ∀ a, off' a + S512x2048.size a ≤ S7168x2048.size a} (k b : ℕ) (hk : k < 32)
    (h : off = ![16 * k + b, 0]) (h' : off' = ![b, 0]) :
    (Rect.unit (s := S7168x2048) off S16x2048.size inb).set ⊆ (Rect.unit (s := S7168x2048) off' S512x2048.size inb').set := by
  intro x hx
  rw [Rect.mem_set_unit] at hx ⊢
  subst h h'
  have h0 := hx 0
  have h1 := hx 1
  intro a
  fin_cases a <;> simp at h0 h1 ⊢ <;> omega

/-- The 16 rows of the gradient scratch that a trip's load through `r` reads are those of the chunk `R` when `r` lies in it. -/
theorem slabTrip (𝒱 : Variants) (c : Dev nD) (bd : Option 𝒱.V) (E : Set ℕ) (arg14 : Memref sig .tc .vmem S7168x2048 .bf16)
    (R : Rect S7168x2048) (X : BufTy.Contents (Elt F) arg14.view.ty) (off : Fin 2 → ℕ)
    (inb : ∀ a, off a + S16x2048.size a ≤ S7168x2048.size a)
    (hsub : (Rect.unit (s := S7168x2048) off S16x2048.size inb).set ⊆ R.set)
    (upd : FVec F S8x128 .f32 → Vec F S16x2048 .bf16 → FVec F S8x128 .f32) (acc : FVec F S8x128 .f32) (Q : FVec F S8x128 .f32 → sProp 𝕄)
    (hQ : (iprop(arg14.view.loc (c : Thread nD τ) ↦[arg14.view.setOn R.set]{fullShare} X) : sProp 𝕄)
      ⊢ Q (upd acc (arg14.view.readAt (Elt F) (Rect.unit (s := S7168x2048) off S16x2048.size inb).toLoadRect X))) :
    (iprop(arg14.view.loc (c : Thread nD τ) ↦[arg14.view.setOn R.set]{fullShare} X) : sProp 𝕄)
      ⊢ wp frame (wpE (defs₀ (F := F)) 𝒱 (c : Thread nD τ) bd) E
          (do let v ← Prog.lift (.load arg14 (Rect.unit (s := S7168x2048) off S16x2048.size inb).toLoadRect (View.loadsAt_vmem h_S16x2048))
              pure (upd acc v) : Prog (TpuEff nD τ sig (Elt F) Λ₀ .tc) (FVec F S8x128 .f32)) Q := by
  have h1 : (iprop(arg14.view.loc (c : Thread nD τ) ↦[arg14.view.setOn R.set]{fullShare} X) : sProp 𝕄)
      ⊢ wp frame (wpE (defs₀ (F := F)) 𝒱 (c : Thread nD τ) bd) E
          (pure (upd acc (arg14.view.readAt (Elt F) (Rect.unit (s := S7168x2048) off S16x2048.size inb).toLoadRect X)) : Prog (TpuEff nD τ sig (Elt F) Λ₀ .tc) (FVec F S8x128 .f32)) Q := by
    iintro H
    sl_step
    iapply hQ $$ H
  iintro H
  iapply (wp_load (defs := defs₀ (F := F)) 𝒱 (c : Thread nD τ) bd E (m := arg14) (S := arg14.view.setOn R.set) (f := X) (hl := View.loadsAt_vmem h_S16x2048)
    (r := (Rect.unit (s := S7168x2048) off S16x2048.size inb).toLoadRect) (k := fun v => (pure (upd acc v))) (Finset.map_subset_map.2 hsub)) $$ H
  iintro H
  iapply h1 $$ H

/-- The accumulator before trip `k`: `step` at each trip in turn. -/
def accAt {n : ℕ} {α : Type} (step : Fin n → α → α) (init : α) : ℕ → α
  | 0 => init
  | k + 1 => if h : k < n then step ⟨k, h⟩ (accAt step init k) else accAt step init k

theorem accAt_succ {n : ℕ} {α : Type} (step : Fin n → α → α) (init : α) (k : Fin n) :
    accAt step init (k.val + 1) = step k (accAt step init k.val) := by
  simp [accAt]

/-- `acc` is the accumulator before trip `k` of the loop that starts from `init`. -/
structure AccIs {n : ℕ} {α : Type} (step : Fin n → α → α) (k : ℕ) (init acc : α) : Prop where
  eq : acc = accAt step init k

@[refl] theorem AccIs.zero {n : ℕ} {α : Type} (step : Fin n → α → α) (init : α) : AccIs step 0 init init := ⟨rfl⟩

theorem AccIs.succ {n : ℕ} {α : Type} {step : Fin n → α → α} {k : Fin n} {init acc : α} (h : AccIs step k.val init acc) :
    AccIs step (k.val + 1) init (step k acc) := ⟨by rw [accAt_succ, ← h.eq]⟩

/-- One trip of a chunk's loop, from the accumulator before it to the accumulator after it. -/
theorem slabStep (𝒱 : Variants) (c : Dev nD) (bd : Option 𝒱.V) (E : Set ℕ) (arg14 : Memref sig .tc .vmem S7168x2048 .bf16)
    (R : Rect S7168x2048) (X : BufTy.Contents (Elt F) arg14.view.ty) {n : ℕ} (off : Fin n → Fin 2 → ℕ)
    (inb : ∀ k a, off k a + S16x2048.size a ≤ S7168x2048.size a)
    (upd : FVec F S8x128 .f32 → Vec F S16x2048 .bf16 → FVec F S8x128 .f32) (init acc : FVec F S8x128 .f32) (k : Fin n)
    (hsub : (Rect.unit (s := S7168x2048) (off k) S16x2048.size (inb k)).set ⊆ R.set) :
    (iprop((arg14.view.loc (c : Thread nD τ) ↦[arg14.view.setOn R.set]{fullShare} X)
        ∗ ⌜AccIs (fun j a => upd a (arg14.view.readAt (Elt F) (Rect.unit (s := S7168x2048) (off j) S16x2048.size (inb j)).toLoadRect X)) k.val init acc⌝) : sProp 𝕄)
      ⊢ wp frame (wpE (defs₀ (F := F)) 𝒱 (c : Thread nD τ) bd) E
          (do let v ← Prog.lift (.load arg14 (Rect.unit (s := S7168x2048) (off k) S16x2048.size (inb k)).toLoadRect (View.loadsAt_vmem h_S16x2048))
              pure (upd acc v) : Prog (TpuEff nD τ sig (Elt F) Λ₀ .tc) (FVec F S8x128 .f32))
          (fun y => iprop((arg14.view.loc (c : Thread nD τ) ↦[arg14.view.setOn R.set]{fullShare} X)
            ∗ ⌜AccIs (fun j a => upd a (arg14.view.readAt (Elt F) (Rect.unit (s := S7168x2048) (off j) S16x2048.size (inb j)).toLoadRect X)) (k.val + 1) init y⌝)) := by
  iintro ⟨H, %hacc⟩
  iapply (slabTrip 𝒱 c bd E arg14 R X (off k) (inb k) hsub upd acc _ ?_) $$ H
  iintro H
  isplitl [H]
  · iexact H
  ipureintro
  exact hacc.succ

variable (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14)

/-- The invariant of the sum over chunk 1: the chunk's rows stay, the accumulator is the one before the trip. -/
@[sl_loop] def sumInv1 (𝒱 : Variants) (c : Dev nD) (bd : Option 𝒱.V) (E : Set ℕ) (i : grid0.Coords) (k0_h1 : k0_cond1 i = 1#1)
    (v64 : Elt F .f32) (init : FVec F S8x128 .f32) (X : BufTy.Contents (Elt F) arg14.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v64 init where
  inv k acc := iprop((arg14.view.loc (c : Thread nD τ) ↦[arg14.view.setOn (Rect.unit (s := S7168x2048) ![0, 0] S512x2048.size inb_S7168x2048_S512x2048_0_0).set]{fullShare} X)
    ∗ ⌜AccIs (fun j a => k0_pay7 (k0_pay3 v64) a (arg14.view.readAt (Elt F) (Rect.unit (s := S7168x2048) (k0_off1 j) S16x2048.size (k0_off1_inb i j k0_h1)).toLoadRect X)) k init acc⌝)
  step k acc := slabStep 𝒱 c bd E arg14 _ X k0_off1 (fun j => k0_off1_inb i j k0_h1) (k0_pay7 (k0_pay3 v64)) init acc k
    (slab_sub k.val 0 (Nat.lt_of_lt_of_le k.isLt k0_t1_abs.2.1) (k0_off1_eq k) rfl)

/-- The invariant of the sum over chunk 2: the chunk's rows stay, the accumulator is the one before the trip. -/
@[sl_loop] def sumInv2 (𝒱 : Variants) (c : Dev nD) (bd : Option 𝒱.V) (E : Set ℕ) (i : grid0.Coords) (k0_h1 : k0_cond1 i = 1#1)
    (v64 : Elt F .f32) (init : FVec F S8x128 .f32) (X : BufTy.Contents (Elt F) arg14.view.ty) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v64 init where
  inv k acc := iprop((arg14.view.loc (c : Thread nD τ) ↦[arg14.view.setOn (Rect.unit (s := S7168x2048) ![512, 0] S512x2048.size inb_S7168x2048_S512x2048_512_0).set]{fullShare} X)
    ∗ ⌜AccIs (fun j a => k0_pay7 (k0_pay3 v64) a (arg14.view.readAt (Elt F) (Rect.unit (s := S7168x2048) (k0_off2 j) S16x2048.size (k0_off2_inb i j k0_h1)).toLoadRect X)) k init acc⌝)
  step k acc := slabStep 𝒱 c bd E arg14 _ X k0_off2 (fun j => k0_off2_inb i j k0_h1) (k0_pay7 (k0_pay3 v64)) init acc k
    (slab_sub k.val 512 (Nat.lt_of_lt_of_le k.isLt k0_t2_abs.2.1) (k0_off2_eq k) rfl)

/-- The invariant of the sum over chunk 3: the chunk's rows stay, the accumulator is the one before the trip. -/
@[sl_loop] def sumInv3 (𝒱 : Variants) (c : Dev nD) (bd : Option 𝒱.V) (E : Set ℕ) (i : grid0.Coords) (k0_h1 : k0_cond1 i = 1#1)
    (v66 : FVec F S1x1 .f32) (v79 : FVec F S8x128 .f32) (init : FVec F S8x128 .f32) (X : BufTy.Contents (Elt F) arg14.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v79 init where
  inv k acc := iprop((arg14.view.loc (c : Thread nD τ) ↦[arg14.view.setOn (Rect.unit (s := S7168x2048) ![1024, 0] S512x2048.size inb_S7168x2048_S512x2048_1024_0).set]{fullShare} X)
    ∗ ⌜AccIs (fun j a => k0_pay7 v66 a (arg14.view.readAt (Elt F) (Rect.unit (s := S7168x2048) (k0_off3 j) S16x2048.size (k0_off3_inb i j k0_h1)).toLoadRect X)) k init acc⌝)
  step k acc := slabStep 𝒱 c bd E arg14 _ X k0_off3 (fun j => k0_off3_inb i j k0_h1) (k0_pay7 v66) init acc k
    (slab_sub k.val 1024 (Nat.lt_of_lt_of_le k.isLt k0_t3_abs.2.1) (k0_off3_eq k) rfl)

/-- The invariant of the sum over chunk 4: the chunk's rows stay, the accumulator is the one before the trip. -/
@[sl_loop] def sumInv4 (𝒱 : Variants) (c : Dev nD) (bd : Option 𝒱.V) (E : Set ℕ) (i : grid0.Coords) (k0_h1 : k0_cond1 i = 1#1)
    (v66 : FVec F S1x1 .f32) (v79 : FVec F S8x128 .f32) (init : FVec F S8x128 .f32) (X : BufTy.Contents (Elt F) arg14.view.ty) :
    LoopInvTy_k0_t4 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v79 init where
  inv k acc := iprop((arg14.view.loc (c : Thread nD τ) ↦[arg14.view.setOn (Rect.unit (s := S7168x2048) ![1536, 0] S512x2048.size inb_S7168x2048_S512x2048_1536_0).set]{fullShare} X)
    ∗ ⌜AccIs (fun j a => k0_pay7 v66 a (arg14.view.readAt (Elt F) (Rect.unit (s := S7168x2048) (k0_off4 j) S16x2048.size (k0_off4_inb i j k0_h1)).toLoadRect X)) k init acc⌝)
  step k acc := slabStep 𝒱 c bd E arg14 _ X k0_off4 (fun j => k0_off4_inb i j k0_h1) (k0_pay7 v66) init acc k
    (slab_sub k.val 1536 (Nat.lt_of_lt_of_le k.isLt k0_t4_abs.2.1) (k0_off4_eq k) rfl)

/-- The invariant of the sum over chunk 5: the chunk's rows stay, the accumulator is the one before the trip. -/
@[sl_loop] def sumInv5 (𝒱 : Variants) (c : Dev nD) (bd : Option 𝒱.V) (E : Set ℕ) (i : grid0.Coords) (k0_h1 : k0_cond1 i = 1#1)
    (v66 : FVec F S1x1 .f32) (v79 : FVec F S8x128 .f32) (init : FVec F S8x128 .f32) (X : BufTy.Contents (Elt F) arg14.view.ty) :
    LoopInvTy_k0_t5 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v79 init where
  inv k acc := iprop((arg14.view.loc (c : Thread nD τ) ↦[arg14.view.setOn (Rect.unit (s := S7168x2048) ![2048, 0] S512x2048.size inb_S7168x2048_S512x2048_2048_0).set]{fullShare} X)
    ∗ ⌜AccIs (fun j a => k0_pay7 v66 a (arg14.view.readAt (Elt F) (Rect.unit (s := S7168x2048) (k0_off5 j) S16x2048.size (k0_off5_inb i j k0_h1)).toLoadRect X)) k init acc⌝)
  step k acc := slabStep 𝒱 c bd E arg14 _ X k0_off5 (fun j => k0_off5_inb i j k0_h1) (k0_pay7 v66) init acc k
    (slab_sub k.val 2048 (Nat.lt_of_lt_of_le k.isLt k0_t5_abs.2.1) (k0_off5_eq k) rfl)

/-- The invariant of the sum over chunk 6: the chunk's rows stay, the accumulator is the one before the trip. -/
@[sl_loop] def sumInv6 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t6 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![2560, 0] S512x2048.size inb_S7168x2048_S512x2048_2560_0).set]{fullShare} X)
    ∗ ⌜AccIs (fun j a => k0_pay7 v66 a (arg14.view.readAt (Elt F) (Rect.unit (s := S7168x2048) (k0_off6 j) S16x2048.size (k0_off6_inb i j k0_h1)).toLoadRect X)) k init acc⌝)
  step k acc := slabStep 𝒱 c bd E arg14 _ X k0_off6 (fun j => k0_off6_inb i j k0_h1) (k0_pay7 v66) init acc k
    (slab_sub k.val 2560 (Nat.lt_of_lt_of_le k.isLt k0_t6_abs.2.1) (k0_off6_eq k) rfl)

/-- The invariant of the sum over chunk 7: the chunk's rows stay, the accumulator is the one before the trip. -/
@[sl_loop] def sumInv7 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t7 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![3072, 0] S512x2048.size inb_S7168x2048_S512x2048_3072_0).set]{fullShare} X)
    ∗ ⌜AccIs (fun j a => k0_pay7 v66 a (arg14.view.readAt (Elt F) (Rect.unit (s := S7168x2048) (k0_off7 j) S16x2048.size (k0_off7_inb i j k0_h1)).toLoadRect X)) k init acc⌝)
  step k acc := slabStep 𝒱 c bd E arg14 _ X k0_off7 (fun j => k0_off7_inb i j k0_h1) (k0_pay7 v66) init acc k
    (slab_sub k.val 3072 (Nat.lt_of_lt_of_le k.isLt k0_t7_abs.2.1) (k0_off7_eq k) rfl)

/-- The invariant of the sum over chunk 8: the chunk's rows stay, the accumulator is the one before the trip. -/
@[sl_loop] def sumInv8 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t8 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![3584, 0] S512x2048.size inb_S7168x2048_S512x2048_3584_0).set]{fullShare} X)
    ∗ ⌜AccIs (fun j a => k0_pay7 v66 a (arg14.view.readAt (Elt F) (Rect.unit (s := S7168x2048) (k0_off8 j) S16x2048.size (k0_off8_inb i j k0_h1)).toLoadRect X)) k init acc⌝)
  step k acc := slabStep 𝒱 c bd E arg14 _ X k0_off8 (fun j => k0_off8_inb i j k0_h1) (k0_pay7 v66) init acc k
    (slab_sub k.val 3584 (Nat.lt_of_lt_of_le k.isLt k0_t8_abs.2.1) (k0_off8_eq k) rfl)

/-- The invariant of the sum over chunk 9: the chunk's rows stay, the accumulator is the one before the trip. -/
@[sl_loop] def sumInv9 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t9 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![4096, 0] S512x2048.size inb_S7168x2048_S512x2048_4096_0).set]{fullShare} X)
    ∗ ⌜AccIs (fun j a => k0_pay7 v66 a (arg14.view.readAt (Elt F) (Rect.unit (s := S7168x2048) (k0_off9 j) S16x2048.size (k0_off9_inb i j k0_h1)).toLoadRect X)) k init acc⌝)
  step k acc := slabStep 𝒱 c bd E arg14 _ X k0_off9 (fun j => k0_off9_inb i j k0_h1) (k0_pay7 v66) init acc k
    (slab_sub k.val 4096 (Nat.lt_of_lt_of_le k.isLt k0_t9_abs.2.1) (k0_off9_eq k) rfl)

/-- The invariant of the sum over chunk 10: the chunk's rows stay, the accumulator is the one before the trip. -/
@[sl_loop] def sumInv10 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t10 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![4608, 0] S512x2048.size inb_S7168x2048_S512x2048_4608_0).set]{fullShare} X)
    ∗ ⌜AccIs (fun j a => k0_pay7 v66 a (arg14.view.readAt (Elt F) (Rect.unit (s := S7168x2048) (k0_off10 j) S16x2048.size (k0_off10_inb i j k0_h1)).toLoadRect X)) k init acc⌝)
  step k acc := slabStep 𝒱 c bd E arg14 _ X k0_off10 (fun j => k0_off10_inb i j k0_h1) (k0_pay7 v66) init acc k
    (slab_sub k.val 4608 (Nat.lt_of_lt_of_le k.isLt k0_t10_abs.2.1) (k0_off10_eq k) rfl)

/-- The invariant of the sum over chunk 11: the chunk's rows stay, the accumulator is the one before the trip. -/
@[sl_loop] def sumInv11 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t11 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![5120, 0] S512x2048.size inb_S7168x2048_S512x2048_5120_0).set]{fullShare} X)
    ∗ ⌜AccIs (fun j a => k0_pay7 v66 a (arg14.view.readAt (Elt F) (Rect.unit (s := S7168x2048) (k0_off11 j) S16x2048.size (k0_off11_inb i j k0_h1)).toLoadRect X)) k init acc⌝)
  step k acc := slabStep 𝒱 c bd E arg14 _ X k0_off11 (fun j => k0_off11_inb i j k0_h1) (k0_pay7 v66) init acc k
    (slab_sub k.val 5120 (Nat.lt_of_lt_of_le k.isLt k0_t11_abs.2.1) (k0_off11_eq k) rfl)

/-- The invariant of the sum over chunk 12: the chunk's rows stay, the accumulator is the one before the trip. -/
@[sl_loop] def sumInv12 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t12 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![5632, 0] S512x2048.size inb_S7168x2048_S512x2048_5632_0).set]{fullShare} X)
    ∗ ⌜AccIs (fun j a => k0_pay7 v66 a (arg14.view.readAt (Elt F) (Rect.unit (s := S7168x2048) (k0_off12 j) S16x2048.size (k0_off12_inb i j k0_h1)).toLoadRect X)) k init acc⌝)
  step k acc := slabStep 𝒱 c bd E arg14 _ X k0_off12 (fun j => k0_off12_inb i j k0_h1) (k0_pay7 v66) init acc k
    (slab_sub k.val 5632 (Nat.lt_of_lt_of_le k.isLt k0_t12_abs.2.1) (k0_off12_eq k) rfl)

/-- The invariant of the sum over chunk 13: the chunk's rows stay, the accumulator is the one before the trip. -/
@[sl_loop] def sumInv13 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t13 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![6144, 0] S512x2048.size inb_S7168x2048_S512x2048_6144_0).set]{fullShare} X)
    ∗ ⌜AccIs (fun j a => k0_pay7 v66 a (arg14.view.readAt (Elt F) (Rect.unit (s := S7168x2048) (k0_off13 j) S16x2048.size (k0_off13_inb i j k0_h1)).toLoadRect X)) k init acc⌝)
  step k acc := slabStep 𝒱 c bd E arg14 _ X k0_off13 (fun j => k0_off13_inb i j k0_h1) (k0_pay7 v66) init acc k
    (slab_sub k.val 6144 (Nat.lt_of_lt_of_le k.isLt k0_t13_abs.2.1) (k0_off13_eq k) rfl)

/-- The invariant of the sum over chunk 14: the chunk's rows stay, the accumulator is the one before the trip. -/
@[sl_loop] def sumInv14 (𝒱 : Variants) (c : Dev nD) (bd : Option 𝒱.V) (E : Set ℕ) (i : grid0.Coords) (k0_h1 : k0_cond1 i = 1#1)
    (v66 : FVec F S1x1 .f32) (v145 : FVec F S8x128 .f32) (init : FVec F S8x128 .f32) (X : BufTy.Contents (Elt F) arg14.view.ty) :
    LoopInvTy_k0_t14 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v145 init where
  inv k acc := iprop((arg14.view.loc (c : Thread nD τ) ↦[arg14.view.setOn (Rect.unit (s := S7168x2048) ![6656, 0] S512x2048.size inb_S7168x2048_S512x2048_6656_0).set]{fullShare} X)
    ∗ ⌜AccIs (fun j a => k0_pay7 v66 a (arg14.view.readAt (Elt F) (Rect.unit (s := S7168x2048) (k0_off14 j) S16x2048.size (k0_off14_inb i j k0_h1)).toLoadRect X)) k init acc⌝)
  step k acc := slabStep 𝒱 c bd E arg14 _ X k0_off14 (fun j => k0_off14_inb i j k0_h1) (k0_pay7 v66) init acc k
    (slab_sub k.val 6656 (Nat.lt_of_lt_of_le k.isLt k0_t14_abs.2.1) (k0_off14_eq k) rfl)

end Cert.Kernel.Run
end
-- ==== Proof.Scratch.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic
public import Idealize.ShloMosaic.Lib.Ring
public import Idealize.ShloMosaic.Lib.WritesUnit
public import proofs.«01_k».proof.Proof.Chunks

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- Rows `[512 n, 512 n + 512)` of the gradient: what one transfer copies. -/
abbrev chunkRect (n : Fin 14) : Rect S7168x2048 :=
  Rect.unit (s := S7168x2048) ![512 * n.val, 0] S512x2048.size (by revert n; decide)

theorem chunk_mem (n : Fin 14) (y : S7168x2048.Idx) : y ∈ (chunkRect n).set ↔ (y 0).val / 512 = n.val := by
  rw [Rect.mem_set_unit]
  have hy1 : (y 1).val < 2048 := (y 1).isLt
  constructor
  · intro h
    have h0 : 512 * n.val ≤ (y 0).val ∧ (y 0).val < 512 * n.val + 512 := h 0
    omega
  · intro h a
    fin_cases a
    · show 512 * n.val ≤ (y 0).val ∧ (y 0).val < 512 * n.val + 512; omega
    · show 0 ≤ (y 1).val ∧ (y 1).val < 0 + 2048; omega

theorem chunk_cover (y : S7168x2048.Idx) : ∃ n, y ∈ (chunkRect n).set := by
  have hy : (y 0).val < 7168 := (y 0).isLt
  exact ⟨⟨(y 0).val / 512, by omega⟩, (chunk_mem _ y).2 rfl⟩

theorem chunk_disj {n n' : Fin 14} (h : n ≠ n') : Disjoint (chunkRect n).set (chunkRect n').set :=
  Finset.disjoint_left.2 fun y hy hy' => h (Fin.ext (((chunk_mem n y).1 hy).symm.trans ((chunk_mem n' y).1 hy')))

variable (c : Dev nD) (arg14 : Memref sig .tc .vmem S7168x2048 .bf16)

theorem chunk_sets_disj (n n' : Fin 14) (h : n ≠ n') :
    Disjoint (arg14.view.setOn (chunkRect n).set) (arg14.view.setOn (chunkRect n').set) :=
  (Finset.disjoint_map _).2 (chunk_disj h)

theorem chunk_sets_mem (z : arg14.view.ty.Idx) : (∃ n, z ∈ arg14.view.setOn (chunkRect n).set) ↔ z ∈ arg14.view.set := by
  constructor
  · rintro ⟨n, hz⟩
    simp only [View.setOn, Finset.mem_map] at hz
    obtain ⟨y, -, rfl⟩ := hz
    exact arg14.view.emb_mem_set y
  · intro hz
    simp only [View.set, Finset.mem_map] at hz
    obtain ⟨y, -, rfl⟩ := hz
    obtain ⟨n, hn⟩ := chunk_cover y
    exact ⟨n, arg14.view.mem_setOn.2 hn⟩

theorem bigSep_14 {M : Type} [URA M] (Φ : Fin 14 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The scratch held whole is held chunk by chunk. -/
theorem chunk_split (f : Buf (Elt F) (arg14.view.loc (c : Thread nD τ))) :
    (((arg14.view.loc (c : Thread nD τ)) ↦[arg14.view.set]{fullShare} f) : sProp 𝕄)
      = bigSep (Finset.univ : Finset (Fin 14)) fun n => ((arg14.view.loc (c : Thread nD τ)) ↦[arg14.view.setOn (chunkRect n).set]{fullShare} f) := by
  rw [← pointsTo_biUnion (ℓ := arg14.view.loc (c : Thread nD τ)) (Finset.univ : Finset (Fin 14)) (fun n => arg14.view.setOn (chunkRect n).set) (fun n _ n' _ hn => chunk_sets_disj arg14 n n' hn)]
  refine congrArg (fun I => (((arg14.view.loc (c : Thread nD τ)) ↦[I]{fullShare} f) : sProp 𝕄)) (Finset.ext fun z => ?_)
  rw [← chunk_sets_mem arg14 z]
  simp only [Finset.mem_biUnion, Finset.mem_univ, true_and]

/-- Chunks that read as `A` join to the scratch reading as `A`. -/
theorem chunk_join (fs : Fin 14 → Buf (Elt F) (arg14.view.loc (c : Thread nD τ))) (A : Vec F S7168x2048 .bf16)
    (h : ∀ n, ∀ y ∈ (chunkRect n).set, arg14.view.read (Elt F) (fs n) y = A y) :
    (bigSep (Finset.univ : Finset (Fin 14)) fun n => ((arg14.view.loc (c : Thread nD τ)) ↦[arg14.view.setOn (chunkRect n).set]{fullShare} fs n))
      ⊢ (iprop(∃ X : Buf (Elt F) (arg14.view.loc (c : Thread nD τ)), ((arg14.view.loc (c : Thread nD τ)) ↦[arg14.view.set]{fullShare} X) ∗ ⌜arg14.view.read (Elt F) X = A⌝) : sProp 𝕄) := by
  iintro H
  ihave H := (pointsTo_biUnion_join (ℓ := arg14.view.loc (c : Thread nD τ)) (Finset.univ : Finset (Fin 14)) (fun n => arg14.view.setOn (chunkRect n).set) fs (fs 0) (fun n _ n' _ hn => chunk_sets_disj arg14 n n' hn)) $$ H
  icases H with ⟨%g, %hg, H⟩
  iexists g
  isplitl [H]
  · refine Entails.of_eq (congrArg (fun I => (((arg14.view.loc (c : Thread nD τ)) ↦[I]{fullShare} g) : sProp 𝕄)) (Finset.ext fun z => ?_))
    rw [← chunk_sets_mem arg14 z]
    simp only [Finset.mem_biUnion, Finset.mem_univ, true_and]
  ipureintro
  funext y
  obtain ⟨n, hn⟩ := chunk_cover y
  rw [← h n y hn, View.read_apply, View.read_apply, hg n (Finset.mem_univ _) _ (arg14.view.mem_setOn.2 hn)]

/-- The 16 rows of a chunk's `j`-th trip. -/
abbrev slabRect (n : Fin 14) (j : Fin 32) : Rect S7168x2048 :=
  Rect.unit (s := S7168x2048) ![16 * j.val + 512 * n.val, 0] S16x2048.size (by
    have hn := n.isLt
    have hj := j.isLt
    intro a; fin_cases a
    · show 16 * j.val + 512 * n.val + 16 ≤ 7168; omega
    · show 0 + 2048 ≤ 2048; omega)

/-- The sum over one chunk, 16 rows at a time, from the accumulator `init`. -/
def chunkAcc (A : Vec F S7168x2048 .bf16) (inv : FVec F S1x1 .f32) (n : Fin 14) (init : FVec F S8x128 .f32) : FVec F S8x128 .f32 :=
  accAt (fun (j : Fin 32) a => k0_pay7 inv a (fun x => A ((slabRect n j).toLoadRect.idx x))) init 32

/-- A chunk's loop computes that sum. -/
theorem chunk_acc {N : ℕ} (hN : N = 32) {off : Fin N → Fin 2 → ℕ} {inb : ∀ k a, off k a + S16x2048.size a ≤ S7168x2048.size a}
    (n : Fin 14) (hoff : ∀ k, off k = ![16 * k.val + 512 * n.val, 0]) {inv : FVec F S1x1 .f32} {init acc : FVec F S8x128 .f32}
    {X : BufTy.Contents (Elt F) arg14.view.ty} (A : Vec F S7168x2048 .bf16)
    (hX : ∀ y ∈ (chunkRect n).set, arg14.view.read (Elt F) X y = A y)
    (h : AccIs (fun j a => k0_pay7 inv a (arg14.view.readAt (Elt F) (Rect.unit (s := S7168x2048) (off j) S16x2048.size (inb j)).toLoadRect X)) N init acc) :
    acc = chunkAcc A inv n init := by
  subst hN
  obtain ⟨rfl⟩ := h
  unfold chunkAcc
  congr 1
  funext j a
  congr 1
  have key : ∀ (o : Fin 2 → ℕ) (io : ∀ a, o a + S16x2048.size a ≤ S7168x2048.size a), o = ![16 * j.val + 512 * n.val, 0] →
      arg14.view.readAt (Elt F) (Rect.unit (s := S7168x2048) o S16x2048.size io).toLoadRect X = fun x => A ((slabRect n j).toLoadRect.idx x) := by
    intro o io ho
    subst ho
    funext x
    rw [View.readAt_apply]
    refine hX _ (slab_sub (inb := io) j.val (512 * n.val) j.isLt rfl rfl ?_)
    rw [← Rect.map_emb_univ]; exact Finset.mem_map_of_mem _ (Finset.mem_univ _)
  exact key _ _ (hoff j)

/-- The sum over every chunk, in order, from zero. -/
def sumAll (A : Vec F S7168x2048 .bf16) (inv : FVec F S1x1 .f32) : FVec F S8x128 .f32 :=
  accAt (fun n a => chunkAcc A inv n a) k0_pay4 14

/-- The scalar rows: the clipped gradient's factor, and the reciprocals of the two bias corrections. -/
def row0 (A : Vec F S7168x2048 .bf16) (ls : Elt F .f32) : FVec F S1x128 .f32 := k0_pay21 (k0_pay3 ls) (sumAll A (k0_pay3 ls))
def row1 (t : Elt F .i32) : FVec F S1x128 .f32 := k0_pay22 t
def row2 (t : Elt F .i32) : FVec F S1x128 .f32 := k0_pay1 (k0_pay20 t)

/-- What a chunk's transfer lands, read back, is the gradient there. -/
theorem landed (arg3 : Memref sig .tc .hbm S7168x2048 .bf16) (n : Fin 14) (hs) (G : BufTy.Contents (Elt F) arg3.view.ty) (X : BufTy.Contents (Elt F) arg14.view.ty) :
    ∀ y ∈ (chunkRect n).set, arg14.view.read (Elt F) (arg14.view.writes (Elt F) X
      [⟨chunkRect n, ReadAs.same.apply ((arg3.slice (chunkRect n) hs).view.read (Elt F) G)⟩]) y = arg3.view.read (Elt F) G y := by
  intro y hy
  rw [← Rect.map_emb_univ] at hy
  simp only [Finset.mem_map, Finset.mem_univ, true_and] at hy
  obtain ⟨x, rfl⟩ := hy
  exact View.read_writes_cons_emb _ _ _ _ _ x

theorem sumAll_eq (A : Vec F S7168x2048 .bf16) (inv : FVec F S1x1 .f32) :
    chunkAcc A inv 13 (chunkAcc A inv 12 (chunkAcc A inv 11 (chunkAcc A inv 10 (chunkAcc A inv 9 (chunkAcc A inv 8 (chunkAcc A inv 7
      (chunkAcc A inv 6 (chunkAcc A inv 5 (chunkAcc A inv 4 (chunkAcc A inv 3 (chunkAcc A inv 2 (chunkAcc A inv 1 (chunkAcc A inv 0 k0_pay4)))))))))))))
      = sumAll A inv := by
  have h (k : Fin 14) := accAt_succ (fun n a => chunkAcc A inv n a) k0_pay4 k
  have h0 : accAt (fun n a => chunkAcc A inv n a) k0_pay4 0 = k0_pay4 := rfl
  refine Eq.symm ((h 13).trans (congrArg (chunkAcc A inv 13) ?_))
  refine (h 12).trans (congrArg (chunkAcc A inv 12) ?_)
  refine (h 11).trans (congrArg (chunkAcc A inv 11) ?_)
  refine (h 10).trans (congrArg (chunkAcc A inv 10) ?_)
  refine (h 9).trans (congrArg (chunkAcc A inv 9) ?_)
  refine (h 8).trans (congrArg (chunkAcc A inv 8) ?_)
  refine (h 7).trans (congrArg (chunkAcc A inv 7) ?_)
  refine (h 6).trans (congrArg (chunkAcc A inv 6) ?_)
  refine (h 5).trans (congrArg (chunkAcc A inv 5) ?_)
  refine (h 4).trans (congrArg (chunkAcc A inv 4) ?_)
  refine (h 3).trans (congrArg (chunkAcc A inv 3) ?_)
  refine (h 2).trans (congrArg (chunkAcc A inv 2) ?_)
  refine (h 1).trans (congrArg (chunkAcc A inv 1) ?_)
  exact h 0

/-- What the three scalar rows hold. -/
structure Rows (arg15 : Memref sig .tc .vmem S8x128 .f32) (X : BufTy.Contents (Elt F) arg15.view.ty) (r0 r1 r2 : FVec F S1x128 .f32) : Prop where
  e0 : arg15.view.readAt (Elt F) (Rect.unit (s := S8x128) ![0, 0] S1x128.size inb_S8x128_S1x128_0_0).toLoadRect X = r0
  e1 : arg15.view.readAt (Elt F) (Rect.unit (s := S8x128) ![1, 0] S1x128.size inb_S8x128_S1x128_1_0).toLoadRect X = r1
  e2 : arg15.view.readAt (Elt F) (Rect.unit (s := S8x128) ![2, 0] S1x128.size inb_S8x128_S1x128_2_0).toLoadRect X = r2

theorem rows_of (arg15 : Memref sig .tc .vmem S8x128 .f32) (X : BufTy.Contents (Elt F) arg15.view.ty) (r0 r1 r2 : FVec F S1x128 .f32) :
    Rows arg15 (arg15.view.writes (Elt F) X [⟨Rect.unit (s := S8x128) ![2, 0] S1x128.size inb_S8x128_S1x128_2_0, r2⟩,
      ⟨Rect.unit (s := S8x128) ![1, 0] S1x128.size inb_S8x128_S1x128_1_0, r1⟩, ⟨Rect.unit (s := S8x128) ![0, 0] S1x128.size inb_S8x128_S1x128_0_0, r0⟩]) r0 r1 r2 := by
  have nm : ∀ (o o' : ℕ) (h) (x : (Rect.unit (s := S8x128) ![o, 0] S1x128.size h).shape.Idx), o < o' →
      (((Rect.unit (s := S8x128) ![o, 0] S1x128.size h).emb x) 0).val < o' := by
    intro o o' h x ho
    have hx : (x 0).val < 1 := (x 0).isLt
    show o + 1 * (x 0).val < o'
    omega
  constructor <;> funext x <;> rw [View.readAt_apply]
  · rw [View.read_writes_cons_unit_of_not_mem _ _ _ _ _ _ rfl (0 : Fin 2) (.inl (nm 0 2 _ x (by omega))),
      View.read_writes_cons_unit_of_not_mem _ _ _ _ _ _ rfl (0 : Fin 2) (.inl (nm 0 1 _ x (by omega)))]
    exact View.read_writes_cons_emb _ _ _ _ _ x
  · rw [View.read_writes_cons_unit_of_not_mem _ _ _ _ _ _ rfl (0 : Fin 2) (.inl (nm 1 2 _ x (by omega)))]
    exact View.read_writes_cons_emb _ _ _ _ _ x
  · exact View.read_writes_cons_emb _ _ _ _ _ x

end Cert.Kernel.Run
end
-- ==== Proof.Strip.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- One 128-column block's column of a strip's scales. -/
theorem col_slices (b : Fin 16) : S32x16.Slices ![0, b.val] S32x1 := by revert b; decide

/-- The new first moment of a strip's block `b`: the dequantised codes and the scaled gradient, decayed. -/
def mTile (b : Fin 16) (v3 : Vec F S1x128 .f32) (ms : Vec F S32x16 .f32) (g : Vec F S32x128 .bf16) (mc : Vec F S32x128 .i8) : FVec F S32x128 .f32 :=
  addf (mulf (broadcast S32x128 (Scalar.ofBits .f32 0x3F666666#32))
      (mulf (sitofp .f32 mc) (broadcastTo S32x128 (extractStridedSlice S32x1 ![0, b.val] ms (col_slices b)) broadcasts_S32x1_S32x128)))
    (mulf (broadcast S32x128 (Scalar.ofBits .f32 0x3DCCCCCD#32)) (k0_pay23 v3 g))

/-- The new second moment of a strip's block `b`. -/
def vTile (b : Fin 16) (v3 : Vec F S1x128 .f32) (vs : Vec F S32x16 .f32) (g : Vec F S32x128 .bf16) (vc : Vec F S32x128 .i8) : FVec F S32x128 .f32 :=
  addf (mulf (broadcast S32x128 (Scalar.ofBits .f32 0x3F7FBE77#32))
      (mulf (sitofp .f32 vc) (broadcastTo S32x128 (extractStridedSlice S32x1 ![0, b.val] vs (col_slices b)) broadcasts_S32x1_S32x128)))
    (mulf (broadcast S32x128 (Scalar.ofBits .f32 0x3A83126F#32)) (mulf (k0_pay23 v3 g) (k0_pay23 v3 g)))

/-- The update of a strip's block from its two moments and its parameters. -/
def dTile (v4 v5 : Vec F S1x128 .f32) (m v : FVec F S32x128 .f32) (p : Vec F S32x128 .f32) : FVec F S32x128 .f32 :=
  k0_pay27 (divf (mulf m (broadcastTo S32x128 v4 broadcasts_S1x128_S32x128))
    (addf (sqrt (mulf v (broadcastTo S32x128 v5 broadcasts_S1x128_S32x128))) (broadcast S32x128 (Scalar.ofBits .f32 0x322BCC77#32)))) p

/-- Rows `[32 k, 32 k + 32)` and columns `[128 b, 128 b + 128)` of a point's wide window. -/
abbrev wideRect (k : Fin 8) (b : Fin 16) : Rect S256x2048 :=
  Rect.unit (s := S256x2048) ![32 * k.val, 128 * b.val] S32x128.size (by revert k b; decide)

/-- Rows `[32 k, 32 k + 32)` of column `b` of a point's scale window. -/
abbrev colRect (k : Fin 8) (b : Fin 16) : Rect S256x16 :=
  Rect.unit (s := S256x16) ![32 * k.val, b.val] S32x1.size (by revert k b; decide)

/-- Rows `[32 k, 32 k + 32)` of a point's scale window. -/
abbrev scaleRect (k : Fin 8) : Rect S256x16 :=
  Rect.unit (s := S256x16) ![32 * k.val, 0] S32x16.size (by revert k; decide)

/-- The same block of the whole gradient, at point `i`. -/
abbrev gradRect (i : grid0.Coords) (k : Fin 8) (b : Fin 16) : Rect S7168x2048 :=
  Rect.unit (s := S7168x2048) ![256 * (i 0).val + 32 * k.val, 128 * b.val] S32x128.size (by
    have hi : (i 0).val < 28 := (i 0).isLt
    have hk := k.isLt
    have hb := b.isLt
    intro a; fin_cases a
    · show 256 * (i 0).val + 32 * k.val + 32 ≤ 7168; omega
    · show 128 * b.val + 128 ≤ 2048; omega)

/-- What a point reads: its windows of the parameters, codes and scales, the whole gradient, and the three scalars
    broadcast along a row. -/
structure Ins (F : FTy → Type) where
  p : Vec F S256x2048 .f32
  mc : Vec F S256x2048 .i8
  ms : Vec F S256x16 .f32
  vc : Vec F S256x2048 .i8
  vs : Vec F S256x16 .f32
  g : Vec F S7168x2048 .bf16
  v3 : Vec F S1x128 .f32
  v4 : Vec F S1x128 .f32
  v5 : Vec F S1x128 .f32

/-- The first moment of block `(k, b)` at point `i`. -/
def Ins.m (I : Ins F) (i : grid0.Coords) (k : Fin 8) (b : Fin 16) : FVec F S32x128 .f32 :=
  mTile b I.v3 (fun x => I.ms ((scaleRect k).toLoadRect.idx x)) (fun x => I.g ((gradRect i k b).toLoadRect.idx x)) (fun x => I.mc ((wideRect k b).toLoadRect.idx x))

/-- The second moment of block `(k, b)` at point `i`. -/
def Ins.v (I : Ins F) (i : grid0.Coords) (k : Fin 8) (b : Fin 16) : FVec F S32x128 .f32 :=
  vTile b I.v3 (fun x => I.vs ((scaleRect k).toLoadRect.idx x)) (fun x => I.g ((gradRect i k b).toLoadRect.idx x)) (fun x => I.vc ((wideRect k b).toLoadRect.idx x))

/-- The update of block `(k, b)` at point `i`. -/
def Ins.d (I : Ins F) (i : grid0.Coords) (k : Fin 8) (b : Fin 16) : FVec F S32x128 .f32 :=
  dTile I.v4 I.v5 (I.m i k b) (I.v i k b) (fun x => I.p ((wideRect k b).toLoadRect.idx x))

/-- The contents agree with the blocks `T` on the strips before `k`. -/
def WideDone {e : EltTy} (k : ℕ) (A : S256x2048.Idx → Elt F e) (T : Fin 8 → Fin 16 → S32x128.Idx → Elt F e) : Prop :=
  ∀ k' : Fin 8, k'.val < k → ∀ b x, A ((wideRect k' b).emb x) = T k' b x

/-- The same of a scale window. -/
def ColDone {e : EltTy} (k : ℕ) (A : S256x16.Idx → Elt F e) (T : Fin 8 → Fin 16 → S32x1.Idx → Elt F e) : Prop :=
  ∀ k' : Fin 8, k'.val < k → ∀ b x, A ((colRect k' b).emb x) = T k' b x

/-- A family of disjoint rectangles, each written once: an element of one reads that one's payload. -/
theorem read_pieces {s : Shape} {e : EltTy} (a : Memref sig .tc .vmem s e) (f : BufTy.Contents (Elt F) a.view.ty)
    {ι : Type} (r : ι → Rect s) (w : (b : ι) → (r b).shape.Idx → Elt F e)
    (hinj : ∀ b b' x x', (r b).emb x = (r b').emb x' → b = b') (L : List (View.Piece (Elt F) s e))
    (hL : ∀ p ∈ L, ∃ b, p = ⟨r b, w b⟩) (b : ι) (x : (r b).shape.Idx) (hb : (⟨r b, w b⟩ : View.Piece (Elt F) s e) ∈ L) :
    a.view.read (Elt F) (a.view.writes (Elt F) f L) ((r b).emb x) = w b x := by
  classical
  let G : s.Idx → Elt F e := fun y => if h : ∃ q : Σ b, (r b).shape.Idx, (r q.1).emb q.2 = y then w h.choose.1 h.choose.2 else w b x
  have hG : ∀ b x, G ((r b).emb x) = w b x := by
    intro b x
    have h : ∃ q : Σ b, (r b).shape.Idx, (r q.1).emb q.2 = (r b).emb x := ⟨⟨b, x⟩, rfl⟩
    show dite _ _ _ = _
    rw [dif_pos h]
    have hs := h.choose_spec
    generalize h.choose = q at hs
    obtain ⟨b', x'⟩ := q
    obtain rfl := hinj _ _ _ _ hs
    rw [(r b').emb.injective hs]
  rw [View.read_writes_apply_of_pieces a.view f G L ?_ _ ⟨_, hb, ?_⟩, hG]
  · rintro p hp x
    obtain ⟨b, rfl⟩ := hL p hp
    exact (hG b x).symm
  · rw [← Rect.map_emb_univ]; exact Finset.mem_map_of_mem _ (Finset.mem_univ _)

/-- The blocks of a strip, last written first. -/
abbrev blocks : List (Fin 16) := [15, 14, 13, 12, 11, 10, 9, 8, 7, 6, 5, 4, 3, 2, 1, 0]

theorem mem_blocks (b : Fin 16) : b ∈ blocks := by revert b; decide

theorem wideRect_inj {k k' : Fin 8} {b b' : Fin 16} {x x' : S32x128.Idx} (h : (wideRect k b).emb x = (wideRect k' b').emb x') :
    k = k' ∧ b = b' := by
  have h0 : 32 * k.val + 1 * (x 0).val = 32 * k'.val + 1 * (x' 0).val := congrArg (fun y : S256x2048.Idx => (y 0).val) h
  have h1 : 128 * b.val + 1 * (x 1).val = 128 * b'.val + 1 * (x' 1).val := congrArg (fun y : S256x2048.Idx => (y 1).val) h
  have hx0 : (x 0).val < 32 := (x 0).isLt
  have hx0' : (x' 0).val < 32 := (x' 0).isLt
  have hx1 : (x 1).val < 128 := (x 1).isLt
  have hx1' : (x' 1).val < 128 := (x' 1).isLt
  exact ⟨Fin.ext (by omega), Fin.ext (by omega)⟩

theorem colRect_inj {k k' : Fin 8} {b b' : Fin 16} {x x' : S32x1.Idx} (h : (colRect k b).emb x = (colRect k' b').emb x') :
    k = k' ∧ b = b' := by
  have h0 : 32 * k.val + 1 * (x 0).val = 32 * k'.val + 1 * (x' 0).val := congrArg (fun y : S256x16.Idx => (y 0).val) h
  have h1 : b.val + 1 * (x 1).val = b'.val + 1 * (x' 1).val := congrArg (fun y : S256x16.Idx => (y 1).val) h
  have hx0 : (x 0).val < 32 := (x 0).isLt
  have hx0' : (x' 0).val < 32 := (x' 0).isLt
  have hx1 : (x 1).val < 1 := (x 1).isLt
  have hx1' : (x' 1).val < 1 := (x' 1).isLt
  exact ⟨Fin.ext (by omega), Fin.ext (by omega)⟩

/-- The stores of strip `k` extend the strips done by one. -/
theorem WideDone.succ {e : EltTy} {T : Fin 8 → Fin 16 → S32x128.Idx → Elt F e} (a : Memref sig .tc .vmem S256x2048 e)
    (f : BufTy.Contents (Elt F) a.view.ty) (k : Fin 8) (L : List (View.Piece (Elt F) S256x2048 e))
    (hL : L = blocks.map fun b => ⟨wideRect k b, T k b⟩) (h : WideDone k.val (a.view.read (Elt F) f) T) :
    WideDone (k.val + 1) (a.view.read (Elt F) (a.view.writes (Elt F) f L)) T := by
  subst hL
  intro k' hk' b x
  by_cases hkk : k' = k
  · subst hkk
    exact read_pieces a f (fun b => wideRect k' b) (fun b => T k' b) (fun b b' x x' h => (wideRect_inj h).2) _
      (fun p hp => by obtain ⟨b, -, rfl⟩ := List.mem_map.1 hp; exact ⟨b, rfl⟩) b x (List.mem_map.2 ⟨b, mem_blocks b, rfl⟩)
  · rw [View.read_writes_apply_of_forall_not_mem, h k' (by have := Fin.val_ne_of_ne hkk; omega)]
    intro p hp hm
    obtain ⟨b', -, rfl⟩ := List.mem_map.1 hp
    obtain ⟨x', hx'⟩ := (wideRect k b').exists_idx_of_mem hm
    exact hkk (wideRect_inj hx'.symm).1

theorem ColDone.succ {e : EltTy} {T : Fin 8 → Fin 16 → S32x1.Idx → Elt F e} (a : Memref sig .tc .vmem S256x16 e)
    (f : BufTy.Contents (Elt F) a.view.ty) (k : Fin 8) (L : List (View.Piece (Elt F) S256x16 e))
    (hL : L = blocks.map fun b => ⟨colRect k b, T k b⟩) (h : ColDone k.val (a.view.read (Elt F) f) T) :
    ColDone (k.val + 1) (a.view.read (Elt F) (a.view.writes (Elt F) f L)) T := by
  subst hL
  intro k' hk' b x
  by_cases hkk : k' = k
  · subst hkk
    exact read_pieces a f (fun b => colRect k' b) (fun b => T k' b) (fun b b' x x' h => (colRect_inj h).2) _
      (fun p hp => by obtain ⟨b, -, rfl⟩ := List.mem_map.1 hp; exact ⟨b, rfl⟩) b x (List.mem_map.2 ⟨b, mem_blocks b, rfl⟩)
  · rw [View.read_writes_apply_of_forall_not_mem, h k' (by have := Fin.val_ne_of_ne hkk; omega)]
    intro p hp hm
    obtain ⟨b', -, rfl⟩ := List.mem_map.1 hp
    obtain ⟨x', hx'⟩ := (colRect k b').exists_idx_of_mem hm
    exact hkk (colRect_inj hx'.symm).1

variable {k : Fin 8} {b : Fin 16} {i : grid0.Coords}

/-- A store of a block at offsets `off` is the piece of that block. -/
theorem wide_piece {e : EltTy} {off : Fin 2 → ℕ} {inb : ∀ a, off a + S32x128.size a ≤ S256x2048.size a} {w w' : S32x128.Idx → Elt F e}
    (h : off = ![32 * k.val, 128 * b.val]) (hw : w = w') :
    (⟨Rect.unit (s := S256x2048) off S32x128.size inb, w⟩ : View.Piece (Elt F) S256x2048 e) = ⟨wideRect k b, w'⟩ := by
  subst h hw; rfl

theorem col_piece {e : EltTy} {off : Fin 2 → ℕ} {inb : ∀ a, off a + S32x1.size a ≤ S256x16.size a} {w w' : S32x1.Idx → Elt F e}
    (h : off = ![32 * k.val, b.val]) (hw : w = w') :
    (⟨Rect.unit (s := S256x16) off S32x1.size inb, w⟩ : View.Piece (Elt F) S256x16 e) = ⟨colRect k b, w'⟩ := by
  subst h hw; rfl

/-- The first moment computed from the loads of a block is the block's. -/
theorem m_eq {o6 : Fin 2 → ℕ} {o14 : Fin 2 → ℕ} {o5 : Fin 2 → ℕ} {i6 : ∀ a, o6 a + S32x16.size a ≤ S256x16.size a}
    {i14 : ∀ a, o14 a + S32x128.size a ≤ S7168x2048.size a} {i5 : ∀ a, o5 a + S32x128.size a ≤ S256x2048.size a} (I : Ins F)
    {a6 : Memref sig .tc .vmem S256x16 .f32} {a14 : Memref sig .tc .vmem S7168x2048 .bf16} {a5 : Memref sig .tc .vmem S256x2048 .i8}
    {X6 : BufTy.Contents (Elt F) a6.view.ty} {X14 : BufTy.Contents (Elt F) a14.view.ty} {X5 : BufTy.Contents (Elt F) a5.view.ty}
    (e6 : a6.view.read (Elt F) X6 = I.ms) (e14 : a14.view.read (Elt F) X14 = I.g) (e5 : a5.view.read (Elt F) X5 = I.mc)
    (h6 : o6 = ![32 * k.val, 0]) (h14 : o14 = ![256 * (i 0).val + 32 * k.val, 128 * b.val]) (h5 : o5 = ![32 * k.val, 128 * b.val]) :
    mTile b I.v3 (a6.view.readAt (Elt F) (Rect.unit (s := S256x16) o6 S32x16.size i6).toLoadRect X6)
      (a14.view.readAt (Elt F) (Rect.unit (s := S7168x2048) o14 S32x128.size i14).toLoadRect X14)
      (a5.view.readAt (Elt F) (Rect.unit (s := S256x2048) o5 S32x128.size i5).toLoadRect X5) = I.m i k b := by
  subst h6 h14 h5
  unfold Ins.m
  rw [← e6, ← e14, ← e5]; rfl

theorem v_eq {o6 : Fin 2 → ℕ} {o14 : Fin 2 → ℕ} {o5 : Fin 2 → ℕ} {i6 : ∀ a, o6 a + S32x16.size a ≤ S256x16.size a}
    {i14 : ∀ a, o14 a + S32x128.size a ≤ S7168x2048.size a} {i5 : ∀ a, o5 a + S32x128.size a ≤ S256x2048.size a} (I : Ins F)
    {a6 : Memref sig .tc .vmem S256x16 .f32} {a14 : Memref sig .tc .vmem S7168x2048 .bf16} {a5 : Memref sig .tc .vmem S256x2048 .i8}
    {X6 : BufTy.Contents (Elt F) a6.view.ty} {X14 : BufTy.Contents (Elt F) a14.view.ty} {X5 : BufTy.Contents (Elt F) a5.view.ty}
    (e6 : a6.view.read (Elt F) X6 = I.vs) (e14 : a14.view.read (Elt F) X14 = I.g) (e5 : a5.view.read (Elt F) X5 = I.vc)
    (h6 : o6 = ![32 * k.val, 0]) (h14 : o14 = ![256 * (i 0).val + 32 * k.val, 128 * b.val]) (h5 : o5 = ![32 * k.val, 128 * b.val]) :
    vTile b I.v3 (a6.view.readAt (Elt F) (Rect.unit (s := S256x16) o6 S32x16.size i6).toLoadRect X6)
      (a14.view.readAt (Elt F) (Rect.unit (s := S7168x2048) o14 S32x128.size i14).toLoadRect X14)
      (a5.view.readAt (Elt F) (Rect.unit (s := S256x2048) o5 S32x128.size i5).toLoadRect X5) = I.v i k b := by
  subst h6 h14 h5
  unfold Ins.v
  rw [← e6, ← e14, ← e5]; rfl

theorem d_eq {o4 : Fin 2 → ℕ} {i4 : ∀ a, o4 a + S32x128.size a ≤ S256x2048.size a} (I : Ins F) {m v : FVec F S32x128 .f32}
    {a4 : Memref sig .tc .vmem S256x2048 .f32} {X4 : BufTy.Contents (Elt F) a4.view.ty} (e4 : a4.view.read (Elt F) X4 = I.p)
    (h4 : o4 = ![32 * k.val, 128 * b.val]) (hm : m = I.m i k b) (hv : v = I.v i k b) :
    dTile I.v4 I.v5 m v (a4.view.readAt (Elt F) (Rect.unit (s := S256x2048) o4 S32x128.size i4).toLoadRect X4) = I.d i k b := by
  subst h4 hm hv
  unfold Ins.d
  rw [← e4]; rfl

end Cert.Kernel.Run
end
-- ==== Proof.MainLoop.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic
public import proofs.«01_k».proof.Proof.Strip

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- What a trip of the strips' loop holds: its inputs, and its outputs done on the strips before `k`. -/
abbrev stripInv (c : Dev nD) (i : grid0.Coords) (I : Ins F) (arg4 : Memref sig .tc .vmem S256x2048 .f32) (arg5 : Memref sig .tc .vmem S256x2048 .i8) (arg6 : Memref sig .tc .vmem S256x16 .f32) (arg7 : Memref sig .tc .vmem S256x2048 .i8) (arg8 : Memref sig .tc .vmem S256x16 .f32) (arg9 : Memref sig .tc .vmem S256x2048 .f32) (arg10 : Memref sig .tc .vmem S256x2048 .i8) (arg11 : Memref sig .tc .vmem S256x16 .f32) (arg12 : Memref sig .tc .vmem S256x2048 .i8) (arg13 : Memref sig .tc .vmem S256x16 .f32) (arg14 : Memref sig .tc .vmem S7168x2048 .bf16) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (k : ℕ) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg14.view.loc (c : Thread nD τ) ↦[arg14.view.set]{fullShare} X14) ∗ (∃ f9, (arg9.view.loc (c : Thread nD τ) ↦[arg9.view.set]{fullShare} f9) ∗ ⌜WideDone k (arg9.view.read (Elt F) f9) (fun k b => I.d i k b)⌝) ∗ (∃ f10, (arg10.view.loc (c : Thread nD τ) ↦[arg10.view.set]{fullShare} f10) ∗ ⌜WideDone k (arg10.view.read (Elt F) f10) (fun k b => k0_pay29 (I.m i k b))⌝) ∗ (∃ f11, (arg11.view.loc (c : Thread nD τ) ↦[arg11.view.set]{fullShare} f11) ∗ ⌜ColDone k (arg11.view.read (Elt F) f11) (fun k b => k0_pay28 (I.m i k b))⌝) ∗ (∃ f12, (arg12.view.loc (c : Thread nD τ) ↦[arg12.view.set]{fullShare} f12) ∗ ⌜WideDone k (arg12.view.read (Elt F) f12) (fun k b => k0_pay32 (k0_pay31 (I.v i k b)))⌝) ∗ (∃ f13, (arg13.view.loc (c : Thread nD τ) ↦[arg13.view.set]{fullShare} f13) ∗ ⌜ColDone k (arg13.view.read (Elt F) f13) (fun k b => k0_pay30 (I.v i k b))⌝))

/-- One trip. -/
theorem stripTrip (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14) (arg0 : BitVec 32) (I : Ins F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs) (e14 : arg14.view.read (Elt F) X14 = I.g) (k : Fin k0_t15_loop.trips) :
    stripInv c i I arg4 arg5 arg6 arg7 arg8 arg9 arg10 arg11 arg12 arg13 arg14 X4 X5 X6 X7 X8 X14 k.val
      ⊢ wp frame (wpE (defs₀ (F := F)) 𝒱 (c : Thread nD τ) bd) E (k0_t15_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I.v3 I.v4 I.v5 k PUnit.unit)
          (fun _ => stripInv c i I arg4 arg5 arg6 arg7 arg8 arg9 arg10 arg11 arg12 arg13 arg14 X4 X5 X6 X7 X8 X14 (k.val + 1)) := by
  have hk : k.val < 8 := Nat.lt_of_lt_of_le k.isLt k0_t15_abs.2.1
  unfold k0_t15_body
  iintro ⟨H4, H5, H6, H7, H8, H14, ⟨%f9, H9, %h9⟩, ⟨%f10, H10, %h10⟩, ⟨%f11, H11, %h11⟩, ⟨%f12, H12, %h12⟩, ⟨%f13, H13, %h13⟩⟩
  sl_exec
  sl_step
  isplitl [H4]; · iexact H4
  isplitl [H5]; · iexact H5
  isplitl [H6]; · iexact H6
  isplitl [H7]; · iexact H7
  isplitl [H8]; · iexact H8
  isplitl [H14]; · iexact H14
  isplitl [H9]
  · iexists _; isplitl [H9]; · iexact H9
    ipureintro; sl_unfold_run_names
    refine WideDone.succ arg9 f9 ⟨k.val, hk⟩ _ ?_ h9
    refine congrArg₂ List.cons (wide_piece (F := F) (e := .f32) (k := ⟨k.val, hk⟩) (b := 15) (k0_off62_eq k) ?_) ?_
    · exact d_eq (k := ⟨k.val, hk⟩) (b := 15) (i := i) I e4 (k0_off62_eq k) (m_eq (k := ⟨k.val, hk⟩) (b := 15) (i := i) I e6 e14 e5 (k0_off15_eq k) (k0_off61_eq i k) (k0_off62_eq k)) (v_eq (k := ⟨k.val, hk⟩) (b := 15) (i := i) I e8 e14 e7 (k0_off15_eq k) (k0_off61_eq i k) (k0_off62_eq k))
    refine congrArg₂ List.cons (wide_piece (F := F) (e := .f32) (k := ⟨k.val, hk⟩) (b := 14) (k0_off59_eq k) ?_) ?_
    · exact d_eq (k := ⟨k.val, hk⟩) (b := 14) (i := i) I e4 (k0_off59_eq k) (m_eq (k := ⟨k.val, hk⟩) (b := 14) (i := i) I e6 e14 e5 (k0_off15_eq k) (k0_off58_eq i k) (k0_off59_eq k)) (v_eq (k := ⟨k.val, hk⟩) (b := 14) (i := i) I e8 e14 e7 (k0_off15_eq k) (k0_off58_eq i k) (k0_off59_eq k))
    refine congrArg₂ List.cons (wide_piece (F := F) (e := .f32) (k := ⟨k.val, hk⟩) (b := 13) (k0_off56_eq k) ?_) ?_
    · exact d_eq (k := ⟨k.val, hk⟩) (b := 13) (i := i) I e4 (k0_off56_eq k) (m_eq (k := ⟨k.val, hk⟩) (b := 13) (i := i) I e6 e14 e5 (k0_off15_eq k) (k0_off55_eq i k) (k0_off56_eq k)) (v_eq (k := ⟨k.val, hk⟩) (b := 13) (i := i) I e8 e14 e7 (k0_off15_eq k) (k0_off55_eq i k) (k0_off56_eq k))
    refine congrArg₂ List.cons (wide_piece (F := F) (e := .f32) (k := ⟨k.val, hk⟩) (b := 12) (k0_off53_eq k) ?_) ?_
    · exact d_eq (k := ⟨k.val, hk⟩) (b := 12) (i := i) I e4 (k0_off53_eq k) (m_eq (k := ⟨k.val, hk⟩) (b := 12) (i := i) I e6 e14 e5 (k0_off15_eq k) (k0_off52_eq i k) (k0_off53_eq k)) (v_eq (k := ⟨k.val, hk⟩) (b := 12) (i := i) I e8 e14 e7 (k0_off15_eq k) (k0_off52_eq i k) (k0_off53_eq k))
    refine congrArg₂ List.cons (wide_piece (F := F) (e := .f32) (k := ⟨k.val, hk⟩) (b := 11) (k0_off50_eq k) ?_) ?_
    · exact d_eq (k := ⟨k.val, hk⟩) (b := 11) (i := i) I e4 (k0_off50_eq k) (m_eq (k := ⟨k.val, hk⟩) (b := 11) (i := i) I e6 e14 e5 (k0_off15_eq k) (k0_off49_eq i k) (k0_off50_eq k)) (v_eq (k := ⟨k.val, hk⟩) (b := 11) (i := i) I e8 e14 e7 (k0_off15_eq k) (k0_off49_eq i k) (k0_off50_eq k))
    refine congrArg₂ List.cons (wide_piece (F := F) (e := .f32) (k := ⟨k.val, hk⟩) (b := 10) (k0_off47_eq k) ?_) ?_
    · exact d_eq (k := ⟨k.val, hk⟩) (b := 10) (i := i) I e4 (k0_off47_eq k) (m_eq (k := ⟨k.val, hk⟩) (b := 10) (i := i) I e6 e14 e5 (k0_off15_eq k) (k0_off46_eq i k) (k0_off47_eq k)) (v_eq (k := ⟨k.val, hk⟩) (b := 10) (i := i) I e8 e14 e7 (k0_off15_eq k) (k0_off46_eq i k) (k0_off47_eq k))
    refine congrArg₂ List.cons (wide_piece (F := F) (e := .f32) (k := ⟨k.val, hk⟩) (b := 9) (k0_off44_eq k) ?_) ?_
    · exact d_eq (k := ⟨k.val, hk⟩) (b := 9) (i := i) I e4 (k0_off44_eq k) (m_eq (k := ⟨k.val, hk⟩) (b := 9) (i := i) I e6 e14 e5 (k0_off15_eq k) (k0_off43_eq i k) (k0_off44_eq k)) (v_eq (k := ⟨k.val, hk⟩) (b := 9) (i := i) I e8 e14 e7 (k0_off15_eq k) (k0_off43_eq i k) (k0_off44_eq k))
    refine congrArg₂ List.cons (wide_piece (F := F) (e := .f32) (k := ⟨k.val, hk⟩) (b := 8) (k0_off41_eq k) ?_) ?_
    · exact d_eq (k := ⟨k.val, hk⟩) (b := 8) (i := i) I e4 (k0_off41_eq k) (m_eq (k := ⟨k.val, hk⟩) (b := 8) (i := i) I e6 e14 e5 (k0_off15_eq k) (k0_off40_eq i k) (k0_off41_eq k)) (v_eq (k := ⟨k.val, hk⟩) (b := 8) (i := i) I e8 e14 e7 (k0_off15_eq k) (k0_off40_eq i k) (k0_off41_eq k))
    refine congrArg₂ List.cons (wide_piece (F := F) (e := .f32) (k := ⟨k.val, hk⟩) (b := 7) (k0_off38_eq k) ?_) ?_
    · exact d_eq (k := ⟨k.val, hk⟩) (b := 7) (i := i) I e4 (k0_off38_eq k) (m_eq (k := ⟨k.val, hk⟩) (b := 7) (i := i) I e6 e14 e5 (k0_off15_eq k) (k0_off37_eq i k) (k0_off38_eq k)) (v_eq (k := ⟨k.val, hk⟩) (b := 7) (i := i) I e8 e14 e7 (k0_off15_eq k) (k0_off37_eq i k) (k0_off38_eq k))
    refine congrArg₂ List.cons (wide_piece (F := F) (e := .f32) (k := ⟨k.val, hk⟩) (b := 6) (k0_off35_eq k) ?_) ?_
    · exact d_eq (k := ⟨k.val, hk⟩) (b := 6) (i := i) I e4 (k0_off35_eq k) (m_eq (k := ⟨k.val, hk⟩) (b := 6) (i := i) I e6 e14 e5 (k0_off15_eq k) (k0_off34_eq i k) (k0_off35_eq k)) (v_eq (k := ⟨k.val, hk⟩) (b := 6) (i := i) I e8 e14 e7 (k0_off15_eq k) (k0_off34_eq i k) (k0_off35_eq k))
    refine congrArg₂ List.cons (wide_piece (F := F) (e := .f32) (k := ⟨k.val, hk⟩) (b := 5) (k0_off32_eq k) ?_) ?_
    · exact d_eq (k := ⟨k.val, hk⟩) (b := 5) (i := i) I e4 (k0_off32_eq k) (m_eq (k := ⟨k.val, hk⟩) (b := 5) (i := i) I e6 e14 e5 (k0_off15_eq k) (k0_off31_eq i k) (k0_off32_eq k)) (v_eq (k := ⟨k.val, hk⟩) (b := 5) (i := i) I e8 e14 e7 (k0_off15_eq k) (k0_off31_eq i k) (k0_off32_eq k))
    refine congrArg₂ List.cons (wide_piece (F := F) (e := .f32) (k := ⟨k.val, hk⟩) (b := 4) (k0_off29_eq k) ?_) ?_
    · exact d_eq (k := ⟨k.val, hk⟩) (b := 4) (i := i) I e4 (k0_off29_eq k) (m_eq (k := ⟨k.val, hk⟩) (b := 4) (i := i) I e6 e14 e5 (k0_off15_eq k) (k0_off28_eq i k) (k0_off29_eq k)) (v_eq (k := ⟨k.val, hk⟩) (b := 4) (i := i) I e8 e14 e7 (k0_off15_eq k) (k0_off28_eq i k) (k0_off29_eq k))
    refine congrArg₂ List.cons (wide_piece (F := F) (e := .f32) (k := ⟨k.val, hk⟩) (b := 3) (k0_off26_eq k) ?_) ?_
    · exact d_eq (k := ⟨k.val, hk⟩) (b := 3) (i := i) I e4 (k0_off26_eq k) (m_eq (k := ⟨k.val, hk⟩) (b := 3) (i := i) I e6 e14 e5 (k0_off15_eq k) (k0_off25_eq i k) (k0_off26_eq k)) (v_eq (k := ⟨k.val, hk⟩) (b := 3) (i := i) I e8 e14 e7 (k0_off15_eq k) (k0_off25_eq i k) (k0_off26_eq k))
    refine congrArg₂ List.cons (wide_piece (F := F) (e := .f32) (k := ⟨k.val, hk⟩) (b := 2) (k0_off23_eq k) ?_) ?_
    · exact d_eq (k := ⟨k.val, hk⟩) (b := 2) (i := i) I e4 (k0_off23_eq k) (m_eq (k := ⟨k.val, hk⟩) (b := 2) (i := i) I e6 e14 e5 (k0_off15_eq k) (k0_off22_eq i k) (k0_off23_eq k)) (v_eq (k := ⟨k.val, hk⟩) (b := 2) (i := i) I e8 e14 e7 (k0_off15_eq k) (k0_off22_eq i k) (k0_off23_eq k))
    refine congrArg₂ List.cons (wide_piece (F := F) (e := .f32) (k := ⟨k.val, hk⟩) (b := 1) (k0_off20_eq k) ?_) ?_
    · exact d_eq (k := ⟨k.val, hk⟩) (b := 1) (i := i) I e4 (k0_off20_eq k) (m_eq (k := ⟨k.val, hk⟩) (b := 1) (i := i) I e6 e14 e5 (k0_off15_eq k) (k0_off19_eq i k) (k0_off20_eq k)) (v_eq (k := ⟨k.val, hk⟩) (b := 1) (i := i) I e8 e14 e7 (k0_off15_eq k) (k0_off19_eq i k) (k0_off20_eq k))
    refine congrArg₂ List.cons (wide_piece (F := F) (e := .f32) (k := ⟨k.val, hk⟩) (b := 0) (k0_off17_eq k) ?_) ?_
    · exact d_eq (k := ⟨k.val, hk⟩) (b := 0) (i := i) I e4 (k0_off17_eq k) (m_eq (k := ⟨k.val, hk⟩) (b := 0) (i := i) I e6 e14 e5 (k0_off15_eq k) (k0_off16_eq i k) (k0_off17_eq k)) (v_eq (k := ⟨k.val, hk⟩) (b := 0) (i := i) I e8 e14 e7 (k0_off15_eq k) (k0_off16_eq i k) (k0_off17_eq k))
    rfl
  isplitl [H10]
  · iexists _; isplitl [H10]; · iexact H10
    ipureintro; sl_unfold_run_names
    refine WideDone.succ arg10 f10 ⟨k.val, hk⟩ _ ?_ h10
    refine congrArg₂ List.cons (wide_piece (F := F) (e := .i8) (k := ⟨k.val, hk⟩) (b := 15) (k0_off62_eq k) ?_) ?_
    · exact congrArg k0_pay29 (m_eq (k := ⟨k.val, hk⟩) (b := 15) (i := i) I e6 e14 e5 (k0_off15_eq k) (k0_off61_eq i k) (k0_off62_eq k))
    refine congrArg₂ List.cons (wide_piece (F := F) (e := .i8) (k := ⟨k.val, hk⟩) (b := 14) (k0_off59_eq k) ?_) ?_
    · exact congrArg k0_pay29 (m_eq (k := ⟨k.val, hk⟩) (b := 14) (i := i) I e6 e14 e5 (k0_off15_eq k) (k0_off58_eq i k) (k0_off59_eq k))
    refine congrArg₂ List.cons (wide_piece (F := F) (e := .i8) (k := ⟨k.val, hk⟩) (b := 13) (k0_off56_eq k) ?_) ?_
    · exact congrArg k0_pay29 (m_eq (k := ⟨k.val, hk⟩) (b := 13) (i := i) I e6 e14 e5 (k0_off15_eq k) (k0_off55_eq i k) (k0_off56_eq k))
    refine congrArg₂ List.cons (wide_piece (F := F) (e := .i8) (k := ⟨k.val, hk⟩) (b := 12) (k0_off53_eq k) ?_) ?_
    · exact congrArg k0_pay29 (m_eq (k := ⟨k.val, hk⟩) (b := 12) (i := i) I e6 e14 e5 (k0_off15_eq k) (k0_off52_eq i k) (k0_off53_eq k))
    refine congrArg₂ List.cons (wide_piece (F := F) (e := .i8) (k := ⟨k.val, hk⟩) (b := 11) (k0_off50_eq k) ?_) ?_
    · exact congrArg k0_pay29 (m_eq (k := ⟨k.val, hk⟩) (b := 11) (i := i) I e6 e14 e5 (k0_off15_eq k) (k0_off49_eq i k) (k0_off50_eq k))
    refine congrArg₂ List.cons (wide_piece (F := F) (e := .i8) (k := ⟨k.val, hk⟩) (b := 10) (k0_off47_eq k) ?_) ?_
    · exact congrArg k0_pay29 (m_eq (k := ⟨k.val, hk⟩) (b := 10) (i := i) I e6 e14 e5 (k0_off15_eq k) (k0_off46_eq i k) (k0_off47_eq k))
    refine congrArg₂ List.cons (wide_piece (F := F) (e := .i8) (k := ⟨k.val, hk⟩) (b := 9) (k0_off44_eq k) ?_) ?_
    · exact congrArg k0_pay29 (m_eq (k := ⟨k.val, hk⟩) (b := 9) (i := i) I e6 e14 e5 (k0_off15_eq k) (k0_off43_eq i k) (k0_off44_eq k))
    refine congrArg₂ List.cons (wide_piece (F := F) (e := .i8) (k := ⟨k.val, hk⟩) (b := 8) (k0_off41_eq k) ?_) ?_
    · exact congrArg k0_pay29 (m_eq (k := ⟨k.val, hk⟩) (b := 8) (i := i) I e6 e14 e5 (k0_off15_eq k) (k0_off40_eq i k) (k0_off41_eq k))
    refine congrArg₂ List.cons (wide_piece (F := F) (e := .i8) (k := ⟨k.val, hk⟩) (b := 7) (k0_off38_eq k) ?_) ?_
    · exact congrArg k0_pay29 (m_eq (k := ⟨k.val, hk⟩) (b := 7) (i := i) I e6 e14 e5 (k0_off15_eq k) (k0_off37_eq i k) (k0_off38_eq k))
    refine congrArg₂ List.cons (wide_piece (F := F) (e := .i8) (k := ⟨k.val, hk⟩) (b := 6) (k0_off35_eq k) ?_) ?_
    · exact congrArg k0_pay29 (m_eq (k := ⟨k.val, hk⟩) (b := 6) (i := i) I e6 e14 e5 (k0_off15_eq k) (k0_off34_eq i k) (k0_off35_eq k))
    refine congrArg₂ List.cons (wide_piece (F := F) (e := .i8) (k := ⟨k.val, hk⟩) (b := 5) (k0_off32_eq k) ?_) ?_
    · exact congrArg k0_pay29 (m_eq (k := ⟨k.val, hk⟩) (b := 5) (i := i) I e6 e14 e5 (k0_off15_eq k) (k0_off31_eq i k) (k0_off32_eq k))
    refine congrArg₂ List.cons (wide_piece (F := F) (e := .i8) (k := ⟨k.val, hk⟩) (b := 4) (k0_off29_eq k) ?_) ?_
    · exact congrArg k0_pay29 (m_eq (k := ⟨k.val, hk⟩) (b := 4) (i := i) I e6 e14 e5 (k0_off15_eq k) (k0_off28_eq i k) (k0_off29_eq k))
    refine congrArg₂ List.cons (wide_piece (F := F) (e := .i8) (k := ⟨k.val, hk⟩) (b := 3) (k0_off26_eq k) ?_) ?_
    · exact congrArg k0_pay29 (m_eq (k := ⟨k.val, hk⟩) (b := 3) (i := i) I e6 e14 e5 (k0_off15_eq k) (k0_off25_eq i k) (k0_off26_eq k))
    refine congrArg₂ List.cons (wide_piece (F := F) (e := .i8) (k := ⟨k.val, hk⟩) (b := 2) (k0_off23_eq k) ?_) ?_
    · exact congrArg k0_pay29 (m_eq (k := ⟨k.val, hk⟩) (b := 2) (i := i) I e6 e14 e5 (k0_off15_eq k) (k0_off22_eq i k) (k0_off23_eq k))
    refine congrArg₂ List.cons (wide_piece (F := F) (e := .i8) (k := ⟨k.val, hk⟩) (b := 1) (k0_off20_eq k) ?_) ?_
    · exact congrArg k0_pay29 (m_eq (k := ⟨k.val, hk⟩) (b := 1) (i := i) I e6 e14 e5 (k0_off15_eq k) (k0_off19_eq i k) (k0_off20_eq k))
    refine congrArg₂ List.cons (wide_piece (F := F) (e := .i8) (k := ⟨k.val, hk⟩) (b := 0) (k0_off17_eq k) ?_) ?_
    · exact congrArg k0_pay29 (m_eq (k := ⟨k.val, hk⟩) (b := 0) (i := i) I e6 e14 e5 (k0_off15_eq k) (k0_off16_eq i k) (k0_off17_eq k))
    rfl
  isplitl [H11]
  · iexists _; isplitl [H11]; · iexact H11
    ipureintro; sl_unfold_run_names
    refine ColDone.succ arg11 f11 ⟨k.val, hk⟩ _ ?_ h11
    refine congrArg₂ List.cons (col_piece (F := F) (e := .f32) (k := ⟨k.val, hk⟩) (b := 15) (k0_off63_eq k) ?_) ?_
    · exact congrArg k0_pay28 (m_eq (k := ⟨k.val, hk⟩) (b := 15) (i := i) I e6 e14 e5 (k0_off15_eq k) (k0_off61_eq i k) (k0_off62_eq k))
    refine congrArg₂ List.cons (col_piece (F := F) (e := .f32) (k := ⟨k.val, hk⟩) (b := 14) (k0_off60_eq k) ?_) ?_
    · exact congrArg k0_pay28 (m_eq (k := ⟨k.val, hk⟩) (b := 14) (i := i) I e6 e14 e5 (k0_off15_eq k) (k0_off58_eq i k) (k0_off59_eq k))
    refine congrArg₂ List.cons (col_piece (F := F) (e := .f32) (k := ⟨k.val, hk⟩) (b := 13) (k0_off57_eq k) ?_) ?_
    · exact congrArg k0_pay28 (m_eq (k := ⟨k.val, hk⟩) (b := 13) (i := i) I e6 e14 e5 (k0_off15_eq k) (k0_off55_eq i k) (k0_off56_eq k))
    refine congrArg₂ List.cons (col_piece (F := F) (e := .f32) (k := ⟨k.val, hk⟩) (b := 12) (k0_off54_eq k) ?_) ?_
    · exact congrArg k0_pay28 (m_eq (k := ⟨k.val, hk⟩) (b := 12) (i := i) I e6 e14 e5 (k0_off15_eq k) (k0_off52_eq i k) (k0_off53_eq k))
    refine congrArg₂ List.cons (col_piece (F := F) (e := .f32) (k := ⟨k.val, hk⟩) (b := 11) (k0_off51_eq k) ?_) ?_
    · exact congrArg k0_pay28 (m_eq (k := ⟨k.val, hk⟩) (b := 11) (i := i) I e6 e14 e5 (k0_off15_eq k) (k0_off49_eq i k) (k0_off50_eq k))
    refine congrArg₂ List.cons (col_piece (F := F) (e := .f32) (k := ⟨k.val, hk⟩) (b := 10) (k0_off48_eq k) ?_) ?_
    · exact congrArg k0_pay28 (m_eq (k := ⟨k.val, hk⟩) (b := 10) (i := i) I e6 e14 e5 (k0_off15_eq k) (k0_off46_eq i k) (k0_off47_eq k))
    refine congrArg₂ List.cons (col_piece (F := F) (e := .f32) (k := ⟨k.val, hk⟩) (b := 9) (k0_off45_eq k) ?_) ?_
    · exact congrArg k0_pay28 (m_eq (k := ⟨k.val, hk⟩) (b := 9) (i := i) I e6 e14 e5 (k0_off15_eq k) (k0_off43_eq i k) (k0_off44_eq k))
    refine congrArg₂ List.cons (col_piece (F := F) (e := .f32) (k := ⟨k.val, hk⟩) (b := 8) (k0_off42_eq k) ?_) ?_
    · exact congrArg k0_pay28 (m_eq (k := ⟨k.val, hk⟩) (b := 8) (i := i) I e6 e14 e5 (k0_off15_eq k) (k0_off40_eq i k) (k0_off41_eq k))
    refine congrArg₂ List.cons (col_piece (F := F) (e := .f32) (k := ⟨k.val, hk⟩) (b := 7) (k0_off39_eq k) ?_) ?_
    · exact congrArg k0_pay28 (m_eq (k := ⟨k.val, hk⟩) (b := 7) (i := i) I e6 e14 e5 (k0_off15_eq k) (k0_off37_eq i k) (k0_off38_eq k))
    refine congrArg₂ List.cons (col_piece (F := F) (e := .f32) (k := ⟨k.val, hk⟩) (b := 6) (k0_off36_eq k) ?_) ?_
    · exact congrArg k0_pay28 (m_eq (k := ⟨k.val, hk⟩) (b := 6) (i := i) I e6 e14 e5 (k0_off15_eq k) (k0_off34_eq i k) (k0_off35_eq k))
    refine congrArg₂ List.cons (col_piece (F := F) (e := .f32) (k := ⟨k.val, hk⟩) (b := 5) (k0_off33_eq k) ?_) ?_
    · exact congrArg k0_pay28 (m_eq (k := ⟨k.val, hk⟩) (b := 5) (i := i) I e6 e14 e5 (k0_off15_eq k) (k0_off31_eq i k) (k0_off32_eq k))
    refine congrArg₂ List.cons (col_piece (F := F) (e := .f32) (k := ⟨k.val, hk⟩) (b := 4) (k0_off30_eq k) ?_) ?_
    · exact congrArg k0_pay28 (m_eq (k := ⟨k.val, hk⟩) (b := 4) (i := i) I e6 e14 e5 (k0_off15_eq k) (k0_off28_eq i k) (k0_off29_eq k))
    refine congrArg₂ List.cons (col_piece (F := F) (e := .f32) (k := ⟨k.val, hk⟩) (b := 3) (k0_off27_eq k) ?_) ?_
    · exact congrArg k0_pay28 (m_eq (k := ⟨k.val, hk⟩) (b := 3) (i := i) I e6 e14 e5 (k0_off15_eq k) (k0_off25_eq i k) (k0_off26_eq k))
    refine congrArg₂ List.cons (col_piece (F := F) (e := .f32) (k := ⟨k.val, hk⟩) (b := 2) (k0_off24_eq k) ?_) ?_
    · exact congrArg k0_pay28 (m_eq (k := ⟨k.val, hk⟩) (b := 2) (i := i) I e6 e14 e5 (k0_off15_eq k) (k0_off22_eq i k) (k0_off23_eq k))
    refine congrArg₂ List.cons (col_piece (F := F) (e := .f32) (k := ⟨k.val, hk⟩) (b := 1) (k0_off21_eq k) ?_) ?_
    · exact congrArg k0_pay28 (m_eq (k := ⟨k.val, hk⟩) (b := 1) (i := i) I e6 e14 e5 (k0_off15_eq k) (k0_off19_eq i k) (k0_off20_eq k))
    refine congrArg₂ List.cons (col_piece (F := F) (e := .f32) (k := ⟨k.val, hk⟩) (b := 0) (k0_off18_eq k) ?_) ?_
    · exact congrArg k0_pay28 (m_eq (k := ⟨k.val, hk⟩) (b := 0) (i := i) I e6 e14 e5 (k0_off15_eq k) (k0_off16_eq i k) (k0_off17_eq k))
    rfl
  isplitl [H12]
  · iexists _; isplitl [H12]; · iexact H12
    ipureintro; sl_unfold_run_names
    refine WideDone.succ arg12 f12 ⟨k.val, hk⟩ _ ?_ h12
    refine congrArg₂ List.cons (wide_piece (F := F) (e := .i8) (k := ⟨k.val, hk⟩) (b := 15) (k0_off62_eq k) ?_) ?_
    · exact congrArg (fun z => k0_pay32 (k0_pay31 z)) (v_eq (k := ⟨k.val, hk⟩) (b := 15) (i := i) I e8 e14 e7 (k0_off15_eq k) (k0_off61_eq i k) (k0_off62_eq k))
    refine congrArg₂ List.cons (wide_piece (F := F) (e := .i8) (k := ⟨k.val, hk⟩) (b := 14) (k0_off59_eq k) ?_) ?_
    · exact congrArg (fun z => k0_pay32 (k0_pay31 z)) (v_eq (k := ⟨k.val, hk⟩) (b := 14) (i := i) I e8 e14 e7 (k0_off15_eq k) (k0_off58_eq i k) (k0_off59_eq k))
    refine congrArg₂ List.cons (wide_piece (F := F) (e := .i8) (k := ⟨k.val, hk⟩) (b := 13) (k0_off56_eq k) ?_) ?_
    · exact congrArg (fun z => k0_pay32 (k0_pay31 z)) (v_eq (k := ⟨k.val, hk⟩) (b := 13) (i := i) I e8 e14 e7 (k0_off15_eq k) (k0_off55_eq i k) (k0_off56_eq k))
    refine congrArg₂ List.cons (wide_piece (F := F) (e := .i8) (k := ⟨k.val, hk⟩) (b := 12) (k0_off53_eq k) ?_) ?_
    · exact congrArg (fun z => k0_pay32 (k0_pay31 z)) (v_eq (k := ⟨k.val, hk⟩) (b := 12) (i := i) I e8 e14 e7 (k0_off15_eq k) (k0_off52_eq i k) (k0_off53_eq k))
    refine congrArg₂ List.cons (wide_piece (F := F) (e := .i8) (k := ⟨k.val, hk⟩) (b := 11) (k0_off50_eq k) ?_) ?_
    · exact congrArg (fun z => k0_pay32 (k0_pay31 z)) (v_eq (k := ⟨k.val, hk⟩) (b := 11) (i := i) I e8 e14 e7 (k0_off15_eq k) (k0_off49_eq i k) (k0_off50_eq k))
    refine congrArg₂ List.cons (wide_piece (F := F) (e := .i8) (k := ⟨k.val, hk⟩) (b := 10) (k0_off47_eq k) ?_) ?_
    · exact congrArg (fun z => k0_pay32 (k0_pay31 z)) (v_eq (k := ⟨k.val, hk⟩) (b := 10) (i := i) I e8 e14 e7 (k0_off15_eq k) (k0_off46_eq i k) (k0_off47_eq k))
    refine congrArg₂ List.cons (wide_piece (F := F) (e := .i8) (k := ⟨k.val, hk⟩) (b := 9) (k0_off44_eq k) ?_) ?_
    · exact congrArg (fun z => k0_pay32 (k0_pay31 z)) (v_eq (k := ⟨k.val, hk⟩) (b := 9) (i := i) I e8 e14 e7 (k0_off15_eq k) (k0_off43_eq i k) (k0_off44_eq k))
    refine congrArg₂ List.cons (wide_piece (F := F) (e := .i8) (k := ⟨k.val, hk⟩) (b := 8) (k0_off41_eq k) ?_) ?_
    · exact congrArg (fun z => k0_pay32 (k0_pay31 z)) (v_eq (k := ⟨k.val, hk⟩) (b := 8) (i := i) I e8 e14 e7 (k0_off15_eq k) (k0_off40_eq i k) (k0_off41_eq k))
    refine congrArg₂ List.cons (wide_piece (F := F) (e := .i8) (k := ⟨k.val, hk⟩) (b := 7) (k0_off38_eq k) ?_) ?_
    · exact congrArg (fun z => k0_pay32 (k0_pay31 z)) (v_eq (k := ⟨k.val, hk⟩) (b := 7) (i := i) I e8 e14 e7 (k0_off15_eq k) (k0_off37_eq i k) (k0_off38_eq k))
    refine congrArg₂ List.cons (wide_piece (F := F) (e := .i8) (k := ⟨k.val, hk⟩) (b := 6) (k0_off35_eq k) ?_) ?_
    · exact congrArg (fun z => k0_pay32 (k0_pay31 z)) (v_eq (k := ⟨k.val, hk⟩) (b := 6) (i := i) I e8 e14 e7 (k0_off15_eq k) (k0_off34_eq i k) (k0_off35_eq k))
    refine congrArg₂ List.cons (wide_piece (F := F) (e := .i8) (k := ⟨k.val, hk⟩) (b := 5) (k0_off32_eq k) ?_) ?_
    · exact congrArg (fun z => k0_pay32 (k0_pay31 z)) (v_eq (k := ⟨k.val, hk⟩) (b := 5) (i := i) I e8 e14 e7 (k0_off15_eq k) (k0_off31_eq i k) (k0_off32_eq k))
    refine congrArg₂ List.cons (wide_piece (F := F) (e := .i8) (k := ⟨k.val, hk⟩) (b := 4) (k0_off29_eq k) ?_) ?_
    · exact congrArg (fun z => k0_pay32 (k0_pay31 z)) (v_eq (k := ⟨k.val, hk⟩) (b := 4) (i := i) I e8 e14 e7 (k0_off15_eq k) (k0_off28_eq i k) (k0_off29_eq k))
    refine congrArg₂ List.cons (wide_piece (F := F) (e := .i8) (k := ⟨k.val, hk⟩) (b := 3) (k0_off26_eq k) ?_) ?_
    · exact congrArg (fun z => k0_pay32 (k0_pay31 z)) (v_eq (k := ⟨k.val, hk⟩) (b := 3) (i := i) I e8 e14 e7 (k0_off15_eq k) (k0_off25_eq i k) (k0_off26_eq k))
    refine congrArg₂ List.cons (wide_piece (F := F) (e := .i8) (k := ⟨k.val, hk⟩) (b := 2) (k0_off23_eq k) ?_) ?_
    · exact congrArg (fun z => k0_pay32 (k0_pay31 z)) (v_eq (k := ⟨k.val, hk⟩) (b := 2) (i := i) I e8 e14 e7 (k0_off15_eq k) (k0_off22_eq i k) (k0_off23_eq k))
    refine congrArg₂ List.cons (wide_piece (F := F) (e := .i8) (k := ⟨k.val, hk⟩) (b := 1) (k0_off20_eq k) ?_) ?_
    · exact congrArg (fun z => k0_pay32 (k0_pay31 z)) (v_eq (k := ⟨k.val, hk⟩) (b := 1) (i := i) I e8 e14 e7 (k0_off15_eq k) (k0_off19_eq i k) (k0_off20_eq k))
    refine congrArg₂ List.cons (wide_piece (F := F) (e := .i8) (k := ⟨k.val, hk⟩) (b := 0) (k0_off17_eq k) ?_) ?_
    · exact congrArg (fun z => k0_pay32 (k0_pay31 z)) (v_eq (k := ⟨k.val, hk⟩) (b := 0) (i := i) I e8 e14 e7 (k0_off15_eq k) (k0_off16_eq i k) (k0_off17_eq k))
    rfl
  · iexists _; isplitl [H13]; · iexact H13
    ipureintro; sl_unfold_run_names
    refine ColDone.succ arg13 f13 ⟨k.val, hk⟩ _ ?_ h13
    refine congrArg₂ List.cons (col_piece (F := F) (e := .f32) (k := ⟨k.val, hk⟩) (b := 15) (k0_off63_eq k) ?_) ?_
    · exact congrArg k0_pay30 (v_eq (k := ⟨k.val, hk⟩) (b := 15) (i := i) I e8 e14 e7 (k0_off15_eq k) (k0_off61_eq i k) (k0_off62_eq k))
    refine congrArg₂ List.cons (col_piece (F := F) (e := .f32) (k := ⟨k.val, hk⟩) (b := 14) (k0_off60_eq k) ?_) ?_
    · exact congrArg k0_pay30 (v_eq (k := ⟨k.val, hk⟩) (b := 14) (i := i) I e8 e14 e7 (k0_off15_eq k) (k0_off58_eq i k) (k0_off59_eq k))
    refine congrArg₂ List.cons (col_piece (F := F) (e := .f32) (k := ⟨k.val, hk⟩) (b := 13) (k0_off57_eq k) ?_) ?_
    · exact congrArg k0_pay30 (v_eq (k := ⟨k.val, hk⟩) (b := 13) (i := i) I e8 e14 e7 (k0_off15_eq k) (k0_off55_eq i k) (k0_off56_eq k))
    refine congrArg₂ List.cons (col_piece (F := F) (e := .f32) (k := ⟨k.val, hk⟩) (b := 12) (k0_off54_eq k) ?_) ?_
    · exact congrArg k0_pay30 (v_eq (k := ⟨k.val, hk⟩) (b := 12) (i := i) I e8 e14 e7 (k0_off15_eq k) (k0_off52_eq i k) (k0_off53_eq k))
    refine congrArg₂ List.cons (col_piece (F := F) (e := .f32) (k := ⟨k.val, hk⟩) (b := 11) (k0_off51_eq k) ?_) ?_
    · exact congrArg k0_pay30 (v_eq (k := ⟨k.val, hk⟩) (b := 11) (i := i) I e8 e14 e7 (k0_off15_eq k) (k0_off49_eq i k) (k0_off50_eq k))
    refine congrArg₂ List.cons (col_piece (F := F) (e := .f32) (k := ⟨k.val, hk⟩) (b := 10) (k0_off48_eq k) ?_) ?_
    · exact congrArg k0_pay30 (v_eq (k := ⟨k.val, hk⟩) (b := 10) (i := i) I e8 e14 e7 (k0_off15_eq k) (k0_off46_eq i k) (k0_off47_eq k))
    refine congrArg₂ List.cons (col_piece (F := F) (e := .f32) (k := ⟨k.val, hk⟩) (b := 9) (k0_off45_eq k) ?_) ?_
    · exact congrArg k0_pay30 (v_eq (k := ⟨k.val, hk⟩) (b := 9) (i := i) I e8 e14 e7 (k0_off15_eq k) (k0_off43_eq i k) (k0_off44_eq k))
    refine congrArg₂ List.cons (col_piece (F := F) (e := .f32) (k := ⟨k.val, hk⟩) (b := 8) (k0_off42_eq k) ?_) ?_
    · exact congrArg k0_pay30 (v_eq (k := ⟨k.val, hk⟩) (b := 8) (i := i) I e8 e14 e7 (k0_off15_eq k) (k0_off40_eq i k) (k0_off41_eq k))
    refine congrArg₂ List.cons (col_piece (F := F) (e := .f32) (k := ⟨k.val, hk⟩) (b := 7) (k0_off39_eq k) ?_) ?_
    · exact congrArg k0_pay30 (v_eq (k := ⟨k.val, hk⟩) (b := 7) (i := i) I e8 e14 e7 (k0_off15_eq k) (k0_off37_eq i k) (k0_off38_eq k))
    refine congrArg₂ List.cons (col_piece (F := F) (e := .f32) (k := ⟨k.val, hk⟩) (b := 6) (k0_off36_eq k) ?_) ?_
    · exact congrArg k0_pay30 (v_eq (k := ⟨k.val, hk⟩) (b := 6) (i := i) I e8 e14 e7 (k0_off15_eq k) (k0_off34_eq i k) (k0_off35_eq k))
    refine congrArg₂ List.cons (col_piece (F := F) (e := .f32) (k := ⟨k.val, hk⟩) (b := 5) (k0_off33_eq k) ?_) ?_
    · exact congrArg k0_pay30 (v_eq (k := ⟨k.val, hk⟩) (b := 5) (i := i) I e8 e14 e7 (k0_off15_eq k) (k0_off31_eq i k) (k0_off32_eq k))
    refine congrArg₂ List.cons (col_piece (F := F) (e := .f32) (k := ⟨k.val, hk⟩) (b := 4) (k0_off30_eq k) ?_) ?_
    · exact congrArg k0_pay30 (v_eq (k := ⟨k.val, hk⟩) (b := 4) (i := i) I e8 e14 e7 (k0_off15_eq k) (k0_off28_eq i k) (k0_off29_eq k))
    refine congrArg₂ List.cons (col_piece (F := F) (e := .f32) (k := ⟨k.val, hk⟩) (b := 3) (k0_off27_eq k) ?_) ?_
    · exact congrArg k0_pay30 (v_eq (k := ⟨k.val, hk⟩) (b := 3) (i := i) I e8 e14 e7 (k0_off15_eq k) (k0_off25_eq i k) (k0_off26_eq k))
    refine congrArg₂ List.cons (col_piece (F := F) (e := .f32) (k := ⟨k.val, hk⟩) (b := 2) (k0_off24_eq k) ?_) ?_
    · exact congrArg k0_pay30 (v_eq (k := ⟨k.val, hk⟩) (b := 2) (i := i) I e8 e14 e7 (k0_off15_eq k) (k0_off22_eq i k) (k0_off23_eq k))
    refine congrArg₂ List.cons (col_piece (F := F) (e := .f32) (k := ⟨k.val, hk⟩) (b := 1) (k0_off21_eq k) ?_) ?_
    · exact congrArg k0_pay30 (v_eq (k := ⟨k.val, hk⟩) (b := 1) (i := i) I e8 e14 e7 (k0_off15_eq k) (k0_off19_eq i k) (k0_off20_eq k))
    refine congrArg₂ List.cons (col_piece (F := F) (e := .f32) (k := ⟨k.val, hk⟩) (b := 0) (k0_off18_eq k) ?_) ?_
    · exact congrArg k0_pay30 (v_eq (k := ⟨k.val, hk⟩) (b := 0) (i := i) I e8 e14 e7 (k0_off15_eq k) (k0_off16_eq i k) (k0_off17_eq k))
    rfl

/-- The strips' loop by that invariant. -/
def stripLoop (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14) (arg0 : BitVec 32) (I : Ins F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs) (e14 : arg14.view.read (Elt F) X14 = I.g) :
    LoopInvTy_k0_t15 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I.v3 I.v4 I.v5 where
  inv k _ := stripInv c i I arg4 arg5 arg6 arg7 arg8 arg9 arg10 arg11 arg12 arg13 arg14 X4 X5 X6 X7 X8 X14 k
  step k _ := stripTrip 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I X4 X5 X6 X7 X8 X14 e4 e5 e6 e7 e8 e14 k

/-- The strips' loop: from any contents of the outputs to all eight strips done. -/
theorem stripsRun (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14) (arg0 : BitVec 32) (I : Ins F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs) (e14 : arg14.view.read (Elt F) X14 = I.g) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg14.view.loc (c : Thread nD τ) ↦[arg14.view.set]{fullShare} X14) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ wp frame (wpE (defs₀ (F := F)) 𝒱 (c : Thread nD τ) bd) Set.univ
          (do Scf.Loop.for k0_t15_loop k0_t15_ok ⟨⟩ (k0_t15_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I.v3 I.v4 I.v5)
              pure ⟨⟩ : Prog (TpuEff nD τ sig (Elt F) Λ₀ .tc) PUnit)
          (fun _ => stripInv c i I arg4 arg5 arg6 arg7 arg8 arg9 arg10 arg11 arg12 arg13 arg14 X4 X5 X6 X7 X8 X14 8) := by
  iintro ⟨H4, H5, H6, H7, H8, H14, H9, H10, H11, H12, H13⟩
  let L := stripLoop 𝒱 c bd Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I X4 X5 X6 X7 X8 X14 e4 e5 e6 e7 e8 e14
  have h9 : WideDone 0 (arg9.view.read (Elt F) f9) (fun k b => I.d i k b) := fun k hk => absurd hk (Nat.not_lt_zero _)
  have h10 : WideDone 0 (arg10.view.read (Elt F) f10) (fun k b => k0_pay29 (I.m i k b)) := fun k hk => absurd hk (Nat.not_lt_zero _)
  have h11 : ColDone 0 (arg11.view.read (Elt F) f11) (fun k b => k0_pay28 (I.m i k b)) := fun k hk => absurd hk (Nat.not_lt_zero _)
  have h12 : WideDone 0 (arg12.view.read (Elt F) f12) (fun k b => k0_pay32 (k0_pay31 (I.v i k b))) := fun k hk => absurd hk (Nat.not_lt_zero _)
  have h13 : ColDone 0 (arg13.view.read (Elt F) f13) (fun k b => k0_pay30 (I.v i k b)) := fun k hk => absurd hk (Nat.not_lt_zero _)
  sl_exec
  sl_step
  have h8 : k0_t15_loop.trips = 8 := by decide
  try rw [h8] at *
  sl_close

end Cert.Kernel.Run
end
-- ==== Proof.Prologue.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic
public import Idealize.ShloMosaic.Lib.Ring
public import proofs.«01_k».proof.Proof.Chunks
public import proofs.«01_k».proof.Proof.Scratch
public import proofs.«01_k».proof.Proof.MainLoop

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- The run's fourteen semaphores at zero. -/
abbrev semsZero (c : Dev nD) : sProp 𝕄 := iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)

/-- The one word of a scalar operand. -/
abbrev word {e : EltTy} (a : Memref sig .tc .smem S1 e) (f : BufTy.Contents (Elt F) a.view.ty) : Elt F e :=
  a.view.readAt (Elt F) (Rect.unit (s := S1) ![0] S1.size inb_S1_S1_0).toLoadRect f (Shape.Idx.first (by decide))

set_option maxHeartbeats 1000000

/-- The first grid point: the gradient is copied, its norm is summed, the rows are stored, the strips run. -/
theorem firstRun (c : Dev nD) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole)  (k0_h1 : k0_cond1 i = 1#1) (f1 : BufTy.Contents (Elt F) arg1.view.ty) (f2 : BufTy.Contents (Elt F) arg2.view.ty)
    (G : Buf (Elt F) (arg3.view.loc (c : Thread nD τ))) (X : Buf (Elt F) (arg14.view.loc (c : Thread nD τ))) (f15 : Buf (Elt F) (arg15.view.loc (c : Thread nD τ)))
    (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ)))
    (W : Waits sig Unit) (I : Ins F) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs)
    (eg : arg3.view.read (Elt F) G = I.g) (ev3 : row0 I.g (word arg2 f2) = I.v3) (ev4 : row1 (word arg1 f1) = I.v4) (ev5 : row2 (word arg1 f1) = I.v5) :
    iprop((arg1.view.loc (c : Thread nD τ) ↦[arg1.view.set]{fullShare} f1) ∗ (arg2.view.loc (c : Thread nD τ) ↦[arg2.view.set]{fullShare} f2)
      ∗ (arg3.view.loc (c : Thread nD τ) ↦{fullShare} G) ∗ (arg15.view.loc (c : Thread nD τ) ↦[arg15.view.set]{fullShare} f15) ∗ (arg14.view.loc (c : Thread nD τ) ↦[arg14.view.set]{fullShare} X) ∗ semsZero c
      ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ owes (c : Thread nD τ) 0 W)
      ⊢ wp frame (wpE (defs₀ (F := F)) Variants.none c none) Set.univ (cc0_adamw_int8 i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2) (fun _ =>
        iprop((arg1.view.loc (c : Thread nD τ) ↦[arg1.view.set]{fullShare} f1) ∗ (arg2.view.loc (c : Thread nD τ) ↦[arg2.view.set]{fullShare} f2)
        ∗ (arg3.view.loc (c : Thread nD τ) ↦{fullShare} G) ∗ semsZero c ∗ (∃ W', owes (c : Thread nD τ) 0 W')
        ∗ (∃ f, (arg15.view.loc (c : Thread nD τ) ↦[arg15.view.set]{fullShare} f) ∗ ⌜Rows arg15 f I.v3 I.v4 I.v5⌝)
        ∗ (∃ X', ⌜arg14.view.read (Elt F) X' = I.g⌝ ∗ stripInv c i I arg4 arg5 arg6 arg7 arg8 arg9 arg10 arg11 arg12 arg13 arg14 X4 X5 X6 X7 X8 X' 8))) := by
  rw [chunk_split, bigSep_14]
  simp only [cc0_adamw_int8_eq_skeleton]; unfold cc0_adamw_int8_skel
  iintro ⟨H1, H2, HG, HS, ⟨P0, P1, P2, P3, P4, P5, P6, P7, P8, P9, P10, P11, P12, P13⟩, ⟨Q0, Q1, Q2, Q3, Q4, Q5, Q6, Q7, Q8, Q9, Q10, Q11, Q12, Q13⟩, H4, H5, H6, H7, H8, H9, H10, H11, H12, H13, HW⟩
  simp only [k0_part1_eq_skeleton, k0_part2_eq_skeleton, k0_part3_eq_skeleton, k0_part4_eq_skeleton, k0_part5_eq_skeleton, k0_part6_eq_skeleton, k0_part7_eq_skeleton]
  sl_exec
  rename_i acc
  have hI : acc = sumAll I.g (k0_pay3 (word arg2 f2)) := by
    clear ev3 ev4 ev5 e4 e5 e6 e7 e8
    have a0 := chunk_acc arg14 (by decide) 0 k0_off1_eq I.g (fun y hy => (landed arg14 arg3 0 _ G X y hy).trans (congrFun eg y)) hL1
    have a1 := chunk_acc arg14 (by decide) 1 k0_off2_eq I.g (fun y hy => (landed arg14 arg3 1 _ G X y hy).trans (congrFun eg y)) hL3
    have a2 := chunk_acc arg14 (by decide) 2 k0_off3_eq I.g (fun y hy => (landed arg14 arg3 2 _ G X y hy).trans (congrFun eg y)) hL5
    have a3 := chunk_acc arg14 (by decide) 3 k0_off4_eq I.g (fun y hy => (landed arg14 arg3 3 _ G X y hy).trans (congrFun eg y)) hL7
    have a4 := chunk_acc arg14 (by decide) 4 k0_off5_eq I.g (fun y hy => (landed arg14 arg3 4 _ G X y hy).trans (congrFun eg y)) hL9
    have a5 := chunk_acc arg14 (by decide) 5 k0_off6_eq I.g (fun y hy => (landed arg14 arg3 5 _ G X y hy).trans (congrFun eg y)) hL11
    have a6 := chunk_acc arg14 (by decide) 6 k0_off7_eq I.g (fun y hy => (landed arg14 arg3 6 _ G X y hy).trans (congrFun eg y)) hL13
    have a7 := chunk_acc arg14 (by decide) 7 k0_off8_eq I.g (fun y hy => (landed arg14 arg3 7 _ G X y hy).trans (congrFun eg y)) hL15
    have a8 := chunk_acc arg14 (by decide) 8 k0_off9_eq I.g (fun y hy => (landed arg14 arg3 8 _ G X y hy).trans (congrFun eg y)) hL17
    have a9 := chunk_acc arg14 (by decide) 9 k0_off10_eq I.g (fun y hy => (landed arg14 arg3 9 _ G X y hy).trans (congrFun eg y)) hL19
    have a10 := chunk_acc arg14 (by decide) 10 k0_off11_eq I.g (fun y hy => (landed arg14 arg3 10 _ G X y hy).trans (congrFun eg y)) hL21
    have a11 := chunk_acc arg14 (by decide) 11 k0_off12_eq I.g (fun y hy => (landed arg14 arg3 11 _ G X y hy).trans (congrFun eg y)) hL23
    have a12 := chunk_acc arg14 (by decide) 12 k0_off13_eq I.g (fun y hy => (landed arg14 arg3 12 _ G X y hy).trans (congrFun eg y)) hL25
    have a13 := chunk_acc arg14 (by decide) 13 k0_off14_eq I.g (fun y hy => (landed arg14 arg3 13 _ G X y hy).trans (congrFun eg y)) hL27
    rw [a13, a12, a11, a10, a9, a8, a7, a6, a5, a4, a3, a2, a1, a0]
    exact sumAll_eq _ _
  have w3 : firstRun.sl.v3 arg1 arg2 arg15 f1 f2 acc = I.v3 := by
    refine Eq.trans ?_ ev3
    rw [hI]
    exact (rows_of arg15 _ _ _ _).e0
  have w4 : firstRun.sl.v4 arg1 arg2 arg15 f1 f2 acc = I.v4 := by
    refine Eq.trans ?_ ev4
    skip
    exact (rows_of arg15 _ _ _ _).e1
  have w5 : firstRun.sl.v5 arg1 arg2 arg15 f1 f2 acc = I.v5 := by
    refine Eq.trans ?_ ev5
    skip
    exact (rows_of arg15 _ _ _ _).e2
  rw [w3, w4, w5]
  ihave HJ := (chunk_join c arg14 (fun n => arg14.view.writes (Elt F) X [⟨chunkRect n, ReadAs.same.apply ((arg3.slice (chunkRect n) (fun _ => rfl)).view.read (Elt F) G)⟩]) I.g
    (fun n y hy => (landed arg14 arg3 n _ G X y hy).trans (congrFun eg y))) $$ [P0 P1 P2 P3 P4 P5 P6 P7 P8 P9 P10 P11 P12 P13]
  · rw [bigSep_14]
    isplitl [P0]
    · iexact P0
    isplitl [P1]
    · iexact P1
    isplitl [P2]
    · iexact P2
    isplitl [P3]
    · iexact P3
    isplitl [P4]
    · iexact P4
    isplitl [P5]
    · iexact P5
    isplitl [P6]
    · iexact P6
    isplitl [P7]
    · iexact P7
    isplitl [P8]
    · iexact P8
    isplitl [P9]
    · iexact P9
    isplitl [P10]
    · iexact P10
    isplitl [P11]
    · iexact P11
    isplitl [P12]
    · iexact P12
    iexact P13
  icases HJ with ⟨%X', HJ, %hX⟩
  iapply wp_wand_r
  isplitl [H4 H5 H6 H7 H8 HJ H9 H10 H11 H12 H13]
  · iapply (stripsRun Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2 _ I X4 X5 X6 X7 X8 X' e4 e5 e6 e7 e8 hX f9 f10 f11 f12 f13)
    sl_close
  iintro %_ Hs
  have hrows : Rows arg15 (arg15.view.writes (Elt F) f15 (firstRun.sl.HS_3 arg1 arg2 f1 f2 acc)) I.v3 I.v4 I.v5 := by
    rw [← ev3, ← ev4, ← ev5, hI]
    exact rows_of arg15 _ _ _ _
  isplitl [H1]
  · iexact H1
  isplitl [H2]
  · iexact H2
  isplitl [HG]
  · iexact HG
  isplitl [Q0 Q1 Q2 Q3 Q4 Q5 Q6 Q7 Q8 Q9 Q10 Q11 Q12 Q13]
  · isplitl [Q0]
    · iexact Q0
    isplitl [Q1]
    · iexact Q1
    isplitl [Q2]
    · iexact Q2
    isplitl [Q3]
    · iexact Q3
    isplitl [Q4]
    · iexact Q4
    isplitl [Q5]
    · iexact Q5
    isplitl [Q6]
    · iexact Q6
    isplitl [Q7]
    · iexact Q7
    isplitl [Q8]
    · iexact Q8
    isplitl [Q9]
    · iexact Q9
    isplitl [Q10]
    · iexact Q10
    isplitl [Q11]
    · iexact Q11
    isplitl [Q12]
    · iexact Q12
    iexact Q13
  isplitl [HW]
  · iexists _; iexact HW
  isplitl [HS]
  · iexists _
    isplitl [HS]
    · iexact HS
    ipureintro; exact hrows
  iexists X'
  isplitr [Hs]
  · ipureintro; exact hX
  iexact Hs

end Cert.Kernel.Run
end
-- ==== Proof.Later.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic
public import Idealize.ShloMosaic.Lib.Ring
public import proofs.«01_k».proof.Proof.Chunks
public import proofs.«01_k».proof.Proof.Scratch
public import proofs.«01_k».proof.Proof.MainLoop
public import proofs.«01_k».proof.Proof.Prologue

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

set_option maxHeartbeats 1000000
/-- Every later grid point: the scalar rows are loaded and the strips run. -/
theorem laterRun (c : Dev nD) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole)  (k0_h1 : ¬ k0_cond1 i = 1#1)
    (X : Buf (Elt F) (arg14.view.loc (c : Thread nD τ))) (f15 : Buf (Elt F) (arg15.view.loc (c : Thread nD τ)))
    (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ)))
    (I : Ins F) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs)
    (eg : arg14.view.read (Elt F) X = I.g) (hR : Rows arg15 f15 I.v3 I.v4 I.v5) :
    iprop((arg15.view.loc (c : Thread nD τ) ↦[arg15.view.set]{fullShare} f15) ∗ (arg14.view.loc (c : Thread nD τ) ↦[arg14.view.set]{fullShare} X) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ wp frame (wpE (defs₀ (F := F)) Variants.none c none) Set.univ (cc0_adamw_int8 i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2) (fun _ =>
        iprop((∃ f, (arg15.view.loc (c : Thread nD τ) ↦[arg15.view.set]{fullShare} f) ∗ ⌜Rows arg15 f I.v3 I.v4 I.v5⌝)
        ∗ (∃ X', ⌜arg14.view.read (Elt F) X' = I.g⌝ ∗ stripInv c i I arg4 arg5 arg6 arg7 arg8 arg9 arg10 arg11 arg12 arg13 arg14 X4 X5 X6 X7 X8 X' 8))) := by
  simp only [cc0_adamw_int8_eq_skeleton]; unfold cc0_adamw_int8_skel
  iintro ⟨HS, H14, H4, H5, H6, H7, H8, H9, H10, H11, H12, H13⟩
  rw [dif_neg k0_h1]
  sl_exec
  have w3 := hR.e0
  have w4 := hR.e1
  have w5 := hR.e2
  rw [w3, w4, w5]
  iapply wp_wand_r
  isplitl [H4 H5 H6 H7 H8 H14 H9 H10 H11 H12 H13]
  · iapply (stripsRun Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2 _ I X4 X5 X6 X7 X8 X e4 e5 e6 e7 e8 eg f9 f10 f11 f12 f13)
    sl_close
  iintro %_ Hs
  isplitl [HS]
  · iexists _
    isplitl [HS]
    · iexact HS
    ipureintro; exact hR
  iexists X
  isplitr [Hs]
  · ipureintro; exact eg
  iexact Hs

end Cert.Kernel.Run
end
-- ==== Proof.Body.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic
public import Idealize.ShloMosaic.Lib.Ring
public import proofs.«01_k».proof.Proof.Gen.Kernel.Frame
public import proofs.«01_k».proof.Proof.Prologue
public import proofs.«01_k».proof.Proof.Later

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- The gradient in HBM, its copy in VMEM, and the three scalars' rows. -/
abbrev hbG : Memref sig .tc .hbm S7168x2048 .bf16 := Memref.whole main_arg1
abbrev scG : Memref sig .tc .vmem S7168x2048 .bf16 := Memref.whole cc0_scratch0
abbrev scS : Memref sig .tc .vmem S8x128 .f32 := Memref.whole cc0_scratch1

variable (m : (ℓ : Loc nD τ sig) → Buf (Elt F) ℓ) (ρ : Dev nD → PrngReg)

/-! ## The blocks a point leaves, from its tiles -/

/-- The block whose tile `(k, b)` is `T k b`. -/
def wideOf {e : EltTy} (T : Fin 8 → Fin 16 → S32x128.Idx → Elt F e) : S256x2048.Idx → Elt F e := fun y =>
  T ⟨(y 0).val / 32, by have h : (y 0).val < 256 := (y 0).isLt; omega⟩ ⟨(y 1).val / 128, by have h : (y 1).val < 2048 := (y 1).isLt; omega⟩
    (fun a => ⟨![(y 0).val % 32, (y 1).val % 128] a, by fin_cases a; exacts [Nat.mod_lt _ (by decide), Nat.mod_lt _ (by decide)]⟩)

/-- The block of scales whose tile `(k, b)` is `T k b`. -/
def colOf {e : EltTy} (T : Fin 8 → Fin 16 → S32x1.Idx → Elt F e) : S256x16.Idx → Elt F e := fun y =>
  T ⟨(y 0).val / 32, by have h : (y 0).val < 256 := (y 0).isLt; omega⟩ ⟨(y 1).val, (y 1).isLt⟩
    (fun a => ⟨![(y 0).val % 32, 0] a, by fin_cases a; exacts [Nat.mod_lt _ (by decide), Nat.zero_lt_one]⟩)

theorem WideDone.eq {e : EltTy} {A : S256x2048.Idx → Elt F e} {T : Fin 8 → Fin 16 → S32x128.Idx → Elt F e} (h : WideDone 8 A T) : A = wideOf T := by
  funext y
  have hy : (y 0).val < 256 := (y 0).isLt
  have hy1 : (y 1).val < 2048 := (y 1).isLt
  refine Eq.trans (congrArg A (funext fun a => Fin.ext ?_)) (h ⟨(y 0).val / 32, by omega⟩ (by show (y 0).val / 32 < 8; omega) ⟨(y 1).val / 128, by omega⟩ _)
  fin_cases a
  · show (y 0).val = 32 * ((y 0).val / 32) + 1 * ((y 0).val % 32); omega
  · show (y 1).val = 128 * ((y 1).val / 128) + 1 * ((y 1).val % 128); omega

theorem ColDone.eq {e : EltTy} {A : S256x16.Idx → Elt F e} {T : Fin 8 → Fin 16 → S32x1.Idx → Elt F e} (h : ColDone 8 A T) : A = colOf T := by
  funext y
  have hy : (y 0).val < 256 := (y 0).isLt
  have hy1 : (y 1).val < 16 := (y 1).isLt
  refine Eq.trans (congrArg A (funext fun a => Fin.ext ?_)) (h ⟨(y 0).val / 32, by omega⟩ (by show (y 0).val / 32 < 8; omega) ⟨(y 1).val, by omega⟩ _)
  fin_cases a
  · show (y 0).val = 32 * ((y 0).val / 32) + 1 * ((y 0).val % 32); omega
  · show (y 1).val = (y 1).val + 1 * 0; omega

/-! ## What the points read -/

abbrev p0 : Fin cfg0.N := ⟨0, by decide⟩

/-- The step count and the loss scale, and the gradient. -/
def tW (c : Dev nD) : Elt F .i32 := iblk m c 0 p0 ((Rect.unit (s := S1) ![0] S1.size inb_S1_S1_0).toLoadRect.idx (Shape.Idx.first (by decide)))
def lsW (c : Dev nD) : Elt F .f32 := iblk m c 1 p0 ((Rect.unit (s := S1) ![0] S1.size inb_S1_S1_0).toLoadRect.idx (Shape.Idx.first (by decide)))
abbrev gV (c : Dev nD) : Vec F S7168x2048 .bf16 := V m c main_arg1

/-- The blocks and rows point `t` computes from. -/
def insAt (c : Dev nD) (t : Fin cfg0.N) : Ins F :=
  ⟨iblk m c 2 t, iblk m c 3 t, iblk m c 4 t, iblk m c 5 t, iblk m c 6 t, gV m c, row0 (gV m c) (lsW m c), row1 (tW m c), row2 (tW m c)⟩

/-! ## The proof data -/

/-- The two scratches before point `t`: anything at first, then the gradient and the scalar rows. -/
def scratchAt (c : Dev nD) (t : ℕ) : sProp 𝕄 :=
  if t = 0 then iprop((∃ f, owns (c : Thread nD τ) scG fullShare f) ∗ (∃ f, owns (c : Thread nD τ) scS fullShare f))
  else iprop(owns (c : Thread nD τ) scG fullShare (gV m c)
    ∗ (∃ f, (scS.view.loc (c : Thread nD τ) ↦[scS.view.set]{fullShare} f) ∗ ⌜Rows scS f (row0 (gV m c) (lsW m c)) (row1 (tW m c)) (row2 (tW m c))⌝))

def PhiAt (c : Dev nD) (t : ℕ) : sProp 𝕄 :=
  iprop(scratchAt m c t ∗ (∃ r, prngReg c r) ∗ semsZero c ∗ (hbG.view.loc (c : Thread nD τ) ↦{fullShare} V m c main_arg1))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wideOf fun k b => (insAt m c t).d (grid0.coords t) k b
    | ⟨8, _⟩ => wideOf fun k b => k0_pay29 ((insAt m c t).m (grid0.coords t) k b)
    | ⟨9, _⟩ => colOf fun k b => k0_pay28 ((insAt m c t).m (grid0.coords t) k b)
    | ⟨10, _⟩ => wideOf fun k b => k0_pay32 (k0_pay31 ((insAt m c t).v (grid0.coords t) k b))
    | ⟨11, _⟩ => colOf fun k b => k0_pay30 ((insAt m c t).v (grid0.coords t) k b)
  Φ t := PhiAt m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = (wideOf fun k b => (insAt m c t).d (grid0.coords t) k b) := by dsimp only [dats]
theorem after_8 (c : Dev nD) (t : Fin cfg0.N) : (dats m 0 c).after 8 t = (wideOf fun k b => k0_pay29 ((insAt m c t).m (grid0.coords t) k b)) := by dsimp only [dats]
theorem after_9 (c : Dev nD) (t : Fin cfg0.N) : (dats m 0 c).after 9 t = (colOf fun k b => k0_pay28 ((insAt m c t).m (grid0.coords t) k b)) := by dsimp only [dats]
theorem after_10 (c : Dev nD) (t : Fin cfg0.N) : (dats m 0 c).after 10 t = (wideOf fun k b => k0_pay32 (k0_pay31 ((insAt m c t).v (grid0.coords t) k b))) := by dsimp only [dats]
theorem after_11 (c : Dev nD) (t : Fin cfg0.N) : (dats m 0 c).after 11 t = (colOf fun k b => k0_pay30 ((insAt m c t).v (grid0.coords t) k b)) := by dsimp only [dats]

theorem first_iff : ∀ t : Fin cfg0.N, k0_cond1 (grid0.coords t) = 1#1 ↔ t.val = 0 := by decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

set_option maxHeartbeats 1000000

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6, after_7, after_8, after_9, after_10, after_11]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt scratchAt
  rw [if_neg (Nat.succ_ne_zero t.val)]
  unfold owns
  by_cases h1 : k0_cond1 (grid0.coords t) = 1#1
  · have ht : t.val = 0 := (first_iff t).1 h1
    obtain rfl : t = p0 := Fin.ext ht
    rw [if_pos ht]
    iintro ⟨⟨⟨⟨%_, %X14, -, HS0⟩, ⟨%_, %f15, -, HS1⟩⟩, Hp, ⟨Q0, Q1, Q2, Q3, Q4, Q5, Q6, Q7, Q8, Q9, Q10, Q11, Q12, Q13⟩, HG⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, -, H7⟩, ⟨%d8, %f8, -, H8⟩, ⟨%d9, %f9, -, H9⟩, ⟨%d10, %f10, -, H10⟩, ⟨%d11, %f11, -, H11⟩⟩
    iapply wp_wand_r
    isplitl [HS0 HS1 Q0 Q1 Q2 Q3 Q4 Q5 Q6 Q7 Q8 Q9 Q10 Q11 Q12 Q13 HG HW H0 H1 H2 H3 H4 H5 H6 H7 H8 H9 H10 H11]
    · iapply (firstRun c (grid0.coords p0) (win0_0.stage (cfg0.slots p0 0)) (hstage0_0 ((cfg0.slots p0 0).cast nbuf0_0)) (win0_1.stage (cfg0.slots p0 1)) (hstage0_1 ((cfg0.slots p0 1).cast nbuf0_1)) hbG (Memref.isWhole_whole _) (win0_2.stage (cfg0.slots p0 2)) (hstage0_2 ((cfg0.slots p0 2).cast nbuf0_2)) (win0_3.stage (cfg0.slots p0 3)) (hstage0_3 ((cfg0.slots p0 3).cast nbuf0_3)) (win0_4.stage (cfg0.slots p0 4)) (hstage0_4 ((cfg0.slots p0 4).cast nbuf0_4)) (win0_5.stage (cfg0.slots p0 5)) (hstage0_5 ((cfg0.slots p0 5).cast nbuf0_5)) (win0_6.stage (cfg0.slots p0 6)) (hstage0_6 ((cfg0.slots p0 6).cast nbuf0_6)) (win0_7.stage (cfg0.slots p0 7)) (hstage0_7 ((cfg0.slots p0 7).cast nbuf0_7)) (win0_8.stage (cfg0.slots p0 8)) (hstage0_8 ((cfg0.slots p0 8).cast nbuf0_8)) (win0_9.stage (cfg0.slots p0 9)) (hstage0_9 ((cfg0.slots p0 9).cast nbuf0_9)) (win0_10.stage (cfg0.slots p0 10)) (hstage0_10 ((cfg0.slots p0 10).cast nbuf0_10)) (win0_11.stage (cfg0.slots p0 11)) (hstage0_11 ((cfg0.slots p0 11).cast nbuf0_11)) scG (Memref.isWhole_whole _) scS (Memref.isWhole_whole _) h1 f0 f1 (V m c main_arg1) X14 f15 f2 f3 f4 f5 f6 f7 f8 f9 f10 f11 W (insAt m c p0) e2 e3 e4 e5 e6 rfl (congrArg (row0 (gV m c)) (congrFun e1 _)) (congrArg row1 (congrFun e0 _)) (congrArg row2 (congrFun e0 _)))
      sl_close
    iintro %_ ⟨H0, H1, HG, Hq, ⟨%W', HW⟩, HSr, ⟨%X', %hX, H2, H3, H4, H5, H6, HS0, ⟨%g7, H7, %h7⟩, ⟨%g8, H8, %h8⟩, ⟨%g9, H9, %h9⟩, ⟨%g10, H10, %h10⟩, ⟨%g11, H11, %h11⟩⟩⟩
    isplitl [Hp HS0 HSr Hq HG]
    · isplitl [HS0 HSr]
      · isplitl [HS0]
        · iexists _
          isplitr [HS0]
          · ipureintro; exact hX
          iexact HS0
        iexact HSr
      isplitl [Hp]
      · iexact Hp
      isplitl [Hq]
      · iexact Hq
      iexact HG
    isplitl [HW]
    · iexists W'
      isplitr [HW]
      · ipureintro; exact fun _ _ => Or.inl trivial
      iexact HW
    isplitl [H0]
    · iexists f0
      isplitr [H0]
      · ipureintro; exact e0
      iexact H0
    isplitl [H1]
    · iexists f1
      isplitr [H1]
      · ipureintro; exact e1
      iexact H1
    isplitl [H2]
    · iexists f2
      isplitr [H2]
      · ipureintro; exact e2
      iexact H2
    isplitl [H3]
    · iexists f3
      isplitr [H3]
      · ipureintro; exact e3
      iexact H3
    isplitl [H4]
    · iexists f4
      isplitr [H4]
      · ipureintro; exact e4
      iexact H4
    isplitl [H5]
    · iexists f5
      isplitr [H5]
      · ipureintro; exact e5
      iexact H5
    isplitl [H6]
    · iexists f6
      isplitr [H6]
      · ipureintro; exact e6
      iexact H6
    isplitl [H7]
    · iexists g7
      isplitr [H7]
      · ipureintro; exact h7.eq
      iexact H7
    isplitl [H8]
    · iexists g8
      isplitr [H8]
      · ipureintro; exact h8.eq
      iexact H8
    isplitl [H9]
    · iexists g9
      isplitr [H9]
      · ipureintro; exact h9.eq
      iexact H9
    isplitl [H10]
    · iexists g10
      isplitr [H10]
      · ipureintro; exact h10.eq
      iexact H10
    iexists g11
    isplitr [H11]
    · ipureintro; exact h11.eq
    iexact H11
  · have ht : t.val ≠ 0 := fun h => h1 ((first_iff t).2 h)
    rw [if_neg ht]
    iintro ⟨⟨⟨⟨%X14, %hX14, HS0⟩, ⟨%f15, HS1, %hR⟩⟩, Hp, Hq, HG⟩, ⟨%W', -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, -, H7⟩, ⟨%d8, %f8, -, H8⟩, ⟨%d9, %f9, -, H9⟩, ⟨%d10, %f10, -, H10⟩, ⟨%d11, %f11, -, H11⟩⟩
    iapply wp_wand_r
    isplitl [HS0 HS1 H2 H3 H4 H5 H6 H7 H8 H9 H10 H11]
    · iapply (laterRun c (grid0.coords t) (win0_0.stage (cfg0.slots t 0)) (hstage0_0 ((cfg0.slots t 0).cast nbuf0_0)) (win0_1.stage (cfg0.slots t 1)) (hstage0_1 ((cfg0.slots t 1).cast nbuf0_1)) hbG (Memref.isWhole_whole _) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scG (Memref.isWhole_whole _) scS (Memref.isWhole_whole _) h1 X14 f15 f2 f3 f4 f5 f6 f7 f8 f9 f10 f11 (insAt m c t) e2 e3 e4 e5 e6 hX14 hR)
      sl_close
    iintro %_ ⟨HSr, ⟨%X', %hX, H2, H3, H4, H5, H6, HS0, ⟨%g7, H7, %h7⟩, ⟨%g8, H8, %h8⟩, ⟨%g9, H9, %h9⟩, ⟨%g10, H10, %h10⟩, ⟨%g11, H11, %h11⟩⟩⟩
    isplitl [Hp HS0 HSr Hq HG]
    · isplitl [HS0 HSr]
      · isplitl [HS0]
        · iexists _
          isplitr [HS0]
          · ipureintro; exact hX
          iexact HS0
        iexact HSr
      isplitl [Hp]
      · iexact Hp
      isplitl [Hq]
      · iexact Hq
      iexact HG
    isplitl [HW]
    · iexists W'
      isplitr [HW]
      · ipureintro; exact fun _ _ => Or.inl trivial
      iexact HW
    isplitl [H0]
    · iexists f0
      isplitr [H0]
      · ipureintro; exact e0
      iexact H0
    isplitl [H1]
    · iexists f1
      isplitr [H1]
      · ipureintro; exact e1
      iexact H1
    isplitl [H2]
    · iexists f2
      isplitr [H2]
      · ipureintro; exact e2
      iexact H2
    isplitl [H3]
    · iexists f3
      isplitr [H3]
      · ipureintro; exact e3
      iexact H3
    isplitl [H4]
    · iexists f4
      isplitr [H4]
      · ipureintro; exact e4
      iexact H4
    isplitl [H5]
    · iexists f5
      isplitr [H5]
      · ipureintro; exact e5
      iexact H5
    isplitl [H6]
    · iexists f6
      isplitr [H6]
      · ipureintro; exact e6
      iexact H6
    isplitl [H7]
    · iexists g7
      isplitr [H7]
      · ipureintro; exact h7.eq
      iexact H7
    isplitl [H8]
    · iexists g8
      isplitr [H8]
      · ipureintro; exact h8.eq
      iexact H8
    isplitl [H9]
    · iexists g9
      isplitr [H9]
      · ipureintro; exact h9.eq
      iexact H9
    isplitl [H10]
    · iexists g10
      isplitr [H10]
      · ipureintro; exact h10.eq
      iexact H10
    iexists g11
    isplitr [H11]
    · ipureintro; exact h11.eq
    iexact H11

end Cert.Kernel.Run
end
-- ==== Proof.Frame.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Tactic
public import Idealize.ShloMosaic.Lib.Ring
public import proofs.«01_k».proof.Proof.Gen.Kernel.Frame
public import proofs.«01_k».proof.Proof.Body

@[expose] public section

set_option maxRecDepth 16384
set_option warn.classDefReducibility false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the launch hands over: the scratches, the fourteen counters, the gradient in HBM -/

set_option maxHeartbeats 800000 in
/-- @main up to the region, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The counters the body's transfers of the gradient complete on. -/
abbrev osem0 : Fin 14 → SemLoc sig := fun j => (![SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35] : Fin 14 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = semsZero c := by
  rw [Pipeline.ownSems0_eq_of_list c osem0 [0, 1, 2, 3, 4, 5, 6, 7, 8, 9, 10, 11, 12, 13] (by decide) (by decide)]; rfl

/-- The array in HBM the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (hbG.view.loc (c : Thread nD τ) ↦{fullShare} V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ f, owns (c : Thread nD τ) scG fullShare f) ∗ (∃ f, owns (c : Thread nD τ) scS fullShare f))
          ∗ (∃ r, prngReg c r) ∗ semsZero c ∗ (hbG.view.loc (c : Thread nD τ) ↦{fullShare} V m c main_arg1)) := by
  rw [Pipeline.ΦD_eq, scopedRest0_eq, ownSems00_eq, hbmPts0_eq]
  simp only [scG, scS, owns_whole]; try rfl

theorem phi_in (c : Dev nD) : (Pipeline.ΦD osem0 spec0 H0 (V m) c : sProp 𝕄) ⊢ (dats m 0 c).Φ 0 := by
  rw [PhiD0_eq]
  show _ ⊢ PhiAt m c 0
  unfold PhiAt scratchAt
  rw [if_pos rfl]

theorem phi_out (c : Dev nD) : (dats m 0 c).Φ (Fin.last cfg0.N) ⊢ (Pipeline.ΦD osem0 spec0 H0 (V m) c : sProp 𝕄) := by
  rw [PhiD0_eq]
  show PhiAt m c (Fin.last cfg0.N).val ⊢ _
  unfold PhiAt scratchAt
  rw [if_neg (by decide)]
  iintro ⟨⟨HG, ⟨%f, HS, -⟩⟩, Hp, Hq, Hh⟩
  isplitl [HG HS]
  · isplitl [HG]
    · iexists _; iexact HG
    iexists _
    unfold owns
    iexists f
    isplitr [HS]
    · ipureintro; rfl
    iexact HS
  isplitl [Hp]
  · iexact Hp
  isplitl [Hq]
  · iexact Hq
  iexact Hh

/-! ## The run and the frame -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends as the points left it, every other buffer as launched, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The argument arrays end as they began. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: the argument arrays end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m r h.1 c, h.2⟩) (run_main m ρ)

end Cert.Kernel.Run
end
-- ==== Proof.IdealChunks.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- The 16 rows of a chunk's `k`-th slab lie among the chunk's 512 rows. -/
theorem slab_sub {off off' : Fin 2 → ℕ} {inb : ∀ a, off a + S16x2048.size a ≤ S7168x2048.size a}
    {inb' : ∀ a, off' a + S512x2048.size a ≤ S7168x2048.size a} (k b : ℕ) (hk : k < 32)
    (h : off = ![16 * k + b, 0]) (h' : off' = ![b, 0]) :
    (Rect.unit (s := S7168x2048) off S16x2048.size inb).set ⊆ (Rect.unit (s := S7168x2048) off' S512x2048.size inb').set := by
  intro x hx
  rw [Rect.mem_set_unit] at hx ⊢
  subst h h'
  have h0 := hx 0
  have h1 := hx 1
  intro a
  fin_cases a <;> simp at h0 h1 ⊢ <;> omega

/-- The 16 rows of the gradient scratch that a trip's load through `r` reads are those of the chunk `R` when `r` lies in it. -/
theorem slabTrip (𝒱 : Variants) (c : Dev nD) (bd : Option 𝒱.V) (E : Set ℕ) (arg14 : Memref sig .tc .vmem S7168x2048 .bf16)
    (R : Rect S7168x2048) (X : BufTy.Contents (Elt F) arg14.view.ty) (off : Fin 2 → ℕ)
    (inb : ∀ a, off a + S16x2048.size a ≤ S7168x2048.size a)
    (hsub : (Rect.unit (s := S7168x2048) off S16x2048.size inb).set ⊆ R.set)
    (upd : FVec F S8x128 .f32 → Vec F S16x2048 .bf16 → FVec F S8x128 .f32) (acc : FVec F S8x128 .f32) (Q : FVec F S8x128 .f32 → sProp 𝕄)
    (hQ : (iprop(arg14.view.loc (c : Thread nD τ) ↦[arg14.view.setOn R.set]{fullShare} X) : sProp 𝕄)
      ⊢ Q (upd acc (arg14.view.readAt (Elt F) (Rect.unit (s := S7168x2048) off S16x2048.size inb).toLoadRect X))) :
    (iprop(arg14.view.loc (c : Thread nD τ) ↦[arg14.view.setOn R.set]{fullShare} X) : sProp 𝕄)
      ⊢ wp frame (wpE (defs₀ (F := F)) 𝒱 (c : Thread nD τ) bd) E
          (do let v ← Prog.lift (.load arg14 (Rect.unit (s := S7168x2048) off S16x2048.size inb).toLoadRect (View.loadsAt_vmem h_S16x2048))
              pure (upd acc v) : Prog (TpuEff nD τ sig (Elt F) Λ₀ .tc) (FVec F S8x128 .f32)) Q := by
  have h1 : (iprop(arg14.view.loc (c : Thread nD τ) ↦[arg14.view.setOn R.set]{fullShare} X) : sProp 𝕄)
      ⊢ wp frame (wpE (defs₀ (F := F)) 𝒱 (c : Thread nD τ) bd) E
          (pure (upd acc (arg14.view.readAt (Elt F) (Rect.unit (s := S7168x2048) off S16x2048.size inb).toLoadRect X)) : Prog (TpuEff nD τ sig (Elt F) Λ₀ .tc) (FVec F S8x128 .f32)) Q := by
    iintro H
    sl_step
    iapply hQ $$ H
  iintro H
  iapply (wp_load (defs := defs₀ (F := F)) 𝒱 (c : Thread nD τ) bd E (m := arg14) (S := arg14.view.setOn R.set) (f := X) (hl := View.loadsAt_vmem h_S16x2048)
    (r := (Rect.unit (s := S7168x2048) off S16x2048.size inb).toLoadRect) (k := fun v => (pure (upd acc v))) (Finset.map_subset_map.2 hsub)) $$ H
  iintro H
  iapply h1 $$ H

/-- The accumulator before trip `k`: `step` at each trip in turn. -/
def accAt {n : ℕ} {α : Type} (step : Fin n → α → α) (init : α) : ℕ → α
  | 0 => init
  | k + 1 => if h : k < n then step ⟨k, h⟩ (accAt step init k) else accAt step init k

theorem accAt_succ {n : ℕ} {α : Type} (step : Fin n → α → α) (init : α) (k : Fin n) :
    accAt step init (k.val + 1) = step k (accAt step init k.val) := by
  simp [accAt]

/-- `acc` is the accumulator before trip `k` of the loop that starts from `init`. -/
structure AccIs {n : ℕ} {α : Type} (step : Fin n → α → α) (k : ℕ) (init acc : α) : Prop where
  eq : acc = accAt step init k

@[refl] theorem AccIs.zero {n : ℕ} {α : Type} (step : Fin n → α → α) (init : α) : AccIs step 0 init init := ⟨rfl⟩

theorem AccIs.succ {n : ℕ} {α : Type} {step : Fin n → α → α} {k : Fin n} {init acc : α} (h : AccIs step k.val init acc) :
    AccIs step (k.val + 1) init (step k acc) := ⟨by rw [accAt_succ, ← h.eq]⟩

/-- One trip of a chunk's loop, from the accumulator before it to the accumulator after it. -/
theorem slabStep (𝒱 : Variants) (c : Dev nD) (bd : Option 𝒱.V) (E : Set ℕ) (arg14 : Memref sig .tc .vmem S7168x2048 .bf16)
    (R : Rect S7168x2048) (X : BufTy.Contents (Elt F) arg14.view.ty) {n : ℕ} (off : Fin n → Fin 2 → ℕ)
    (inb : ∀ k a, off k a + S16x2048.size a ≤ S7168x2048.size a)
    (upd : FVec F S8x128 .f32 → Vec F S16x2048 .bf16 → FVec F S8x128 .f32) (init acc : FVec F S8x128 .f32) (k : Fin n)
    (hsub : (Rect.unit (s := S7168x2048) (off k) S16x2048.size (inb k)).set ⊆ R.set) :
    (iprop((arg14.view.loc (c : Thread nD τ) ↦[arg14.view.setOn R.set]{fullShare} X)
        ∗ ⌜AccIs (fun j a => upd a (arg14.view.readAt (Elt F) (Rect.unit (s := S7168x2048) (off j) S16x2048.size (inb j)).toLoadRect X)) k.val init acc⌝) : sProp 𝕄)
      ⊢ wp frame (wpE (defs₀ (F := F)) 𝒱 (c : Thread nD τ) bd) E
          (do let v ← Prog.lift (.load arg14 (Rect.unit (s := S7168x2048) (off k) S16x2048.size (inb k)).toLoadRect (View.loadsAt_vmem h_S16x2048))
              pure (upd acc v) : Prog (TpuEff nD τ sig (Elt F) Λ₀ .tc) (FVec F S8x128 .f32))
          (fun y => iprop((arg14.view.loc (c : Thread nD τ) ↦[arg14.view.setOn R.set]{fullShare} X)
            ∗ ⌜AccIs (fun j a => upd a (arg14.view.readAt (Elt F) (Rect.unit (s := S7168x2048) (off j) S16x2048.size (inb j)).toLoadRect X)) (k.val + 1) init y⌝)) := by
  iintro ⟨H, %hacc⟩
  iapply (slabTrip 𝒱 c bd E arg14 R X (off k) (inb k) hsub upd acc _ ?_) $$ H
  iintro H
  isplitl [H]
  · iexact H
  ipureintro
  exact hacc.succ

variable (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14)

/-- The invariant of the sum over chunk 1: the chunk's rows stay, the accumulator is the one before the trip. -/
@[sl_loop] def sumInv1 (𝒱 : Variants) (c : Dev nD) (bd : Option 𝒱.V) (E : Set ℕ) (i : grid0.Coords) (k0_h1 : k0_cond1 i = 1#1)
    (v64 : Elt F .f32) (init : FVec F S8x128 .f32) (X : BufTy.Contents (Elt F) arg14.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v64 init where
  inv k acc := iprop((arg14.view.loc (c : Thread nD τ) ↦[arg14.view.setOn (Rect.unit (s := S7168x2048) ![0, 0] S512x2048.size inb_S7168x2048_S512x2048_0_0).set]{fullShare} X)
    ∗ ⌜AccIs (fun j a => k0_pay7 (k0_pay3 v64) a (arg14.view.readAt (Elt F) (Rect.unit (s := S7168x2048) (k0_off1 j) S16x2048.size (k0_off1_inb i j k0_h1)).toLoadRect X)) k init acc⌝)
  step k acc := slabStep 𝒱 c bd E arg14 _ X k0_off1 (fun j => k0_off1_inb i j k0_h1) (k0_pay7 (k0_pay3 v64)) init acc k
    (slab_sub k.val 0 (Nat.lt_of_lt_of_le k.isLt k0_t1_abs.2.1) (k0_off1_eq k) rfl)

/-- The invariant of the sum over chunk 2: the chunk's rows stay, the accumulator is the one before the trip. -/
@[sl_loop] def sumInv2 (𝒱 : Variants) (c : Dev nD) (bd : Option 𝒱.V) (E : Set ℕ) (i : grid0.Coords) (k0_h1 : k0_cond1 i = 1#1)
    (v64 : Elt F .f32) (init : FVec F S8x128 .f32) (X : BufTy.Contents (Elt F) arg14.view.ty) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v64 init where
  inv k acc := iprop((arg14.view.loc (c : Thread nD τ) ↦[arg14.view.setOn (Rect.unit (s := S7168x2048) ![512, 0] S512x2048.size inb_S7168x2048_S512x2048_512_0).set]{fullShare} X)
    ∗ ⌜AccIs (fun j a => k0_pay7 (k0_pay3 v64) a (arg14.view.readAt (Elt F) (Rect.unit (s := S7168x2048) (k0_off2 j) S16x2048.size (k0_off2_inb i j k0_h1)).toLoadRect X)) k init acc⌝)
  step k acc := slabStep 𝒱 c bd E arg14 _ X k0_off2 (fun j => k0_off2_inb i j k0_h1) (k0_pay7 (k0_pay3 v64)) init acc k
    (slab_sub k.val 512 (Nat.lt_of_lt_of_le k.isLt k0_t2_abs.2.1) (k0_off2_eq k) rfl)

/-- The invariant of the sum over chunk 3: the chunk's rows stay, the accumulator is the one before the trip. -/
@[sl_loop] def sumInv3 (𝒱 : Variants) (c : Dev nD) (bd : Option 𝒱.V) (E : Set ℕ) (i : grid0.Coords) (k0_h1 : k0_cond1 i = 1#1)
    (v66 : FVec F S1x1 .f32) (v79 : FVec F S8x128 .f32) (init : FVec F S8x128 .f32) (X : BufTy.Contents (Elt F) arg14.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v79 init where
  inv k acc := iprop((arg14.view.loc (c : Thread nD τ) ↦[arg14.view.setOn (Rect.unit (s := S7168x2048) ![1024, 0] S512x2048.size inb_S7168x2048_S512x2048_1024_0).set]{fullShare} X)
    ∗ ⌜AccIs (fun j a => k0_pay7 v66 a (arg14.view.readAt (Elt F) (Rect.unit (s := S7168x2048) (k0_off3 j) S16x2048.size (k0_off3_inb i j k0_h1)).toLoadRect X)) k init acc⌝)
  step k acc := slabStep 𝒱 c bd E arg14 _ X k0_off3 (fun j => k0_off3_inb i j k0_h1) (k0_pay7 v66) init acc k
    (slab_sub k.val 1024 (Nat.lt_of_lt_of_le k.isLt k0_t3_abs.2.1) (k0_off3_eq k) rfl)

/-- The invariant of the sum over chunk 4: the chunk's rows stay, the accumulator is the one before the trip. -/
@[sl_loop] def sumInv4 (𝒱 : Variants) (c : Dev nD) (bd : Option 𝒱.V) (E : Set ℕ) (i : grid0.Coords) (k0_h1 : k0_cond1 i = 1#1)
    (v66 : FVec F S1x1 .f32) (v79 : FVec F S8x128 .f32) (init : FVec F S8x128 .f32) (X : BufTy.Contents (Elt F) arg14.view.ty) :
    LoopInvTy_k0_t4 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v79 init where
  inv k acc := iprop((arg14.view.loc (c : Thread nD τ) ↦[arg14.view.setOn (Rect.unit (s := S7168x2048) ![1536, 0] S512x2048.size inb_S7168x2048_S512x2048_1536_0).set]{fullShare} X)
    ∗ ⌜AccIs (fun j a => k0_pay7 v66 a (arg14.view.readAt (Elt F) (Rect.unit (s := S7168x2048) (k0_off4 j) S16x2048.size (k0_off4_inb i j k0_h1)).toLoadRect X)) k init acc⌝)
  step k acc := slabStep 𝒱 c bd E arg14 _ X k0_off4 (fun j => k0_off4_inb i j k0_h1) (k0_pay7 v66) init acc k
    (slab_sub k.val 1536 (Nat.lt_of_lt_of_le k.isLt k0_t4_abs.2.1) (k0_off4_eq k) rfl)

/-- The invariant of the sum over chunk 5: the chunk's rows stay, the accumulator is the one before the trip. -/
@[sl_loop] def sumInv5 (𝒱 : Variants) (c : Dev nD) (bd : Option 𝒱.V) (E : Set ℕ) (i : grid0.Coords) (k0_h1 : k0_cond1 i = 1#1)
    (v66 : FVec F S1x1 .f32) (v79 : FVec F S8x128 .f32) (init : FVec F S8x128 .f32) (X : BufTy.Contents (Elt F) arg14.view.ty) :
    LoopInvTy_k0_t5 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v79 init where
  inv k acc := iprop((arg14.view.loc (c : Thread nD τ) ↦[arg14.view.setOn (Rect.unit (s := S7168x2048) ![2048, 0] S512x2048.size inb_S7168x2048_S512x2048_2048_0).set]{fullShare} X)
    ∗ ⌜AccIs (fun j a => k0_pay7 v66 a (arg14.view.readAt (Elt F) (Rect.unit (s := S7168x2048) (k0_off5 j) S16x2048.size (k0_off5_inb i j k0_h1)).toLoadRect X)) k init acc⌝)
  step k acc := slabStep 𝒱 c bd E arg14 _ X k0_off5 (fun j => k0_off5_inb i j k0_h1) (k0_pay7 v66) init acc k
    (slab_sub k.val 2048 (Nat.lt_of_lt_of_le k.isLt k0_t5_abs.2.1) (k0_off5_eq k) rfl)

/-- The invariant of the sum over chunk 6: the chunk's rows stay, the accumulator is the one before the trip. -/
@[sl_loop] def sumInv6 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t6 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![2560, 0] S512x2048.size inb_S7168x2048_S512x2048_2560_0).set]{fullShare} X)
    ∗ ⌜AccIs (fun j a => k0_pay7 v66 a (arg14.view.readAt (Elt F) (Rect.unit (s := S7168x2048) (k0_off6 j) S16x2048.size (k0_off6_inb i j k0_h1)).toLoadRect X)) k init acc⌝)
  step k acc := slabStep 𝒱 c bd E arg14 _ X k0_off6 (fun j => k0_off6_inb i j k0_h1) (k0_pay7 v66) init acc k
    (slab_sub k.val 2560 (Nat.lt_of_lt_of_le k.isLt k0_t6_abs.2.1) (k0_off6_eq k) rfl)

/-- The invariant of the sum over chunk 7: the chunk's rows stay, the accumulator is the one before the trip. -/
@[sl_loop] def sumInv7 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t7 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![3072, 0] S512x2048.size inb_S7168x2048_S512x2048_3072_0).set]{fullShare} X)
    ∗ ⌜AccIs (fun j a => k0_pay7 v66 a (arg14.view.readAt (Elt F) (Rect.unit (s := S7168x2048) (k0_off7 j) S16x2048.size (k0_off7_inb i j k0_h1)).toLoadRect X)) k init acc⌝)
  step k acc := slabStep 𝒱 c bd E arg14 _ X k0_off7 (fun j => k0_off7_inb i j k0_h1) (k0_pay7 v66) init acc k
    (slab_sub k.val 3072 (Nat.lt_of_lt_of_le k.isLt k0_t7_abs.2.1) (k0_off7_eq k) rfl)

/-- The invariant of the sum over chunk 8: the chunk's rows stay, the accumulator is the one before the trip. -/
@[sl_loop] def sumInv8 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t8 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![3584, 0] S512x2048.size inb_S7168x2048_S512x2048_3584_0).set]{fullShare} X)
    ∗ ⌜AccIs (fun j a => k0_pay7 v66 a (arg14.view.readAt (Elt F) (Rect.unit (s := S7168x2048) (k0_off8 j) S16x2048.size (k0_off8_inb i j k0_h1)).toLoadRect X)) k init acc⌝)
  step k acc := slabStep 𝒱 c bd E arg14 _ X k0_off8 (fun j => k0_off8_inb i j k0_h1) (k0_pay7 v66) init acc k
    (slab_sub k.val 3584 (Nat.lt_of_lt_of_le k.isLt k0_t8_abs.2.1) (k0_off8_eq k) rfl)

/-- The invariant of the sum over chunk 9: the chunk's rows stay, the accumulator is the one before the trip. -/
@[sl_loop] def sumInv9 (𝒱 : Variants) (c : Dev nD) (bd : Option 𝒱.V) (E : Set ℕ) (i : grid0.Coords) (k0_h1 : k0_cond1 i = 1#1)
    (v66 : FVec F S1x1 .f32) (v97 : FVec F S8x128 .f32) (c0_i32_103 c32_i32_104 : BitVec 32) (init : FVec F S8x128 .f32) (X : BufTy.Contents (Elt F) arg14.view.ty) :
    LoopInvTy_k0_t9 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v97 c0_i32_103 c32_i32_104 init where
  inv k acc := iprop((arg14.view.loc (c : Thread nD τ) ↦[arg14.view.setOn (Rect.unit (s := S7168x2048) ![4096, 0] S512x2048.size inb_S7168x2048_S512x2048_4096_0).set]{fullShare} X)
    ∗ ⌜AccIs (fun j a => k0_pay7 v66 a (arg14.view.readAt (Elt F) (Rect.unit (s := S7168x2048) (k0_off9 j) S16x2048.size (k0_off9_inb i j k0_h1)).toLoadRect X)) k init acc⌝)
  step k acc := slabStep 𝒱 c bd E arg14 _ X k0_off9 (fun j => k0_off9_inb i j k0_h1) (k0_pay7 v66) init acc k
    (slab_sub k.val 4096 (Nat.lt_of_lt_of_le k.isLt k0_t9_abs.2.1) (k0_off9_eq k) rfl)

/-- The invariant of the sum over chunk 10: the chunk's rows stay, the accumulator is the one before the trip. -/
@[sl_loop] def sumInv10 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t10 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![4608, 0] S512x2048.size inb_S7168x2048_S512x2048_4608_0).set]{fullShare} X)
    ∗ ⌜AccIs (fun j a => k0_pay7 v66 a (arg14.view.readAt (Elt F) (Rect.unit (s := S7168x2048) (k0_off10 j) S16x2048.size (k0_off10_inb i j k0_h1)).toLoadRect X)) k init acc⌝)
  step k acc := slabStep 𝒱 c bd E arg14 _ X k0_off10 (fun j => k0_off10_inb i j k0_h1) (k0_pay7 v66) init acc k
    (slab_sub k.val 4608 (Nat.lt_of_lt_of_le k.isLt k0_t10_abs.2.1) (k0_off10_eq k) rfl)

/-- The invariant of the sum over chunk 11: the chunk's rows stay, the accumulator is the one before the trip. -/
@[sl_loop] def sumInv11 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t11 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![5120, 0] S512x2048.size inb_S7168x2048_S512x2048_5120_0).set]{fullShare} X)
    ∗ ⌜AccIs (fun j a => k0_pay7 v66 a (arg14.view.readAt (Elt F) (Rect.unit (s := S7168x2048) (k0_off11 j) S16x2048.size (k0_off11_inb i j k0_h1)).toLoadRect X)) k init acc⌝)
  step k acc := slabStep 𝒱 c bd E arg14 _ X k0_off11 (fun j => k0_off11_inb i j k0_h1) (k0_pay7 v66) init acc k
    (slab_sub k.val 5120 (Nat.lt_of_lt_of_le k.isLt k0_t11_abs.2.1) (k0_off11_eq k) rfl)

/-- The invariant of the sum over chunk 12: the chunk's rows stay, the accumulator is the one before the trip. -/
@[sl_loop] def sumInv12 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t12 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![5632, 0] S512x2048.size inb_S7168x2048_S512x2048_5632_0).set]{fullShare} X)
    ∗ ⌜AccIs (fun j a => k0_pay7 v66 a (arg14.view.readAt (Elt F) (Rect.unit (s := S7168x2048) (k0_off12 j) S16x2048.size (k0_off12_inb i j k0_h1)).toLoadRect X)) k init acc⌝)
  step k acc := slabStep 𝒱 c bd E arg14 _ X k0_off12 (fun j => k0_off12_inb i j k0_h1) (k0_pay7 v66) init acc k
    (slab_sub k.val 5632 (Nat.lt_of_lt_of_le k.isLt k0_t12_abs.2.1) (k0_off12_eq k) rfl)

/-- The invariant of the sum over chunk 13: the chunk's rows stay, the accumulator is the one before the trip. -/
@[sl_loop] def sumInv13 (𝒱 : Variants) (c : Dev nD) (bd : Option 𝒱.V) (E : Set ℕ) (i : grid0.Coords) (k0_h1 : k0_cond1 i = 1#1)
    (v66 : FVec F S1x1 .f32) (v121 : FVec F S8x128 .f32) (init : FVec F S8x128 .f32) (X : BufTy.Contents (Elt F) arg14.view.ty) :
    LoopInvTy_k0_t13 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v121 init where
  inv k acc := iprop((arg14.view.loc (c : Thread nD τ) ↦[arg14.view.setOn (Rect.unit (s := S7168x2048) ![6144, 0] S512x2048.size inb_S7168x2048_S512x2048_6144_0).set]{fullShare} X)
    ∗ ⌜AccIs (fun j a => k0_pay7 v66 a (arg14.view.readAt (Elt F) (Rect.unit (s := S7168x2048) (k0_off13 j) S16x2048.size (k0_off13_inb i j k0_h1)).toLoadRect X)) k init acc⌝)
  step k acc := slabStep 𝒱 c bd E arg14 _ X k0_off13 (fun j => k0_off13_inb i j k0_h1) (k0_pay7 v66) init acc k
    (slab_sub k.val 6144 (Nat.lt_of_lt_of_le k.isLt k0_t13_abs.2.1) (k0_off13_eq k) rfl)

/-- The invariant of the sum over chunk 14: the chunk's rows stay, the accumulator is the one before the trip. -/
@[sl_loop] def sumInv14 (𝒱 : Variants) (c : Dev nD) (bd : Option 𝒱.V) (E : Set ℕ) (i : grid0.Coords) (k0_h1 : k0_cond1 i = 1#1)
    (v66 : FVec F S1x1 .f32) (v145 : FVec F S8x128 .f32) (init : FVec F S8x128 .f32) (X : BufTy.Contents (Elt F) arg14.view.ty) :
    LoopInvTy_k0_t14 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v66 v145 init where
  inv k acc := iprop((arg14.view.loc (c : Thread nD τ) ↦[arg14.view.setOn (Rect.unit (s := S7168x2048) ![6656, 0] S512x2048.size inb_S7168x2048_S512x2048_6656_0).set]{fullShare} X)
    ∗ ⌜AccIs (fun j a => k0_pay7 v66 a (arg14.view.readAt (Elt F) (Rect.unit (s := S7168x2048) (k0_off14 j) S16x2048.size (k0_off14_inb i j k0_h1)).toLoadRect X)) k init acc⌝)
  step k acc := slabStep 𝒱 c bd E arg14 _ X k0_off14 (fun j => k0_off14_inb i j k0_h1) (k0_pay7 v66) init acc k
    (slab_sub k.val 6656 (Nat.lt_of_lt_of_le k.isLt k0_t14_abs.2.1) (k0_off14_eq k) rfl)

end Cert.KernelIdeal.Run
end
-- ==== Proof.IdealScratch.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import Idealize.ShloMosaic.Lib.WritesUnit
public import proofs.«01_k».proof.Proof.IdealChunks

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- Rows `[512 n, 512 n + 512)` of the gradient: what one transfer copies. -/
abbrev chunkRect (n : Fin 14) : Rect S7168x2048 :=
  Rect.unit (s := S7168x2048) ![512 * n.val, 0] S512x2048.size (by revert n; decide)

theorem chunk_mem (n : Fin 14) (y : S7168x2048.Idx) : y ∈ (chunkRect n).set ↔ (y 0).val / 512 = n.val := by
  rw [Rect.mem_set_unit]
  have hy1 : (y 1).val < 2048 := (y 1).isLt
  constructor
  · intro h
    have h0 : 512 * n.val ≤ (y 0).val ∧ (y 0).val < 512 * n.val + 512 := h 0
    omega
  · intro h a
    fin_cases a
    · show 512 * n.val ≤ (y 0).val ∧ (y 0).val < 512 * n.val + 512; omega
    · show 0 ≤ (y 1).val ∧ (y 1).val < 0 + 2048; omega

theorem chunk_cover (y : S7168x2048.Idx) : ∃ n, y ∈ (chunkRect n).set := by
  have hy : (y 0).val < 7168 := (y 0).isLt
  exact ⟨⟨(y 0).val / 512, by omega⟩, (chunk_mem _ y).2 rfl⟩

theorem chunk_disj {n n' : Fin 14} (h : n ≠ n') : Disjoint (chunkRect n).set (chunkRect n').set :=
  Finset.disjoint_left.2 fun y hy hy' => h (Fin.ext (((chunk_mem n y).1 hy).symm.trans ((chunk_mem n' y).1 hy')))

variable (c : Dev nD) (arg14 : Memref sig .tc .vmem S7168x2048 .bf16)

theorem chunk_sets_disj (n n' : Fin 14) (h : n ≠ n') :
    Disjoint (arg14.view.setOn (chunkRect n).set) (arg14.view.setOn (chunkRect n').set) :=
  (Finset.disjoint_map _).2 (chunk_disj h)

theorem chunk_sets_mem (z : arg14.view.ty.Idx) : (∃ n, z ∈ arg14.view.setOn (chunkRect n).set) ↔ z ∈ arg14.view.set := by
  constructor
  · rintro ⟨n, hz⟩
    simp only [View.setOn, Finset.mem_map] at hz
    obtain ⟨y, -, rfl⟩ := hz
    exact arg14.view.emb_mem_set y
  · intro hz
    simp only [View.set, Finset.mem_map] at hz
    obtain ⟨y, -, rfl⟩ := hz
    obtain ⟨n, hn⟩ := chunk_cover y
    exact ⟨n, arg14.view.mem_setOn.2 hn⟩

theorem bigSep_14 {M : Type} [URA M] (Φ : Fin 14 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The scratch held whole is held chunk by chunk. -/
theorem chunk_split (f : Buf (Elt F) (arg14.view.loc (c : Thread nD τ))) :
    (((arg14.view.loc (c : Thread nD τ)) ↦[arg14.view.set]{fullShare} f) : sProp 𝕄)
      = bigSep (Finset.univ : Finset (Fin 14)) fun n => ((arg14.view.loc (c : Thread nD τ)) ↦[arg14.view.setOn (chunkRect n).set]{fullShare} f) := by
  rw [← pointsTo_biUnion (ℓ := arg14.view.loc (c : Thread nD τ)) (Finset.univ : Finset (Fin 14)) (fun n => arg14.view.setOn (chunkRect n).set) (fun n _ n' _ hn => chunk_sets_disj arg14 n n' hn)]
  refine congrArg (fun I => (((arg14.view.loc (c : Thread nD τ)) ↦[I]{fullShare} f) : sProp 𝕄)) (Finset.ext fun z => ?_)
  rw [← chunk_sets_mem arg14 z]
  simp only [Finset.mem_biUnion, Finset.mem_univ, true_and]

/-- Chunks that read as `A` join to the scratch reading as `A`. -/
theorem chunk_join (fs : Fin 14 → Buf (Elt F) (arg14.view.loc (c : Thread nD τ))) (A : Vec F S7168x2048 .bf16)
    (h : ∀ n, ∀ y ∈ (chunkRect n).set, arg14.view.read (Elt F) (fs n) y = A y) :
    (bigSep (Finset.univ : Finset (Fin 14)) fun n => ((arg14.view.loc (c : Thread nD τ)) ↦[arg14.view.setOn (chunkRect n).set]{fullShare} fs n))
      ⊢ (iprop(∃ X : Buf (Elt F) (arg14.view.loc (c : Thread nD τ)), ((arg14.view.loc (c : Thread nD τ)) ↦[arg14.view.set]{fullShare} X) ∗ ⌜arg14.view.read (Elt F) X = A⌝) : sProp 𝕄) := by
  iintro H
  ihave H := (pointsTo_biUnion_join (ℓ := arg14.view.loc (c : Thread nD τ)) (Finset.univ : Finset (Fin 14)) (fun n => arg14.view.setOn (chunkRect n).set) fs (fs 0) (fun n _ n' _ hn => chunk_sets_disj arg14 n n' hn)) $$ H
  icases H with ⟨%g, %hg, H⟩
  iexists g
  isplitl [H]
  · refine Entails.of_eq (congrArg (fun I => (((arg14.view.loc (c : Thread nD τ)) ↦[I]{fullShare} g) : sProp 𝕄)) (Finset.ext fun z => ?_))
    rw [← chunk_sets_mem arg14 z]
    simp only [Finset.mem_biUnion, Finset.mem_univ, true_and]
  ipureintro
  funext y
  obtain ⟨n, hn⟩ := chunk_cover y
  rw [← h n y hn, View.read_apply, View.read_apply, hg n (Finset.mem_univ _) _ (arg14.view.mem_setOn.2 hn)]

/-- The 16 rows of a chunk's `j`-th trip. -/
abbrev slabRect (n : Fin 14) (j : Fin 32) : Rect S7168x2048 :=
  Rect.unit (s := S7168x2048) ![16 * j.val + 512 * n.val, 0] S16x2048.size (by
    have hn := n.isLt
    have hj := j.isLt
    intro a; fin_cases a
    · show 16 * j.val + 512 * n.val + 16 ≤ 7168; omega
    · show 0 + 2048 ≤ 2048; omega)

/-- The sum over one chunk, 16 rows at a time, from the accumulator `init`. -/
def chunkAcc (A : Vec F S7168x2048 .bf16) (inv : FVec F S1x1 .f32) (n : Fin 14) (init : FVec F S8x128 .f32) : FVec F S8x128 .f32 :=
  accAt (fun (j : Fin 32) a => k0_pay7 inv a (fun x => A ((slabRect n j).toLoadRect.idx x))) init 32

/-- A chunk's loop computes that sum. -/
theorem chunk_acc {N : ℕ} (hN : N = 32) {off : Fin N → Fin 2 → ℕ} {inb : ∀ k a, off k a + S16x2048.size a ≤ S7168x2048.size a}
    (n : Fin 14) (hoff : ∀ k, off k = ![16 * k.val + 512 * n.val, 0]) {inv : FVec F S1x1 .f32} {init acc : FVec F S8x128 .f32}
    {X : BufTy.Contents (Elt F) arg14.view.ty} (A : Vec F S7168x2048 .bf16)
    (hX : ∀ y ∈ (chunkRect n).set, arg14.view.read (Elt F) X y = A y)
    (h : AccIs (fun j a => k0_pay7 inv a (arg14.view.readAt (Elt F) (Rect.unit (s := S7168x2048) (off j) S16x2048.size (inb j)).toLoadRect X)) N init acc) :
    acc = chunkAcc A inv n init := by
  subst hN
  obtain ⟨rfl⟩ := h
  unfold chunkAcc
  congr 1
  funext j a
  congr 1
  have key : ∀ (o : Fin 2 → ℕ) (io : ∀ a, o a + S16x2048.size a ≤ S7168x2048.size a), o = ![16 * j.val + 512 * n.val, 0] →
      arg14.view.readAt (Elt F) (Rect.unit (s := S7168x2048) o S16x2048.size io).toLoadRect X = fun x => A ((slabRect n j).toLoadRect.idx x) := by
    intro o io ho
    subst ho
    funext x
    rw [View.readAt_apply]
    refine hX _ (slab_sub (inb := io) j.val (512 * n.val) j.isLt rfl rfl ?_)
    rw [← Rect.map_emb_univ]; exact Finset.mem_map_of_mem _ (Finset.mem_univ _)
  exact key _ _ (hoff j)

/-- The sum over every chunk, in order, from zero. -/
def sumAll (A : Vec F S7168x2048 .bf16) (inv : FVec F S1x1 .f32) : FVec F S8x128 .f32 :=
  accAt (fun n a => chunkAcc A inv n a) k0_pay4 14

/-- The scalar rows: the clipped gradient's factor, and the reciprocals of the two bias corrections. -/
def row0 (A : Vec F S7168x2048 .bf16) (ls : Elt F .f32) : FVec F S1x128 .f32 := k0_pay21 (k0_pay3 ls) (sumAll A (k0_pay3 ls))
def row1 (t : Elt F .i32) : FVec F S1x128 .f32 := k0_pay22 t
def row2 (t : Elt F .i32) : FVec F S1x128 .f32 := k0_pay1 (k0_pay20 t)

/-- What a chunk's transfer lands, read back, is the gradient there. -/
theorem landed (arg3 : Memref sig .tc .hbm S7168x2048 .bf16) (n : Fin 14) (hs) (G : BufTy.Contents (Elt F) arg3.view.ty) (X : BufTy.Contents (Elt F) arg14.view.ty) :
    ∀ y ∈ (chunkRect n).set, arg14.view.read (Elt F) (arg14.view.writes (Elt F) X
      [⟨chunkRect n, ReadAs.same.apply ((arg3.slice (chunkRect n) hs).view.read (Elt F) G)⟩]) y = arg3.view.read (Elt F) G y := by
  intro y hy
  rw [← Rect.map_emb_univ] at hy
  simp only [Finset.mem_map, Finset.mem_univ, true_and] at hy
  obtain ⟨x, rfl⟩ := hy
  exact View.read_writes_cons_emb _ _ _ _ _ x

theorem sumAll_eq (A : Vec F S7168x2048 .bf16) (inv : FVec F S1x1 .f32) :
    chunkAcc A inv 13 (chunkAcc A inv 12 (chunkAcc A inv 11 (chunkAcc A inv 10 (chunkAcc A inv 9 (chunkAcc A inv 8 (chunkAcc A inv 7
      (chunkAcc A inv 6 (chunkAcc A inv 5 (chunkAcc A inv 4 (chunkAcc A inv 3 (chunkAcc A inv 2 (chunkAcc A inv 1 (chunkAcc A inv 0 k0_pay4)))))))))))))
      = sumAll A inv := by
  have h (k : Fin 14) := accAt_succ (fun n a => chunkAcc A inv n a) k0_pay4 k
  have h0 : accAt (fun n a => chunkAcc A inv n a) k0_pay4 0 = k0_pay4 := rfl
  refine Eq.symm ((h 13).trans (congrArg (chunkAcc A inv 13) ?_))
  refine (h 12).trans (congrArg (chunkAcc A inv 12) ?_)
  refine (h 11).trans (congrArg (chunkAcc A inv 11) ?_)
  refine (h 10).trans (congrArg (chunkAcc A inv 10) ?_)
  refine (h 9).trans (congrArg (chunkAcc A inv 9) ?_)
  refine (h 8).trans (congrArg (chunkAcc A inv 8) ?_)
  refine (h 7).trans (congrArg (chunkAcc A inv 7) ?_)
  refine (h 6).trans (congrArg (chunkAcc A inv 6) ?_)
  refine (h 5).trans (congrArg (chunkAcc A inv 5) ?_)
  refine (h 4).trans (congrArg (chunkAcc A inv 4) ?_)
  refine (h 3).trans (congrArg (chunkAcc A inv 3) ?_)
  refine (h 2).trans (congrArg (chunkAcc A inv 2) ?_)
  refine (h 1).trans (congrArg (chunkAcc A inv 1) ?_)
  exact h 0

/-- What the three scalar rows hold. -/
structure Rows (arg15 : Memref sig .tc .vmem S8x128 .f32) (X : BufTy.Contents (Elt F) arg15.view.ty) (r0 r1 r2 : FVec F S1x128 .f32) : Prop where
  e0 : arg15.view.readAt (Elt F) (Rect.unit (s := S8x128) ![0, 0] S1x128.size inb_S8x128_S1x128_0_0).toLoadRect X = r0
  e1 : arg15.view.readAt (Elt F) (Rect.unit (s := S8x128) ![1, 0] S1x128.size inb_S8x128_S1x128_1_0).toLoadRect X = r1
  e2 : arg15.view.readAt (Elt F) (Rect.unit (s := S8x128) ![2, 0] S1x128.size inb_S8x128_S1x128_2_0).toLoadRect X = r2

theorem rows_of (arg15 : Memref sig .tc .vmem S8x128 .f32) (X : BufTy.Contents (Elt F) arg15.view.ty) (r0 r1 r2 : FVec F S1x128 .f32) :
    Rows arg15 (arg15.view.writes (Elt F) X [⟨Rect.unit (s := S8x128) ![2, 0] S1x128.size inb_S8x128_S1x128_2_0, r2⟩,
      ⟨Rect.unit (s := S8x128) ![1, 0] S1x128.size inb_S8x128_S1x128_1_0, r1⟩, ⟨Rect.unit (s := S8x128) ![0, 0] S1x128.size inb_S8x128_S1x128_0_0, r0⟩]) r0 r1 r2 := by
  have nm : ∀ (o o' : ℕ) (h) (x : (Rect.unit (s := S8x128) ![o, 0] S1x128.size h).shape.Idx), o < o' →
      (((Rect.unit (s := S8x128) ![o, 0] S1x128.size h).emb x) 0).val < o' := by
    intro o o' h x ho
    have hx : (x 0).val < 1 := (x 0).isLt
    show o + 1 * (x 0).val < o'
    omega
  constructor <;> funext x <;> rw [View.readAt_apply]
  · rw [View.read_writes_cons_unit_of_not_mem _ _ _ _ _ _ rfl (0 : Fin 2) (.inl (nm 0 2 _ x (by omega))),
      View.read_writes_cons_unit_of_not_mem _ _ _ _ _ _ rfl (0 : Fin 2) (.inl (nm 0 1 _ x (by omega)))]
    exact View.read_writes_cons_emb _ _ _ _ _ x
  · rw [View.read_writes_cons_unit_of_not_mem _ _ _ _ _ _ rfl (0 : Fin 2) (.inl (nm 1 2 _ x (by omega)))]
    exact View.read_writes_cons_emb _ _ _ _ _ x
  · exact View.read_writes_cons_emb _ _ _ _ _ x

end Cert.KernelIdeal.Run
end
-- ==== Proof.IdealStrip.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- One 128-column block's column of a strip's scales. -/
theorem col_slices (b : Fin 16) : S32x16.Slices ![0, b.val] S32x1 := by revert b; decide

/-- The new first moment of a strip's block `b`: the dequantised codes and the scaled gradient, decayed. -/
def mTile (b : Fin 16) (v3 : Vec F S1x128 .f32) (ms : Vec F S32x16 .f32) (g : Vec F S32x128 .bf16) (mc : Vec F S32x128 .i8) : FVec F S32x128 .f32 :=
  addf (mulf (broadcast S32x128 (Scalar.ofBits .f32 0x3F666666#32))
      (mulf (sitofp .f32 mc) (broadcastTo S32x128 (extractStridedSlice S32x1 ![0, b.val] ms (col_slices b)) broadcasts_S32x1_S32x128)))
    (mulf (broadcast S32x128 (Scalar.ofBits .f32 0x3DCCCCCD#32)) (k0_pay23 v3 g))

/-- The new second moment of a strip's block `b`. -/
def vTile (b : Fin 16) (v3 : Vec F S1x128 .f32) (vs : Vec F S32x16 .f32) (g : Vec F S32x128 .bf16) (vc : Vec F S32x128 .i8) : FVec F S32x128 .f32 :=
  addf (mulf (broadcast S32x128 (Scalar.ofBits .f32 0x3F7FBE77#32))
      (mulf (sitofp .f32 vc) (broadcastTo S32x128 (extractStridedSlice S32x1 ![0, b.val] vs (col_slices b)) broadcasts_S32x1_S32x128)))
    (mulf (broadcast S32x128 (Scalar.ofBits .f32 0x3A83126F#32)) (mulf (k0_pay23 v3 g) (k0_pay23 v3 g)))

/-- The update of a strip's block from its two moments and its parameters. -/
def dTile (v4 v5 : Vec F S1x128 .f32) (m v : FVec F S32x128 .f32) (p : Vec F S32x128 .f32) : FVec F S32x128 .f32 :=
  k0_pay27 (divf (mulf m (broadcastTo S32x128 v4 broadcasts_S1x128_S32x128))
    (addf (sqrt (mulf v (broadcastTo S32x128 v5 broadcasts_S1x128_S32x128))) (broadcast S32x128 (Scalar.ofBits .f32 0x322BCC77#32)))) p

/-- Rows `[32 k, 32 k + 32)` and columns `[128 b, 128 b + 128)` of a point's wide window. -/
abbrev wideRect (k : Fin 8) (b : Fin 16) : Rect S256x2048 :=
  Rect.unit (s := S256x2048) ![32 * k.val, 128 * b.val] S32x128.size (by revert k b; decide)

/-- Rows `[32 k, 32 k + 32)` of column `b` of a point's scale window. -/
abbrev colRect (k : Fin 8) (b : Fin 16) : Rect S256x16 :=
  Rect.unit (s := S256x16) ![32 * k.val, b.val] S32x1.size (by revert k b; decide)

/-- Rows `[32 k, 32 k + 32)` of a point's scale window. -/
abbrev scaleRect (k : Fin 8) : Rect S256x16 :=
  Rect.unit (s := S256x16) ![32 * k.val, 0] S32x16.size (by revert k; decide)

/-- The same block of the whole gradient, at point `i`. -/
abbrev gradRect (i : grid0.Coords) (k : Fin 8) (b : Fin 16) : Rect S7168x2048 :=
  Rect.unit (s := S7168x2048) ![256 * (i 0).val + 32 * k.val, 128 * b.val] S32x128.size (by
    have hi : (i 0).val < 28 := (i 0).isLt
    have hk := k.isLt
    have hb := b.isLt
    intro a; fin_cases a
    · show 256 * (i 0).val + 32 * k.val + 32 ≤ 7168; omega
    · show 128 * b.val + 128 ≤ 2048; omega)

/-- What a point reads: its windows of the parameters, codes and scales, the whole gradient, and the three scalars
    broadcast along a row. -/
structure Ins (F : FTy → Type) where
  p : Vec F S256x2048 .f32
  mc : Vec F S256x2048 .i8
  ms : Vec F S256x16 .f32
  vc : Vec F S256x2048 .i8
  vs : Vec F S256x16 .f32
  g : Vec F S7168x2048 .bf16
  v3 : Vec F S1x128 .f32
  v4 : Vec F S1x128 .f32
  v5 : Vec F S1x128 .f32

/-- The first moment of block `(k, b)` at point `i`. -/
def Ins.m (I : Ins F) (i : grid0.Coords) (k : Fin 8) (b : Fin 16) : FVec F S32x128 .f32 :=
  mTile b I.v3 (fun x => I.ms ((scaleRect k).toLoadRect.idx x)) (fun x => I.g ((gradRect i k b).toLoadRect.idx x)) (fun x => I.mc ((wideRect k b).toLoadRect.idx x))

/-- The second moment of block `(k, b)` at point `i`. -/
def Ins.v (I : Ins F) (i : grid0.Coords) (k : Fin 8) (b : Fin 16) : FVec F S32x128 .f32 :=
  vTile b I.v3 (fun x => I.vs ((scaleRect k).toLoadRect.idx x)) (fun x => I.g ((gradRect i k b).toLoadRect.idx x)) (fun x => I.vc ((wideRect k b).toLoadRect.idx x))

/-- The update of block `(k, b)` at point `i`. -/
def Ins.d (I : Ins F) (i : grid0.Coords) (k : Fin 8) (b : Fin 16) : FVec F S32x128 .f32 :=
  dTile I.v4 I.v5 (I.m i k b) (I.v i k b) (fun x => I.p ((wideRect k b).toLoadRect.idx x))

/-- The contents agree with the blocks `T` on the strips before `k`. -/
def WideDone {e : EltTy} (k : ℕ) (A : S256x2048.Idx → Elt F e) (T : Fin 8 → Fin 16 → S32x128.Idx → Elt F e) : Prop :=
  ∀ k' : Fin 8, k'.val < k → ∀ b x, A ((wideRect k' b).emb x) = T k' b x

/-- The same of a scale window. -/
def ColDone {e : EltTy} (k : ℕ) (A : S256x16.Idx → Elt F e) (T : Fin 8 → Fin 16 → S32x1.Idx → Elt F e) : Prop :=
  ∀ k' : Fin 8, k'.val < k → ∀ b x, A ((colRect k' b).emb x) = T k' b x

/-- A family of disjoint rectangles, each written once: an element of one reads that one's payload. -/
theorem read_pieces {s : Shape} {e : EltTy} (a : Memref sig .tc .vmem s e) (f : BufTy.Contents (Elt F) a.view.ty)
    {ι : Type} (r : ι → Rect s) (w : (b : ι) → (r b).shape.Idx → Elt F e)
    (hinj : ∀ b b' x x', (r b).emb x = (r b').emb x' → b = b') (L : List (View.Piece (Elt F) s e))
    (hL : ∀ p ∈ L, ∃ b, p = ⟨r b, w b⟩) (b : ι) (x : (r b).shape.Idx) (hb : (⟨r b, w b⟩ : View.Piece (Elt F) s e) ∈ L) :
    a.view.read (Elt F) (a.view.writes (Elt F) f L) ((r b).emb x) = w b x := by
  classical
  let G : s.Idx → Elt F e := fun y => if h : ∃ q : Σ b, (r b).shape.Idx, (r q.1).emb q.2 = y then w h.choose.1 h.choose.2 else w b x
  have hG : ∀ b x, G ((r b).emb x) = w b x := by
    intro b x
    have h : ∃ q : Σ b, (r b).shape.Idx, (r q.1).emb q.2 = (r b).emb x := ⟨⟨b, x⟩, rfl⟩
    show dite _ _ _ = _
    rw [dif_pos h]
    have hs := h.choose_spec
    generalize h.choose = q at hs
    obtain ⟨b', x'⟩ := q
    obtain rfl := hinj _ _ _ _ hs
    rw [(r b').emb.injective hs]
  rw [View.read_writes_apply_of_pieces a.view f G L ?_ _ ⟨_, hb, ?_⟩, hG]
  · rintro p hp x
    obtain ⟨b, rfl⟩ := hL p hp
    exact (hG b x).symm
  · rw [← Rect.map_emb_univ]; exact Finset.mem_map_of_mem _ (Finset.mem_univ _)

/-- The blocks of a strip, last written first. -/
abbrev blocks : List (Fin 16) := [15, 14, 13, 12, 11, 10, 9, 8, 7, 6, 5, 4, 3, 2, 1, 0]

theorem mem_blocks (b : Fin 16) : b ∈ blocks := by revert b; decide

theorem wideRect_inj {k k' : Fin 8} {b b' : Fin 16} {x x' : S32x128.Idx} (h : (wideRect k b).emb x = (wideRect k' b').emb x') :
    k = k' ∧ b = b' := by
  have h0 : 32 * k.val + 1 * (x 0).val = 32 * k'.val + 1 * (x' 0).val := congrArg (fun y : S256x2048.Idx => (y 0).val) h
  have h1 : 128 * b.val + 1 * (x 1).val = 128 * b'.val + 1 * (x' 1).val := congrArg (fun y : S256x2048.Idx => (y 1).val) h
  have hx0 : (x 0).val < 32 := (x 0).isLt
  have hx0' : (x' 0).val < 32 := (x' 0).isLt
  have hx1 : (x 1).val < 128 := (x 1).isLt
  have hx1' : (x' 1).val < 128 := (x' 1).isLt
  exact ⟨Fin.ext (by omega), Fin.ext (by omega)⟩

theorem colRect_inj {k k' : Fin 8} {b b' : Fin 16} {x x' : S32x1.Idx} (h : (colRect k b).emb x = (colRect k' b').emb x') :
    k = k' ∧ b = b' := by
  have h0 : 32 * k.val + 1 * (x 0).val = 32 * k'.val + 1 * (x' 0).val := congrArg (fun y : S256x16.Idx => (y 0).val) h
  have h1 : b.val + 1 * (x 1).val = b'.val + 1 * (x' 1).val := congrArg (fun y : S256x16.Idx => (y 1).val) h
  have hx0 : (x 0).val < 32 := (x 0).isLt
  have hx0' : (x' 0).val < 32 := (x' 0).isLt
  have hx1 : (x 1).val < 1 := (x 1).isLt
  have hx1' : (x' 1).val < 1 := (x' 1).isLt
  exact ⟨Fin.ext (by omega), Fin.ext (by omega)⟩

/-- The stores of strip `k` extend the strips done by one. -/
theorem WideDone.succ {e : EltTy} {T : Fin 8 → Fin 16 → S32x128.Idx → Elt F e} (a : Memref sig .tc .vmem S256x2048 e)
    (f : BufTy.Contents (Elt F) a.view.ty) (k : Fin 8) (L : List (View.Piece (Elt F) S256x2048 e))
    (hL : L = blocks.map fun b => ⟨wideRect k b, T k b⟩) (h : WideDone k.val (a.view.read (Elt F) f) T) :
    WideDone (k.val + 1) (a.view.read (Elt F) (a.view.writes (Elt F) f L)) T := by
  subst hL
  intro k' hk' b x
  by_cases hkk : k' = k
  · subst hkk
    exact read_pieces a f (fun b => wideRect k' b) (fun b => T k' b) (fun b b' x x' h => (wideRect_inj h).2) _
      (fun p hp => by obtain ⟨b, -, rfl⟩ := List.mem_map.1 hp; exact ⟨b, rfl⟩) b x (List.mem_map.2 ⟨b, mem_blocks b, rfl⟩)
  · rw [View.read_writes_apply_of_forall_not_mem, h k' (by have := Fin.val_ne_of_ne hkk; omega)]
    intro p hp hm
    obtain ⟨b', -, rfl⟩ := List.mem_map.1 hp
    obtain ⟨x', hx'⟩ := (wideRect k b').exists_idx_of_mem hm
    exact hkk (wideRect_inj hx'.symm).1

theorem ColDone.succ {e : EltTy} {T : Fin 8 → Fin 16 → S32x1.Idx → Elt F e} (a : Memref sig .tc .vmem S256x16 e)
    (f : BufTy.Contents (Elt F) a.view.ty) (k : Fin 8) (L : List (View.Piece (Elt F) S256x16 e))
    (hL : L = blocks.map fun b => ⟨colRect k b, T k b⟩) (h : ColDone k.val (a.view.read (Elt F) f) T) :
    ColDone (k.val + 1) (a.view.read (Elt F) (a.view.writes (Elt F) f L)) T := by
  subst hL
  intro k' hk' b x
  by_cases hkk : k' = k
  · subst hkk
    exact read_pieces a f (fun b => colRect k' b) (fun b => T k' b) (fun b b' x x' h => (colRect_inj h).2) _
      (fun p hp => by obtain ⟨b, -, rfl⟩ := List.mem_map.1 hp; exact ⟨b, rfl⟩) b x (List.mem_map.2 ⟨b, mem_blocks b, rfl⟩)
  · rw [View.read_writes_apply_of_forall_not_mem, h k' (by have := Fin.val_ne_of_ne hkk; omega)]
    intro p hp hm
    obtain ⟨b', -, rfl⟩ := List.mem_map.1 hp
    obtain ⟨x', hx'⟩ := (colRect k b').exists_idx_of_mem hm
    exact hkk (colRect_inj hx'.symm).1

variable {k : Fin 8} {b : Fin 16} {i : grid0.Coords}

/-- A store of a block at offsets `off` is the piece of that block. -/
theorem wide_piece {e : EltTy} {off : Fin 2 → ℕ} {inb : ∀ a, off a + S32x128.size a ≤ S256x2048.size a} {w w' : S32x128.Idx → Elt F e}
    (h : off = ![32 * k.val, 128 * b.val]) (hw : w = w') :
    (⟨Rect.unit (s := S256x2048) off S32x128.size inb, w⟩ : View.Piece (Elt F) S256x2048 e) = ⟨wideRect k b, w'⟩ := by
  subst h hw; rfl

theorem col_piece {e : EltTy} {off : Fin 2 → ℕ} {inb : ∀ a, off a + S32x1.size a ≤ S256x16.size a} {w w' : S32x1.Idx → Elt F e}
    (h : off = ![32 * k.val, b.val]) (hw : w = w') :
    (⟨Rect.unit (s := S256x16) off S32x1.size inb, w⟩ : View.Piece (Elt F) S256x16 e) = ⟨colRect k b, w'⟩ := by
  subst h hw; rfl

/-- The first moment computed from the loads of a block is the block's. -/
theorem m_eq {o6 : Fin 2 → ℕ} {o14 : Fin 2 → ℕ} {o5 : Fin 2 → ℕ} {i6 : ∀ a, o6 a + S32x16.size a ≤ S256x16.size a}
    {i14 : ∀ a, o14 a + S32x128.size a ≤ S7168x2048.size a} {i5 : ∀ a, o5 a + S32x128.size a ≤ S256x2048.size a} (I : Ins F)
    {a6 : Memref sig .tc .vmem S256x16 .f32} {a14 : Memref sig .tc .vmem S7168x2048 .bf16} {a5 : Memref sig .tc .vmem S256x2048 .i8}
    {X6 : BufTy.Contents (Elt F) a6.view.ty} {X14 : BufTy.Contents (Elt F) a14.view.ty} {X5 : BufTy.Contents (Elt F) a5.view.ty}
    (e6 : a6.view.read (Elt F) X6 = I.ms) (e14 : a14.view.read (Elt F) X14 = I.g) (e5 : a5.view.read (Elt F) X5 = I.mc)
    (h6 : o6 = ![32 * k.val, 0]) (h14 : o14 = ![256 * (i 0).val + 32 * k.val, 128 * b.val]) (h5 : o5 = ![32 * k.val, 128 * b.val]) :
    mTile b I.v3 (a6.view.readAt (Elt F) (Rect.unit (s := S256x16) o6 S32x16.size i6).toLoadRect X6)
      (a14.view.readAt (Elt F) (Rect.unit (s := S7168x2048) o14 S32x128.size i14).toLoadRect X14)
      (a5.view.readAt (Elt F) (Rect.unit (s := S256x2048) o5 S32x128.size i5).toLoadRect X5) = I.m i k b := by
  subst h6 h14 h5
  unfold Ins.m
  rw [← e6, ← e14, ← e5]; rfl

theorem v_eq {o6 : Fin 2 → ℕ} {o14 : Fin 2 → ℕ} {o5 : Fin 2 → ℕ} {i6 : ∀ a, o6 a + S32x16.size a ≤ S256x16.size a}
    {i14 : ∀ a, o14 a + S32x128.size a ≤ S7168x2048.size a} {i5 : ∀ a, o5 a + S32x128.size a ≤ S256x2048.size a} (I : Ins F)
    {a6 : Memref sig .tc .vmem S256x16 .f32} {a14 : Memref sig .tc .vmem S7168x2048 .bf16} {a5 : Memref sig .tc .vmem S256x2048 .i8}
    {X6 : BufTy.Contents (Elt F) a6.view.ty} {X14 : BufTy.Contents (Elt F) a14.view.ty} {X5 : BufTy.Contents (Elt F) a5.view.ty}
    (e6 : a6.view.read (Elt F) X6 = I.vs) (e14 : a14.view.read (Elt F) X14 = I.g) (e5 : a5.view.read (Elt F) X5 = I.vc)
    (h6 : o6 = ![32 * k.val, 0]) (h14 : o14 = ![256 * (i 0).val + 32 * k.val, 128 * b.val]) (h5 : o5 = ![32 * k.val, 128 * b.val]) :
    vTile b I.v3 (a6.view.readAt (Elt F) (Rect.unit (s := S256x16) o6 S32x16.size i6).toLoadRect X6)
      (a14.view.readAt (Elt F) (Rect.unit (s := S7168x2048) o14 S32x128.size i14).toLoadRect X14)
      (a5.view.readAt (Elt F) (Rect.unit (s := S256x2048) o5 S32x128.size i5).toLoadRect X5) = I.v i k b := by
  subst h6 h14 h5
  unfold Ins.v
  rw [← e6, ← e14, ← e5]; rfl

theorem d_eq {o4 : Fin 2 → ℕ} {i4 : ∀ a, o4 a + S32x128.size a ≤ S256x2048.size a} (I : Ins F) {m v : FVec F S32x128 .f32}
    {a4 : Memref sig .tc .vmem S256x2048 .f32} {X4 : BufTy.Contents (Elt F) a4.view.ty} (e4 : a4.view.read (Elt F) X4 = I.p)
    (h4 : o4 = ![32 * k.val, 128 * b.val]) (hm : m = I.m i k b) (hv : v = I.v i k b) :
    dTile I.v4 I.v5 m v (a4.view.readAt (Elt F) (Rect.unit (s := S256x2048) o4 S32x128.size i4).toLoadRect X4) = I.d i k b := by
  subst h4 hm hv
  unfold Ins.d
  rw [← e4]; rfl

end Cert.KernelIdeal.Run
end
-- ==== Proof.IdealMainLoop.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import proofs.«01_k».proof.Proof.IdealStrip

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- What a trip of the strips' loop holds: its inputs, and its outputs done on the strips before `k`. -/
abbrev stripInv (c : Dev nD) (i : grid0.Coords) (I : Ins F) (arg4 : Memref sig .tc .vmem S256x2048 .f32) (arg5 : Memref sig .tc .vmem S256x2048 .i8) (arg6 : Memref sig .tc .vmem S256x16 .f32) (arg7 : Memref sig .tc .vmem S256x2048 .i8) (arg8 : Memref sig .tc .vmem S256x16 .f32) (arg9 : Memref sig .tc .vmem S256x2048 .f32) (arg10 : Memref sig .tc .vmem S256x2048 .i8) (arg11 : Memref sig .tc .vmem S256x16 .f32) (arg12 : Memref sig .tc .vmem S256x2048 .i8) (arg13 : Memref sig .tc .vmem S256x16 .f32) (arg14 : Memref sig .tc .vmem S7168x2048 .bf16) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (k : ℕ) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg14.view.loc (c : Thread nD τ) ↦[arg14.view.set]{fullShare} X14) ∗ (∃ f9, (arg9.view.loc (c : Thread nD τ) ↦[arg9.view.set]{fullShare} f9) ∗ ⌜WideDone k (arg9.view.read (Elt F) f9) (fun k b => I.d i k b)⌝) ∗ (∃ f10, (arg10.view.loc (c : Thread nD τ) ↦[arg10.view.set]{fullShare} f10) ∗ ⌜WideDone k (arg10.view.read (Elt F) f10) (fun k b => k0_pay29 (I.m i k b))⌝) ∗ (∃ f11, (arg11.view.loc (c : Thread nD τ) ↦[arg11.view.set]{fullShare} f11) ∗ ⌜ColDone k (arg11.view.read (Elt F) f11) (fun k b => k0_pay28 (I.m i k b))⌝) ∗ (∃ f12, (arg12.view.loc (c : Thread nD τ) ↦[arg12.view.set]{fullShare} f12) ∗ ⌜WideDone k (arg12.view.read (Elt F) f12) (fun k b => k0_pay32 (k0_pay31 (I.v i k b)))⌝) ∗ (∃ f13, (arg13.view.loc (c : Thread nD τ) ↦[arg13.view.set]{fullShare} f13) ∗ ⌜ColDone k (arg13.view.read (Elt F) f13) (fun k b => k0_pay30 (I.v i k b))⌝))

/-- One trip. -/
theorem stripTrip (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14) (arg0 : BitVec 32) (I : Ins F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs) (e14 : arg14.view.read (Elt F) X14 = I.g) (k : Fin k0_t15_loop.trips) :
    stripInv c i I arg4 arg5 arg6 arg7 arg8 arg9 arg10 arg11 arg12 arg13 arg14 X4 X5 X6 X7 X8 X14 k.val
      ⊢ wp frame (wpE (defs₀ (F := F)) 𝒱 (c : Thread nD τ) bd) E (k0_t15_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I.v3 I.v4 I.v5 k PUnit.unit)
          (fun _ => stripInv c i I arg4 arg5 arg6 arg7 arg8 arg9 arg10 arg11 arg12 arg13 arg14 X4 X5 X6 X7 X8 X14 (k.val + 1)) := by
  have hk : k.val < 8 := Nat.lt_of_lt_of_le k.isLt k0_t15_abs.2.1
  unfold k0_t15_body
  iintro ⟨H4, H5, H6, H7, H8, H14, ⟨%f9, H9, %h9⟩, ⟨%f10, H10, %h10⟩, ⟨%f11, H11, %h11⟩, ⟨%f12, H12, %h12⟩, ⟨%f13, H13, %h13⟩⟩
  sl_exec
  sl_step
  isplitl [H4]; · iexact H4
  isplitl [H5]; · iexact H5
  isplitl [H6]; · iexact H6
  isplitl [H7]; · iexact H7
  isplitl [H8]; · iexact H8
  isplitl [H14]; · iexact H14
  isplitl [H9]
  · iexists _; isplitl [H9]; · iexact H9
    ipureintro; sl_unfold_run_names
    refine WideDone.succ arg9 f9 ⟨k.val, hk⟩ _ ?_ h9
    refine congrArg₂ List.cons (wide_piece (F := F) (e := .f32) (k := ⟨k.val, hk⟩) (b := 15) (k0_off62_eq k) ?_) ?_
    · exact d_eq (k := ⟨k.val, hk⟩) (b := 15) (i := i) I e4 (k0_off62_eq k) (m_eq (k := ⟨k.val, hk⟩) (b := 15) (i := i) I e6 e14 e5 (k0_off15_eq k) (k0_off61_eq i k) (k0_off62_eq k)) (v_eq (k := ⟨k.val, hk⟩) (b := 15) (i := i) I e8 e14 e7 (k0_off15_eq k) (k0_off61_eq i k) (k0_off62_eq k))
    refine congrArg₂ List.cons (wide_piece (F := F) (e := .f32) (k := ⟨k.val, hk⟩) (b := 14) (k0_off59_eq k) ?_) ?_
    · exact d_eq (k := ⟨k.val, hk⟩) (b := 14) (i := i) I e4 (k0_off59_eq k) (m_eq (k := ⟨k.val, hk⟩) (b := 14) (i := i) I e6 e14 e5 (k0_off15_eq k) (k0_off58_eq i k) (k0_off59_eq k)) (v_eq (k := ⟨k.val, hk⟩) (b := 14) (i := i) I e8 e14 e7 (k0_off15_eq k) (k0_off58_eq i k) (k0_off59_eq k))
    refine congrArg₂ List.cons (wide_piece (F := F) (e := .f32) (k := ⟨k.val, hk⟩) (b := 13) (k0_off56_eq k) ?_) ?_
    · exact d_eq (k := ⟨k.val, hk⟩) (b := 13) (i := i) I e4 (k0_off56_eq k) (m_eq (k := ⟨k.val, hk⟩) (b := 13) (i := i) I e6 e14 e5 (k0_off15_eq k) (k0_off55_eq i k) (k0_off56_eq k)) (v_eq (k := ⟨k.val, hk⟩) (b := 13) (i := i) I e8 e14 e7 (k0_off15_eq k) (k0_off55_eq i k) (k0_off56_eq k))
    refine congrArg₂ List.cons (wide_piece (F := F) (e := .f32) (k := ⟨k.val, hk⟩) (b := 12) (k0_off53_eq k) ?_) ?_
    · exact d_eq (k := ⟨k.val, hk⟩) (b := 12) (i := i) I e4 (k0_off53_eq k) (m_eq (k := ⟨k.val, hk⟩) (b := 12) (i := i) I e6 e14 e5 (k0_off15_eq k) (k0_off52_eq i k) (k0_off53_eq k)) (v_eq (k := ⟨k.val, hk⟩) (b := 12) (i := i) I e8 e14 e7 (k0_off15_eq k) (k0_off52_eq i k) (k0_off53_eq k))
    refine congrArg₂ List.cons (wide_piece (F := F) (e := .f32) (k := ⟨k.val, hk⟩) (b := 11) (k0_off50_eq k) ?_) ?_
    · exact d_eq (k := ⟨k.val, hk⟩) (b := 11) (i := i) I e4 (k0_off50_eq k) (m_eq (k := ⟨k.val, hk⟩) (b := 11) (i := i) I e6 e14 e5 (k0_off15_eq k) (k0_off49_eq i k) (k0_off50_eq k)) (v_eq (k := ⟨k.val, hk⟩) (b := 11) (i := i) I e8 e14 e7 (k0_off15_eq k) (k0_off49_eq i k) (k0_off50_eq k))
    refine congrArg₂ List.cons (wide_piece (F := F) (e := .f32) (k := ⟨k.val, hk⟩) (b := 10) (k0_off47_eq k) ?_) ?_
    · exact d_eq (k := ⟨k.val, hk⟩) (b := 10) (i := i) I e4 (k0_off47_eq k) (m_eq (k := ⟨k.val, hk⟩) (b := 10) (i := i) I e6 e14 e5 (k0_off15_eq k) (k0_off46_eq i k) (k0_off47_eq k)) (v_eq (k := ⟨k.val, hk⟩) (b := 10) (i := i) I e8 e14 e7 (k0_off15_eq k) (k0_off46_eq i k) (k0_off47_eq k))
    refine congrArg₂ List.cons (wide_piece (F := F) (e := .f32) (k := ⟨k.val, hk⟩) (b := 9) (k0_off44_eq k) ?_) ?_
    · exact d_eq (k := ⟨k.val, hk⟩) (b := 9) (i := i) I e4 (k0_off44_eq k) (m_eq (k := ⟨k.val, hk⟩) (b := 9) (i := i) I e6 e14 e5 (k0_off15_eq k) (k0_off43_eq i k) (k0_off44_eq k)) (v_eq (k := ⟨k.val, hk⟩) (b := 9) (i := i) I e8 e14 e7 (k0_off15_eq k) (k0_off43_eq i k) (k0_off44_eq k))
    refine congrArg₂ List.cons (wide_piece (F := F) (e := .f32) (k := ⟨k.val, hk⟩) (b := 8) (k0_off41_eq k) ?_) ?_
    · exact d_eq (k := ⟨k.val, hk⟩) (b := 8) (i := i) I e4 (k0_off41_eq k) (m_eq (k := ⟨k.val, hk⟩) (b := 8) (i := i) I e6 e14 e5 (k0_off15_eq k) (k0_off40_eq i k) (k0_off41_eq k)) (v_eq (k := ⟨k.val, hk⟩) (b := 8) (i := i) I e8 e14 e7 (k0_off15_eq k) (k0_off40_eq i k) (k0_off41_eq k))
    refine congrArg₂ List.cons (wide_piece (F := F) (e := .f32) (k := ⟨k.val, hk⟩) (b := 7) (k0_off38_eq k) ?_) ?_
    · exact d_eq (k := ⟨k.val, hk⟩) (b := 7) (i := i) I e4 (k0_off38_eq k) (m_eq (k := ⟨k.val, hk⟩) (b := 7) (i := i) I e6 e14 e5 (k0_off15_eq k) (k0_off37_eq i k) (k0_off38_eq k)) (v_eq (k := ⟨k.val, hk⟩) (b := 7) (i := i) I e8 e14 e7 (k0_off15_eq k) (k0_off37_eq i k) (k0_off38_eq k))
    refine congrArg₂ List.cons (wide_piece (F := F) (e := .f32) (k := ⟨k.val, hk⟩) (b := 6) (k0_off35_eq k) ?_) ?_
    · exact d_eq (k := ⟨k.val, hk⟩) (b := 6) (i := i) I e4 (k0_off35_eq k) (m_eq (k := ⟨k.val, hk⟩) (b := 6) (i := i) I e6 e14 e5 (k0_off15_eq k) (k0_off34_eq i k) (k0_off35_eq k)) (v_eq (k := ⟨k.val, hk⟩) (b := 6) (i := i) I e8 e14 e7 (k0_off15_eq k) (k0_off34_eq i k) (k0_off35_eq k))
    refine congrArg₂ List.cons (wide_piece (F := F) (e := .f32) (k := ⟨k.val, hk⟩) (b := 5) (k0_off32_eq k) ?_) ?_
    · exact d_eq (k := ⟨k.val, hk⟩) (b := 5) (i := i) I e4 (k0_off32_eq k) (m_eq (k := ⟨k.val, hk⟩) (b := 5) (i := i) I e6 e14 e5 (k0_off15_eq k) (k0_off31_eq i k) (k0_off32_eq k)) (v_eq (k := ⟨k.val, hk⟩) (b := 5) (i := i) I e8 e14 e7 (k0_off15_eq k) (k0_off31_eq i k) (k0_off32_eq k))
    refine congrArg₂ List.cons (wide_piece (F := F) (e := .f32) (k := ⟨k.val, hk⟩) (b := 4) (k0_off29_eq k) ?_) ?_
    · exact d_eq (k := ⟨k.val, hk⟩) (b := 4) (i := i) I e4 (k0_off29_eq k) (m_eq (k := ⟨k.val, hk⟩) (b := 4) (i := i) I e6 e14 e5 (k0_off15_eq k) (k0_off28_eq i k) (k0_off29_eq k)) (v_eq (k := ⟨k.val, hk⟩) (b := 4) (i := i) I e8 e14 e7 (k0_off15_eq k) (k0_off28_eq i k) (k0_off29_eq k))
    refine congrArg₂ List.cons (wide_piece (F := F) (e := .f32) (k := ⟨k.val, hk⟩) (b := 3) (k0_off26_eq k) ?_) ?_
    · exact d_eq (k := ⟨k.val, hk⟩) (b := 3) (i := i) I e4 (k0_off26_eq k) (m_eq (k := ⟨k.val, hk⟩) (b := 3) (i := i) I e6 e14 e5 (k0_off15_eq k) (k0_off25_eq i k) (k0_off26_eq k)) (v_eq (k := ⟨k.val, hk⟩) (b := 3) (i := i) I e8 e14 e7 (k0_off15_eq k) (k0_off25_eq i k) (k0_off26_eq k))
    refine congrArg₂ List.cons (wide_piece (F := F) (e := .f32) (k := ⟨k.val, hk⟩) (b := 2) (k0_off23_eq k) ?_) ?_
    · exact d_eq (k := ⟨k.val, hk⟩) (b := 2) (i := i) I e4 (k0_off23_eq k) (m_eq (k := ⟨k.val, hk⟩) (b := 2) (i := i) I e6 e14 e5 (k0_off15_eq k) (k0_off22_eq i k) (k0_off23_eq k)) (v_eq (k := ⟨k.val, hk⟩) (b := 2) (i := i) I e8 e14 e7 (k0_off15_eq k) (k0_off22_eq i k) (k0_off23_eq k))
    refine congrArg₂ List.cons (wide_piece (F := F) (e := .f32) (k := ⟨k.val, hk⟩) (b := 1) (k0_off20_eq k) ?_) ?_
    · exact d_eq (k := ⟨k.val, hk⟩) (b := 1) (i := i) I e4 (k0_off20_eq k) (m_eq (k := ⟨k.val, hk⟩) (b := 1) (i := i) I e6 e14 e5 (k0_off15_eq k) (k0_off19_eq i k) (k0_off20_eq k)) (v_eq (k := ⟨k.val, hk⟩) (b := 1) (i := i) I e8 e14 e7 (k0_off15_eq k) (k0_off19_eq i k) (k0_off20_eq k))
    refine congrArg₂ List.cons (wide_piece (F := F) (e := .f32) (k := ⟨k.val, hk⟩) (b := 0) (k0_off17_eq k) ?_) ?_
    · exact d_eq (k := ⟨k.val, hk⟩) (b := 0) (i := i) I e4 (k0_off17_eq k) (m_eq (k := ⟨k.val, hk⟩) (b := 0) (i := i) I e6 e14 e5 (k0_off15_eq k) (k0_off16_eq i k) (k0_off17_eq k)) (v_eq (k := ⟨k.val, hk⟩) (b := 0) (i := i) I e8 e14 e7 (k0_off15_eq k) (k0_off16_eq i k) (k0_off17_eq k))
    rfl
  isplitl [H10]
  · iexists _; isplitl [H10]; · iexact H10
    ipureintro; sl_unfold_run_names
    refine WideDone.succ arg10 f10 ⟨k.val, hk⟩ _ ?_ h10
    refine congrArg₂ List.cons (wide_piece (F := F) (e := .i8) (k := ⟨k.val, hk⟩) (b := 15) (k0_off62_eq k) ?_) ?_
    · exact congrArg k0_pay29 (m_eq (k := ⟨k.val, hk⟩) (b := 15) (i := i) I e6 e14 e5 (k0_off15_eq k) (k0_off61_eq i k) (k0_off62_eq k))
    refine congrArg₂ List.cons (wide_piece (F := F) (e := .i8) (k := ⟨k.val, hk⟩) (b := 14) (k0_off59_eq k) ?_) ?_
    · exact congrArg k0_pay29 (m_eq (k := ⟨k.val, hk⟩) (b := 14) (i := i) I e6 e14 e5 (k0_off15_eq k) (k0_off58_eq i k) (k0_off59_eq k))
    refine congrArg₂ List.cons (wide_piece (F := F) (e := .i8) (k := ⟨k.val, hk⟩) (b := 13) (k0_off56_eq k) ?_) ?_
    · exact congrArg k0_pay29 (m_eq (k := ⟨k.val, hk⟩) (b := 13) (i := i) I e6 e14 e5 (k0_off15_eq k) (k0_off55_eq i k) (k0_off56_eq k))
    refine congrArg₂ List.cons (wide_piece (F := F) (e := .i8) (k := ⟨k.val, hk⟩) (b := 12) (k0_off53_eq k) ?_) ?_
    · exact congrArg k0_pay29 (m_eq (k := ⟨k.val, hk⟩) (b := 12) (i := i) I e6 e14 e5 (k0_off15_eq k) (k0_off52_eq i k) (k0_off53_eq k))
    refine congrArg₂ List.cons (wide_piece (F := F) (e := .i8) (k := ⟨k.val, hk⟩) (b := 11) (k0_off50_eq k) ?_) ?_
    · exact congrArg k0_pay29 (m_eq (k := ⟨k.val, hk⟩) (b := 11) (i := i) I e6 e14 e5 (k0_off15_eq k) (k0_off49_eq i k) (k0_off50_eq k))
    refine congrArg₂ List.cons (wide_piece (F := F) (e := .i8) (k := ⟨k.val, hk⟩) (b := 10) (k0_off47_eq k) ?_) ?_
    · exact congrArg k0_pay29 (m_eq (k := ⟨k.val, hk⟩) (b := 10) (i := i) I e6 e14 e5 (k0_off15_eq k) (k0_off46_eq i k) (k0_off47_eq k))
    refine congrArg₂ List.cons (wide_piece (F := F) (e := .i8) (k := ⟨k.val, hk⟩) (b := 9) (k0_off44_eq k) ?_) ?_
    · exact congrArg k0_pay29 (m_eq (k := ⟨k.val, hk⟩) (b := 9) (i := i) I e6 e14 e5 (k0_off15_eq k) (k0_off43_eq i k) (k0_off44_eq k))
    refine congrArg₂ List.cons (wide_piece (F := F) (e := .i8) (k := ⟨k.val, hk⟩) (b := 8) (k0_off41_eq k) ?_) ?_
    · exact congrArg k0_pay29 (m_eq (k := ⟨k.val, hk⟩) (b := 8) (i := i) I e6 e14 e5 (k0_off15_eq k) (k0_off40_eq i k) (k0_off41_eq k))
    refine congrArg₂ List.cons (wide_piece (F := F) (e := .i8) (k := ⟨k.val, hk⟩) (b := 7) (k0_off38_eq k) ?_) ?_
    · exact congrArg k0_pay29 (m_eq (k := ⟨k.val, hk⟩) (b := 7) (i := i) I e6 e14 e5 (k0_off15_eq k) (k0_off37_eq i k) (k0_off38_eq k))
    refine congrArg₂ List.cons (wide_piece (F := F) (e := .i8) (k := ⟨k.val, hk⟩) (b := 6) (k0_off35_eq k) ?_) ?_
    · exact congrArg k0_pay29 (m_eq (k := ⟨k.val, hk⟩) (b := 6) (i := i) I e6 e14 e5 (k0_off15_eq k) (k0_off34_eq i k) (k0_off35_eq k))
    refine congrArg₂ List.cons (wide_piece (F := F) (e := .i8) (k := ⟨k.val, hk⟩) (b := 5) (k0_off32_eq k) ?_) ?_
    · exact congrArg k0_pay29 (m_eq (k := ⟨k.val, hk⟩) (b := 5) (i := i) I e6 e14 e5 (k0_off15_eq k) (k0_off31_eq i k) (k0_off32_eq k))
    refine congrArg₂ List.cons (wide_piece (F := F) (e := .i8) (k := ⟨k.val, hk⟩) (b := 4) (k0_off29_eq k) ?_) ?_
    · exact congrArg k0_pay29 (m_eq (k := ⟨k.val, hk⟩) (b := 4) (i := i) I e6 e14 e5 (k0_off15_eq k) (k0_off28_eq i k) (k0_off29_eq k))
    refine congrArg₂ List.cons (wide_piece (F := F) (e := .i8) (k := ⟨k.val, hk⟩) (b := 3) (k0_off26_eq k) ?_) ?_
    · exact congrArg k0_pay29 (m_eq (k := ⟨k.val, hk⟩) (b := 3) (i := i) I e6 e14 e5 (k0_off15_eq k) (k0_off25_eq i k) (k0_off26_eq k))
    refine congrArg₂ List.cons (wide_piece (F := F) (e := .i8) (k := ⟨k.val, hk⟩) (b := 2) (k0_off23_eq k) ?_) ?_
    · exact congrArg k0_pay29 (m_eq (k := ⟨k.val, hk⟩) (b := 2) (i := i) I e6 e14 e5 (k0_off15_eq k) (k0_off22_eq i k) (k0_off23_eq k))
    refine congrArg₂ List.cons (wide_piece (F := F) (e := .i8) (k := ⟨k.val, hk⟩) (b := 1) (k0_off20_eq k) ?_) ?_
    · exact congrArg k0_pay29 (m_eq (k := ⟨k.val, hk⟩) (b := 1) (i := i) I e6 e14 e5 (k0_off15_eq k) (k0_off19_eq i k) (k0_off20_eq k))
    refine congrArg₂ List.cons (wide_piece (F := F) (e := .i8) (k := ⟨k.val, hk⟩) (b := 0) (k0_off17_eq k) ?_) ?_
    · exact congrArg k0_pay29 (m_eq (k := ⟨k.val, hk⟩) (b := 0) (i := i) I e6 e14 e5 (k0_off15_eq k) (k0_off16_eq i k) (k0_off17_eq k))
    rfl
  isplitl [H11]
  · iexists _; isplitl [H11]; · iexact H11
    ipureintro; sl_unfold_run_names
    refine ColDone.succ arg11 f11 ⟨k.val, hk⟩ _ ?_ h11
    refine congrArg₂ List.cons (col_piece (F := F) (e := .f32) (k := ⟨k.val, hk⟩) (b := 15) (k0_off63_eq k) ?_) ?_
    · exact congrArg k0_pay28 (m_eq (k := ⟨k.val, hk⟩) (b := 15) (i := i) I e6 e14 e5 (k0_off15_eq k) (k0_off61_eq i k) (k0_off62_eq k))
    refine congrArg₂ List.cons (col_piece (F := F) (e := .f32) (k := ⟨k.val, hk⟩) (b := 14) (k0_off60_eq k) ?_) ?_
    · exact congrArg k0_pay28 (m_eq (k := ⟨k.val, hk⟩) (b := 14) (i := i) I e6 e14 e5 (k0_off15_eq k) (k0_off58_eq i k) (k0_off59_eq k))
    refine congrArg₂ List.cons (col_piece (F := F) (e := .f32) (k := ⟨k.val, hk⟩) (b := 13) (k0_off57_eq k) ?_) ?_
    · exact congrArg k0_pay28 (m_eq (k := ⟨k.val, hk⟩) (b := 13) (i := i) I e6 e14 e5 (k0_off15_eq k) (k0_off55_eq i k) (k0_off56_eq k))
    refine congrArg₂ List.cons (col_piece (F := F) (e := .f32) (k := ⟨k.val, hk⟩) (b := 12) (k0_off54_eq k) ?_) ?_
    · exact congrArg k0_pay28 (m_eq (k := ⟨k.val, hk⟩) (b := 12) (i := i) I e6 e14 e5 (k0_off15_eq k) (k0_off52_eq i k) (k0_off53_eq k))
    refine congrArg₂ List.cons (col_piece (F := F) (e := .f32) (k := ⟨k.val, hk⟩) (b := 11) (k0_off51_eq k) ?_) ?_
    · exact congrArg k0_pay28 (m_eq (k := ⟨k.val, hk⟩) (b := 11) (i := i) I e6 e14 e5 (k0_off15_eq k) (k0_off49_eq i k) (k0_off50_eq k))
    refine congrArg₂ List.cons (col_piece (F := F) (e := .f32) (k := ⟨k.val, hk⟩) (b := 10) (k0_off48_eq k) ?_) ?_
    · exact congrArg k0_pay28 (m_eq (k := ⟨k.val, hk⟩) (b := 10) (i := i) I e6 e14 e5 (k0_off15_eq k) (k0_off46_eq i k) (k0_off47_eq k))
    refine congrArg₂ List.cons (col_piece (F := F) (e := .f32) (k := ⟨k.val, hk⟩) (b := 9) (k0_off45_eq k) ?_) ?_
    · exact congrArg k0_pay28 (m_eq (k := ⟨k.val, hk⟩) (b := 9) (i := i) I e6 e14 e5 (k0_off15_eq k) (k0_off43_eq i k) (k0_off44_eq k))
    refine congrArg₂ List.cons (col_piece (F := F) (e := .f32) (k := ⟨k.val, hk⟩) (b := 8) (k0_off42_eq k) ?_) ?_
    · exact congrArg k0_pay28 (m_eq (k := ⟨k.val, hk⟩) (b := 8) (i := i) I e6 e14 e5 (k0_off15_eq k) (k0_off40_eq i k) (k0_off41_eq k))
    refine congrArg₂ List.cons (col_piece (F := F) (e := .f32) (k := ⟨k.val, hk⟩) (b := 7) (k0_off39_eq k) ?_) ?_
    · exact congrArg k0_pay28 (m_eq (k := ⟨k.val, hk⟩) (b := 7) (i := i) I e6 e14 e5 (k0_off15_eq k) (k0_off37_eq i k) (k0_off38_eq k))
    refine congrArg₂ List.cons (col_piece (F := F) (e := .f32) (k := ⟨k.val, hk⟩) (b := 6) (k0_off36_eq k) ?_) ?_
    · exact congrArg k0_pay28 (m_eq (k := ⟨k.val, hk⟩) (b := 6) (i := i) I e6 e14 e5 (k0_off15_eq k) (k0_off34_eq i k) (k0_off35_eq k))
    refine congrArg₂ List.cons (col_piece (F := F) (e := .f32) (k := ⟨k.val, hk⟩) (b := 5) (k0_off33_eq k) ?_) ?_
    · exact congrArg k0_pay28 (m_eq (k := ⟨k.val, hk⟩) (b := 5) (i := i) I e6 e14 e5 (k0_off15_eq k) (k0_off31_eq i k) (k0_off32_eq k))
    refine congrArg₂ List.cons (col_piece (F := F) (e := .f32) (k := ⟨k.val, hk⟩) (b := 4) (k0_off30_eq k) ?_) ?_
    · exact congrArg k0_pay28 (m_eq (k := ⟨k.val, hk⟩) (b := 4) (i := i) I e6 e14 e5 (k0_off15_eq k) (k0_off28_eq i k) (k0_off29_eq k))
    refine congrArg₂ List.cons (col_piece (F := F) (e := .f32) (k := ⟨k.val, hk⟩) (b := 3) (k0_off27_eq k) ?_) ?_
    · exact congrArg k0_pay28 (m_eq (k := ⟨k.val, hk⟩) (b := 3) (i := i) I e6 e14 e5 (k0_off15_eq k) (k0_off25_eq i k) (k0_off26_eq k))
    refine congrArg₂ List.cons (col_piece (F := F) (e := .f32) (k := ⟨k.val, hk⟩) (b := 2) (k0_off24_eq k) ?_) ?_
    · exact congrArg k0_pay28 (m_eq (k := ⟨k.val, hk⟩) (b := 2) (i := i) I e6 e14 e5 (k0_off15_eq k) (k0_off22_eq i k) (k0_off23_eq k))
    refine congrArg₂ List.cons (col_piece (F := F) (e := .f32) (k := ⟨k.val, hk⟩) (b := 1) (k0_off21_eq k) ?_) ?_
    · exact congrArg k0_pay28 (m_eq (k := ⟨k.val, hk⟩) (b := 1) (i := i) I e6 e14 e5 (k0_off15_eq k) (k0_off19_eq i k) (k0_off20_eq k))
    refine congrArg₂ List.cons (col_piece (F := F) (e := .f32) (k := ⟨k.val, hk⟩) (b := 0) (k0_off18_eq k) ?_) ?_
    · exact congrArg k0_pay28 (m_eq (k := ⟨k.val, hk⟩) (b := 0) (i := i) I e6 e14 e5 (k0_off15_eq k) (k0_off16_eq i k) (k0_off17_eq k))
    rfl
  isplitl [H12]
  · iexists _; isplitl [H12]; · iexact H12
    ipureintro; sl_unfold_run_names
    refine WideDone.succ arg12 f12 ⟨k.val, hk⟩ _ ?_ h12
    refine congrArg₂ List.cons (wide_piece (F := F) (e := .i8) (k := ⟨k.val, hk⟩) (b := 15) (k0_off62_eq k) ?_) ?_
    · exact congrArg (fun z => k0_pay32 (k0_pay31 z)) (v_eq (k := ⟨k.val, hk⟩) (b := 15) (i := i) I e8 e14 e7 (k0_off15_eq k) (k0_off61_eq i k) (k0_off62_eq k))
    refine congrArg₂ List.cons (wide_piece (F := F) (e := .i8) (k := ⟨k.val, hk⟩) (b := 14) (k0_off59_eq k) ?_) ?_
    · exact congrArg (fun z => k0_pay32 (k0_pay31 z)) (v_eq (k := ⟨k.val, hk⟩) (b := 14) (i := i) I e8 e14 e7 (k0_off15_eq k) (k0_off58_eq i k) (k0_off59_eq k))
    refine congrArg₂ List.cons (wide_piece (F := F) (e := .i8) (k := ⟨k.val, hk⟩) (b := 13) (k0_off56_eq k) ?_) ?_
    · exact congrArg (fun z => k0_pay32 (k0_pay31 z)) (v_eq (k := ⟨k.val, hk⟩) (b := 13) (i := i) I e8 e14 e7 (k0_off15_eq k) (k0_off55_eq i k) (k0_off56_eq k))
    refine congrArg₂ List.cons (wide_piece (F := F) (e := .i8) (k := ⟨k.val, hk⟩) (b := 12) (k0_off53_eq k) ?_) ?_
    · exact congrArg (fun z => k0_pay32 (k0_pay31 z)) (v_eq (k := ⟨k.val, hk⟩) (b := 12) (i := i) I e8 e14 e7 (k0_off15_eq k) (k0_off52_eq i k) (k0_off53_eq k))
    refine congrArg₂ List.cons (wide_piece (F := F) (e := .i8) (k := ⟨k.val, hk⟩) (b := 11) (k0_off50_eq k) ?_) ?_
    · exact congrArg (fun z => k0_pay32 (k0_pay31 z)) (v_eq (k := ⟨k.val, hk⟩) (b := 11) (i := i) I e8 e14 e7 (k0_off15_eq k) (k0_off49_eq i k) (k0_off50_eq k))
    refine congrArg₂ List.cons (wide_piece (F := F) (e := .i8) (k := ⟨k.val, hk⟩) (b := 10) (k0_off47_eq k) ?_) ?_
    · exact congrArg (fun z => k0_pay32 (k0_pay31 z)) (v_eq (k := ⟨k.val, hk⟩) (b := 10) (i := i) I e8 e14 e7 (k0_off15_eq k) (k0_off46_eq i k) (k0_off47_eq k))
    refine congrArg₂ List.cons (wide_piece (F := F) (e := .i8) (k := ⟨k.val, hk⟩) (b := 9) (k0_off44_eq k) ?_) ?_
    · exact congrArg (fun z => k0_pay32 (k0_pay31 z)) (v_eq (k := ⟨k.val, hk⟩) (b := 9) (i := i) I e8 e14 e7 (k0_off15_eq k) (k0_off43_eq i k) (k0_off44_eq k))
    refine congrArg₂ List.cons (wide_piece (F := F) (e := .i8) (k := ⟨k.val, hk⟩) (b := 8) (k0_off41_eq k) ?_) ?_
    · exact congrArg (fun z => k0_pay32 (k0_pay31 z)) (v_eq (k := ⟨k.val, hk⟩) (b := 8) (i := i) I e8 e14 e7 (k0_off15_eq k) (k0_off40_eq i k) (k0_off41_eq k))
    refine congrArg₂ List.cons (wide_piece (F := F) (e := .i8) (k := ⟨k.val, hk⟩) (b := 7) (k0_off38_eq k) ?_) ?_
    · exact congrArg (fun z => k0_pay32 (k0_pay31 z)) (v_eq (k := ⟨k.val, hk⟩) (b := 7) (i := i) I e8 e14 e7 (k0_off15_eq k) (k0_off37_eq i k) (k0_off38_eq k))
    refine congrArg₂ List.cons (wide_piece (F := F) (e := .i8) (k := ⟨k.val, hk⟩) (b := 6) (k0_off35_eq k) ?_) ?_
    · exact congrArg (fun z => k0_pay32 (k0_pay31 z)) (v_eq (k := ⟨k.val, hk⟩) (b := 6) (i := i) I e8 e14 e7 (k0_off15_eq k) (k0_off34_eq i k) (k0_off35_eq k))
    refine congrArg₂ List.cons (wide_piece (F := F) (e := .i8) (k := ⟨k.val, hk⟩) (b := 5) (k0_off32_eq k) ?_) ?_
    · exact congrArg (fun z => k0_pay32 (k0_pay31 z)) (v_eq (k := ⟨k.val, hk⟩) (b := 5) (i := i) I e8 e14 e7 (k0_off15_eq k) (k0_off31_eq i k) (k0_off32_eq k))
    refine congrArg₂ List.cons (wide_piece (F := F) (e := .i8) (k := ⟨k.val, hk⟩) (b := 4) (k0_off29_eq k) ?_) ?_
    · exact congrArg (fun z => k0_pay32 (k0_pay31 z)) (v_eq (k := ⟨k.val, hk⟩) (b := 4) (i := i) I e8 e14 e7 (k0_off15_eq k) (k0_off28_eq i k) (k0_off29_eq k))
    refine congrArg₂ List.cons (wide_piece (F := F) (e := .i8) (k := ⟨k.val, hk⟩) (b := 3) (k0_off26_eq k) ?_) ?_
    · exact congrArg (fun z => k0_pay32 (k0_pay31 z)) (v_eq (k := ⟨k.val, hk⟩) (b := 3) (i := i) I e8 e14 e7 (k0_off15_eq k) (k0_off25_eq i k) (k0_off26_eq k))
    refine congrArg₂ List.cons (wide_piece (F := F) (e := .i8) (k := ⟨k.val, hk⟩) (b := 2) (k0_off23_eq k) ?_) ?_
    · exact congrArg (fun z => k0_pay32 (k0_pay31 z)) (v_eq (k := ⟨k.val, hk⟩) (b := 2) (i := i) I e8 e14 e7 (k0_off15_eq k) (k0_off22_eq i k) (k0_off23_eq k))
    refine congrArg₂ List.cons (wide_piece (F := F) (e := .i8) (k := ⟨k.val, hk⟩) (b := 1) (k0_off20_eq k) ?_) ?_
    · exact congrArg (fun z => k0_pay32 (k0_pay31 z)) (v_eq (k := ⟨k.val, hk⟩) (b := 1) (i := i) I e8 e14 e7 (k0_off15_eq k) (k0_off19_eq i k) (k0_off20_eq k))
    refine congrArg₂ List.cons (wide_piece (F := F) (e := .i8) (k := ⟨k.val, hk⟩) (b := 0) (k0_off17_eq k) ?_) ?_
    · exact congrArg (fun z => k0_pay32 (k0_pay31 z)) (v_eq (k := ⟨k.val, hk⟩) (b := 0) (i := i) I e8 e14 e7 (k0_off15_eq k) (k0_off16_eq i k) (k0_off17_eq k))
    rfl
  · iexists _; isplitl [H13]; · iexact H13
    ipureintro; sl_unfold_run_names
    refine ColDone.succ arg13 f13 ⟨k.val, hk⟩ _ ?_ h13
    refine congrArg₂ List.cons (col_piece (F := F) (e := .f32) (k := ⟨k.val, hk⟩) (b := 15) (k0_off63_eq k) ?_) ?_
    · exact congrArg k0_pay30 (v_eq (k := ⟨k.val, hk⟩) (b := 15) (i := i) I e8 e14 e7 (k0_off15_eq k) (k0_off61_eq i k) (k0_off62_eq k))
    refine congrArg₂ List.cons (col_piece (F := F) (e := .f32) (k := ⟨k.val, hk⟩) (b := 14) (k0_off60_eq k) ?_) ?_
    · exact congrArg k0_pay30 (v_eq (k := ⟨k.val, hk⟩) (b := 14) (i := i) I e8 e14 e7 (k0_off15_eq k) (k0_off58_eq i k) (k0_off59_eq k))
    refine congrArg₂ List.cons (col_piece (F := F) (e := .f32) (k := ⟨k.val, hk⟩) (b := 13) (k0_off57_eq k) ?_) ?_
    · exact congrArg k0_pay30 (v_eq (k := ⟨k.val, hk⟩) (b := 13) (i := i) I e8 e14 e7 (k0_off15_eq k) (k0_off55_eq i k) (k0_off56_eq k))
    refine congrArg₂ List.cons (col_piece (F := F) (e := .f32) (k := ⟨k.val, hk⟩) (b := 12) (k0_off54_eq k) ?_) ?_
    · exact congrArg k0_pay30 (v_eq (k := ⟨k.val, hk⟩) (b := 12) (i := i) I e8 e14 e7 (k0_off15_eq k) (k0_off52_eq i k) (k0_off53_eq k))
    refine congrArg₂ List.cons (col_piece (F := F) (e := .f32) (k := ⟨k.val, hk⟩) (b := 11) (k0_off51_eq k) ?_) ?_
    · exact congrArg k0_pay30 (v_eq (k := ⟨k.val, hk⟩) (b := 11) (i := i) I e8 e14 e7 (k0_off15_eq k) (k0_off49_eq i k) (k0_off50_eq k))
    refine congrArg₂ List.cons (col_piece (F := F) (e := .f32) (k := ⟨k.val, hk⟩) (b := 10) (k0_off48_eq k) ?_) ?_
    · exact congrArg k0_pay30 (v_eq (k := ⟨k.val, hk⟩) (b := 10) (i := i) I e8 e14 e7 (k0_off15_eq k) (k0_off46_eq i k) (k0_off47_eq k))
    refine congrArg₂ List.cons (col_piece (F := F) (e := .f32) (k := ⟨k.val, hk⟩) (b := 9) (k0_off45_eq k) ?_) ?_
    · exact congrArg k0_pay30 (v_eq (k := ⟨k.val, hk⟩) (b := 9) (i := i) I e8 e14 e7 (k0_off15_eq k) (k0_off43_eq i k) (k0_off44_eq k))
    refine congrArg₂ List.cons (col_piece (F := F) (e := .f32) (k := ⟨k.val, hk⟩) (b := 8) (k0_off42_eq k) ?_) ?_
    · exact congrArg k0_pay30 (v_eq (k := ⟨k.val, hk⟩) (b := 8) (i := i) I e8 e14 e7 (k0_off15_eq k) (k0_off40_eq i k) (k0_off41_eq k))
    refine congrArg₂ List.cons (col_piece (F := F) (e := .f32) (k := ⟨k.val, hk⟩) (b := 7) (k0_off39_eq k) ?_) ?_
    · exact congrArg k0_pay30 (v_eq (k := ⟨k.val, hk⟩) (b := 7) (i := i) I e8 e14 e7 (k0_off15_eq k) (k0_off37_eq i k) (k0_off38_eq k))
    refine congrArg₂ List.cons (col_piece (F := F) (e := .f32) (k := ⟨k.val, hk⟩) (b := 6) (k0_off36_eq k) ?_) ?_
    · exact congrArg k0_pay30 (v_eq (k := ⟨k.val, hk⟩) (b := 6) (i := i) I e8 e14 e7 (k0_off15_eq k) (k0_off34_eq i k) (k0_off35_eq k))
    refine congrArg₂ List.cons (col_piece (F := F) (e := .f32) (k := ⟨k.val, hk⟩) (b := 5) (k0_off33_eq k) ?_) ?_
    · exact congrArg k0_pay30 (v_eq (k := ⟨k.val, hk⟩) (b := 5) (i := i) I e8 e14 e7 (k0_off15_eq k) (k0_off31_eq i k) (k0_off32_eq k))
    refine congrArg₂ List.cons (col_piece (F := F) (e := .f32) (k := ⟨k.val, hk⟩) (b := 4) (k0_off30_eq k) ?_) ?_
    · exact congrArg k0_pay30 (v_eq (k := ⟨k.val, hk⟩) (b := 4) (i := i) I e8 e14 e7 (k0_off15_eq k) (k0_off28_eq i k) (k0_off29_eq k))
    refine congrArg₂ List.cons (col_piece (F := F) (e := .f32) (k := ⟨k.val, hk⟩) (b := 3) (k0_off27_eq k) ?_) ?_
    · exact congrArg k0_pay30 (v_eq (k := ⟨k.val, hk⟩) (b := 3) (i := i) I e8 e14 e7 (k0_off15_eq k) (k0_off25_eq i k) (k0_off26_eq k))
    refine congrArg₂ List.cons (col_piece (F := F) (e := .f32) (k := ⟨k.val, hk⟩) (b := 2) (k0_off24_eq k) ?_) ?_
    · exact congrArg k0_pay30 (v_eq (k := ⟨k.val, hk⟩) (b := 2) (i := i) I e8 e14 e7 (k0_off15_eq k) (k0_off22_eq i k) (k0_off23_eq k))
    refine congrArg₂ List.cons (col_piece (F := F) (e := .f32) (k := ⟨k.val, hk⟩) (b := 1) (k0_off21_eq k) ?_) ?_
    · exact congrArg k0_pay30 (v_eq (k := ⟨k.val, hk⟩) (b := 1) (i := i) I e8 e14 e7 (k0_off15_eq k) (k0_off19_eq i k) (k0_off20_eq k))
    refine congrArg₂ List.cons (col_piece (F := F) (e := .f32) (k := ⟨k.val, hk⟩) (b := 0) (k0_off18_eq k) ?_) ?_
    · exact congrArg k0_pay30 (v_eq (k := ⟨k.val, hk⟩) (b := 0) (i := i) I e8 e14 e7 (k0_off15_eq k) (k0_off16_eq i k) (k0_off17_eq k))
    rfl

/-- The strips' loop by that invariant. -/
def stripLoop (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14) (arg0 : BitVec 32) (I : Ins F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs) (e14 : arg14.view.read (Elt F) X14 = I.g) :
    LoopInvTy_k0_t15 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I.v3 I.v4 I.v5 where
  inv k _ := stripInv c i I arg4 arg5 arg6 arg7 arg8 arg9 arg10 arg11 arg12 arg13 arg14 X4 X5 X6 X7 X8 X14 k
  step k _ := stripTrip 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I X4 X5 X6 X7 X8 X14 e4 e5 e6 e7 e8 e14 k

/-- The strips' loop: from any contents of the outputs to all eight strips done. -/
theorem stripsRun (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole) (arg16 : DmaSems sig S14) (arg0 : BitVec 32) (I : Ins F) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X14 : BufTy.Contents (Elt F) arg14.view.ty) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs) (e14 : arg14.view.read (Elt F) X14 = I.g) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg14.view.loc (c : Thread nD τ) ↦[arg14.view.set]{fullShare} X14) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ wp frame (wpE (defs₀ (F := F)) 𝒱 (c : Thread nD τ) bd) Set.univ
          (do Scf.Loop.for k0_t15_loop k0_t15_ok ⟨⟩ (k0_t15_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I.v3 I.v4 I.v5)
              pure ⟨⟩ : Prog (TpuEff nD τ sig (Elt F) Λ₀ .tc) PUnit)
          (fun _ => stripInv c i I arg4 arg5 arg6 arg7 arg8 arg9 arg10 arg11 arg12 arg13 arg14 X4 X5 X6 X7 X8 X14 8) := by
  iintro ⟨H4, H5, H6, H7, H8, H14, H9, H10, H11, H12, H13⟩
  let L := stripLoop 𝒱 c bd Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 I X4 X5 X6 X7 X8 X14 e4 e5 e6 e7 e8 e14
  have h9 : WideDone 0 (arg9.view.read (Elt F) f9) (fun k b => I.d i k b) := fun k hk => absurd hk (Nat.not_lt_zero _)
  have h10 : WideDone 0 (arg10.view.read (Elt F) f10) (fun k b => k0_pay29 (I.m i k b)) := fun k hk => absurd hk (Nat.not_lt_zero _)
  have h11 : ColDone 0 (arg11.view.read (Elt F) f11) (fun k b => k0_pay28 (I.m i k b)) := fun k hk => absurd hk (Nat.not_lt_zero _)
  have h12 : WideDone 0 (arg12.view.read (Elt F) f12) (fun k b => k0_pay32 (k0_pay31 (I.v i k b))) := fun k hk => absurd hk (Nat.not_lt_zero _)
  have h13 : ColDone 0 (arg13.view.read (Elt F) f13) (fun k b => k0_pay30 (I.v i k b)) := fun k hk => absurd hk (Nat.not_lt_zero _)
  sl_exec
  sl_step
  have h8 : k0_t15_loop.trips = 8 := by decide
  try rw [h8] at *
  sl_close

end Cert.KernelIdeal.Run
end
-- ==== Proof.IdealPrologue.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import proofs.«01_k».proof.Proof.IdealChunks
public import proofs.«01_k».proof.Proof.IdealScratch
public import proofs.«01_k».proof.Proof.IdealMainLoop

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- The run's fourteen semaphores at zero. -/
abbrev semsZero (c : Dev nD) : sProp 𝕄 := iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)

/-- The one word of a scalar operand. -/
abbrev word {e : EltTy} (a : Memref sig .tc .smem S1 e) (f : BufTy.Contents (Elt F) a.view.ty) : Elt F e :=
  a.view.readAt (Elt F) (Rect.unit (s := S1) ![0] S1.size inb_S1_S1_0).toLoadRect f (Shape.Idx.first (by decide))

set_option maxHeartbeats 1000000

/-- The first grid point: the gradient is copied, its norm is summed, the rows are stored, the strips run. -/
theorem firstRun (c : Dev nD) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole)  (k0_h1 : k0_cond1 i = 1#1) (f1 : BufTy.Contents (Elt F) arg1.view.ty) (f2 : BufTy.Contents (Elt F) arg2.view.ty)
    (G : Buf (Elt F) (arg3.view.loc (c : Thread nD τ))) (X : Buf (Elt F) (arg14.view.loc (c : Thread nD τ))) (f15 : Buf (Elt F) (arg15.view.loc (c : Thread nD τ)))
    (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ)))
    (W : Waits sig Unit) (I : Ins F) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs)
    (eg : arg3.view.read (Elt F) G = I.g) (ev3 : row0 I.g (word arg2 f2) = I.v3) (ev4 : row1 (word arg1 f1) = I.v4) (ev5 : row2 (word arg1 f1) = I.v5) :
    iprop((arg1.view.loc (c : Thread nD τ) ↦[arg1.view.set]{fullShare} f1) ∗ (arg2.view.loc (c : Thread nD τ) ↦[arg2.view.set]{fullShare} f2)
      ∗ (arg3.view.loc (c : Thread nD τ) ↦{fullShare} G) ∗ (arg15.view.loc (c : Thread nD τ) ↦[arg15.view.set]{fullShare} f15) ∗ (arg14.view.loc (c : Thread nD τ) ↦[arg14.view.set]{fullShare} X) ∗ semsZero c
      ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ owes (c : Thread nD τ) 0 W)
      ⊢ wp frame (wpE (defs₀ (F := F)) Variants.none c none) Set.univ (cc0_adamw_int8 i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2) (fun _ =>
        iprop((arg1.view.loc (c : Thread nD τ) ↦[arg1.view.set]{fullShare} f1) ∗ (arg2.view.loc (c : Thread nD τ) ↦[arg2.view.set]{fullShare} f2)
        ∗ (arg3.view.loc (c : Thread nD τ) ↦{fullShare} G) ∗ semsZero c ∗ (∃ W', owes (c : Thread nD τ) 0 W')
        ∗ (∃ f, (arg15.view.loc (c : Thread nD τ) ↦[arg15.view.set]{fullShare} f) ∗ ⌜Rows arg15 f I.v3 I.v4 I.v5⌝)
        ∗ (∃ X', ⌜arg14.view.read (Elt F) X' = I.g⌝ ∗ stripInv c i I arg4 arg5 arg6 arg7 arg8 arg9 arg10 arg11 arg12 arg13 arg14 X4 X5 X6 X7 X8 X' 8))) := by
  rw [chunk_split, bigSep_14]
  simp only [cc0_adamw_int8_eq_skeleton]; unfold cc0_adamw_int8_skel
  iintro ⟨H1, H2, HG, HS, ⟨P0, P1, P2, P3, P4, P5, P6, P7, P8, P9, P10, P11, P12, P13⟩, ⟨Q0, Q1, Q2, Q3, Q4, Q5, Q6, Q7, Q8, Q9, Q10, Q11, Q12, Q13⟩, H4, H5, H6, H7, H8, H9, H10, H11, H12, H13, HW⟩
  simp only [k0_part1_eq_skeleton, k0_part2_eq_skeleton, k0_part3_eq_skeleton, k0_part4_eq_skeleton, k0_part5_eq_skeleton, k0_part6_eq_skeleton, k0_part7_eq_skeleton]
  sl_exec
  rename_i acc
  have hI : acc = sumAll I.g (k0_pay3 (word arg2 f2)) := by
    clear ev3 ev4 ev5 e4 e5 e6 e7 e8
    have a0 := chunk_acc arg14 (by decide) 0 k0_off1_eq I.g (fun y hy => (landed arg14 arg3 0 _ G X y hy).trans (congrFun eg y)) hL1
    have a1 := chunk_acc arg14 (by decide) 1 k0_off2_eq I.g (fun y hy => (landed arg14 arg3 1 _ G X y hy).trans (congrFun eg y)) hL3
    have a2 := chunk_acc arg14 (by decide) 2 k0_off3_eq I.g (fun y hy => (landed arg14 arg3 2 _ G X y hy).trans (congrFun eg y)) hL5
    have a3 := chunk_acc arg14 (by decide) 3 k0_off4_eq I.g (fun y hy => (landed arg14 arg3 3 _ G X y hy).trans (congrFun eg y)) hL7
    have a4 := chunk_acc arg14 (by decide) 4 k0_off5_eq I.g (fun y hy => (landed arg14 arg3 4 _ G X y hy).trans (congrFun eg y)) hL9
    have a5 := chunk_acc arg14 (by decide) 5 k0_off6_eq I.g (fun y hy => (landed arg14 arg3 5 _ G X y hy).trans (congrFun eg y)) hL11
    have a6 := chunk_acc arg14 (by decide) 6 k0_off7_eq I.g (fun y hy => (landed arg14 arg3 6 _ G X y hy).trans (congrFun eg y)) hL13
    have a7 := chunk_acc arg14 (by decide) 7 k0_off8_eq I.g (fun y hy => (landed arg14 arg3 7 _ G X y hy).trans (congrFun eg y)) hL15
    have a8 := chunk_acc arg14 (by decide) 8 k0_off9_eq I.g (fun y hy => (landed arg14 arg3 8 _ G X y hy).trans (congrFun eg y)) hL17
    have a9 := chunk_acc arg14 (by decide) 9 k0_off10_eq I.g (fun y hy => (landed arg14 arg3 9 _ G X y hy).trans (congrFun eg y)) hL19
    have a10 := chunk_acc arg14 (by decide) 10 k0_off11_eq I.g (fun y hy => (landed arg14 arg3 10 _ G X y hy).trans (congrFun eg y)) hL21
    have a11 := chunk_acc arg14 (by decide) 11 k0_off12_eq I.g (fun y hy => (landed arg14 arg3 11 _ G X y hy).trans (congrFun eg y)) hL23
    have a12 := chunk_acc arg14 (by decide) 12 k0_off13_eq I.g (fun y hy => (landed arg14 arg3 12 _ G X y hy).trans (congrFun eg y)) hL25
    have a13 := chunk_acc arg14 (by decide) 13 k0_off14_eq I.g (fun y hy => (landed arg14 arg3 13 _ G X y hy).trans (congrFun eg y)) hL27
    rw [a13, a12, a11, a10, a9, a8, a7, a6, a5, a4, a3, a2, a1, a0]
    exact sumAll_eq _ _
  have w3 : firstRun.sl.v3 arg1 arg2 arg15 f1 f2 acc = I.v3 := by
    refine Eq.trans ?_ ev3
    rw [hI]
    exact (rows_of arg15 _ _ _ _).e0
  have w4 : firstRun.sl.v4 arg1 arg2 arg15 f1 f2 acc = I.v4 := by
    refine Eq.trans ?_ ev4
    skip
    exact (rows_of arg15 _ _ _ _).e1
  have w5 : firstRun.sl.v5 arg1 arg2 arg15 f1 f2 acc = I.v5 := by
    refine Eq.trans ?_ ev5
    skip
    exact (rows_of arg15 _ _ _ _).e2
  rw [w3, w4, w5]
  ihave HJ := (chunk_join c arg14 (fun n => arg14.view.writes (Elt F) X [⟨chunkRect n, ReadAs.same.apply ((arg3.slice (chunkRect n) (fun _ => rfl)).view.read (Elt F) G)⟩]) I.g
    (fun n y hy => (landed arg14 arg3 n _ G X y hy).trans (congrFun eg y))) $$ [P0 P1 P2 P3 P4 P5 P6 P7 P8 P9 P10 P11 P12 P13]
  · rw [bigSep_14]
    isplitl [P0]
    · iexact P0
    isplitl [P1]
    · iexact P1
    isplitl [P2]
    · iexact P2
    isplitl [P3]
    · iexact P3
    isplitl [P4]
    · iexact P4
    isplitl [P5]
    · iexact P5
    isplitl [P6]
    · iexact P6
    isplitl [P7]
    · iexact P7
    isplitl [P8]
    · iexact P8
    isplitl [P9]
    · iexact P9
    isplitl [P10]
    · iexact P10
    isplitl [P11]
    · iexact P11
    isplitl [P12]
    · iexact P12
    iexact P13
  icases HJ with ⟨%X', HJ, %hX⟩
  iapply wp_wand_r
  isplitl [H4 H5 H6 H7 H8 HJ H9 H10 H11 H12 H13]
  · iapply (stripsRun Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2 _ I X4 X5 X6 X7 X8 X' e4 e5 e6 e7 e8 hX f9 f10 f11 f12 f13)
    sl_close
  iintro %_ Hs
  have hrows : Rows arg15 (arg15.view.writes (Elt F) f15 (firstRun.sl.HS_3 arg1 arg2 f1 f2 acc)) I.v3 I.v4 I.v5 := by
    rw [← ev3, ← ev4, ← ev5, hI]
    exact rows_of arg15 _ _ _ _
  isplitl [H1]
  · iexact H1
  isplitl [H2]
  · iexact H2
  isplitl [HG]
  · iexact HG
  isplitl [Q0 Q1 Q2 Q3 Q4 Q5 Q6 Q7 Q8 Q9 Q10 Q11 Q12 Q13]
  · isplitl [Q0]
    · iexact Q0
    isplitl [Q1]
    · iexact Q1
    isplitl [Q2]
    · iexact Q2
    isplitl [Q3]
    · iexact Q3
    isplitl [Q4]
    · iexact Q4
    isplitl [Q5]
    · iexact Q5
    isplitl [Q6]
    · iexact Q6
    isplitl [Q7]
    · iexact Q7
    isplitl [Q8]
    · iexact Q8
    isplitl [Q9]
    · iexact Q9
    isplitl [Q10]
    · iexact Q10
    isplitl [Q11]
    · iexact Q11
    isplitl [Q12]
    · iexact Q12
    iexact Q13
  isplitl [HW]
  · iexists _; iexact HW
  isplitl [HS]
  · iexists _
    isplitl [HS]
    · iexact HS
    ipureintro; exact hrows
  iexists X'
  isplitr [Hs]
  · ipureintro; exact hX
  iexact Hs

end Cert.KernelIdeal.Run
end
-- ==== Proof.IdealLater.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import proofs.«01_k».proof.Proof.IdealChunks
public import proofs.«01_k».proof.Proof.IdealScratch
public import proofs.«01_k».proof.Proof.IdealMainLoop
public import proofs.«01_k».proof.Proof.IdealPrologue

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

set_option maxHeartbeats 1000000
/-- Every later grid point: the scalar rows are loaded and the strips run. -/
theorem laterRun (c : Dev nD) (i : grid0.Coords) (arg1 : Memref sig .tc .smem S1 .i32) (harg1 : arg1.IsWhole) (arg2 : Memref sig .tc .smem S1 .f32) (harg2 : arg2.IsWhole) (arg3 : Memref sig .tc .hbm S7168x2048 .bf16) (harg3 : arg3.IsWhole) (arg4 : Memref sig .tc .vmem S256x2048 .f32) (harg4 : arg4.IsWhole) (arg5 : Memref sig .tc .vmem S256x2048 .i8) (harg5 : arg5.IsWhole) (arg6 : Memref sig .tc .vmem S256x16 .f32) (harg6 : arg6.IsWhole) (arg7 : Memref sig .tc .vmem S256x2048 .i8) (harg7 : arg7.IsWhole) (arg8 : Memref sig .tc .vmem S256x16 .f32) (harg8 : arg8.IsWhole) (arg9 : Memref sig .tc .vmem S256x2048 .f32) (harg9 : arg9.IsWhole) (arg10 : Memref sig .tc .vmem S256x2048 .i8) (harg10 : arg10.IsWhole) (arg11 : Memref sig .tc .vmem S256x16 .f32) (harg11 : arg11.IsWhole) (arg12 : Memref sig .tc .vmem S256x2048 .i8) (harg12 : arg12.IsWhole) (arg13 : Memref sig .tc .vmem S256x16 .f32) (harg13 : arg13.IsWhole) (arg14 : Memref sig .tc .vmem S7168x2048 .bf16) (harg14 : arg14.IsWhole) (arg15 : Memref sig .tc .vmem S8x128 .f32) (harg15 : arg15.IsWhole)  (k0_h1 : ¬ k0_cond1 i = 1#1)
    (X : Buf (Elt F) (arg14.view.loc (c : Thread nD τ))) (f15 : Buf (Elt F) (arg15.view.loc (c : Thread nD τ)))
    (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ)))
    (I : Ins F) (e4 : arg4.view.read (Elt F) X4 = I.p) (e5 : arg5.view.read (Elt F) X5 = I.mc) (e6 : arg6.view.read (Elt F) X6 = I.ms) (e7 : arg7.view.read (Elt F) X7 = I.vc) (e8 : arg8.view.read (Elt F) X8 = I.vs)
    (eg : arg14.view.read (Elt F) X = I.g) (hR : Rows arg15 f15 I.v3 I.v4 I.v5) :
    iprop((arg15.view.loc (c : Thread nD τ) ↦[arg15.view.set]{fullShare} f15) ∗ (arg14.view.loc (c : Thread nD τ) ↦[arg14.view.set]{fullShare} X) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ wp frame (wpE (defs₀ (F := F)) Variants.none c none) Set.univ (cc0_adamw_int8 i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2) (fun _ =>
        iprop((∃ f, (arg15.view.loc (c : Thread nD τ) ↦[arg15.view.set]{fullShare} f) ∗ ⌜Rows arg15 f I.v3 I.v4 I.v5⌝)
        ∗ (∃ X', ⌜arg14.view.read (Elt F) X' = I.g⌝ ∗ stripInv c i I arg4 arg5 arg6 arg7 arg8 arg9 arg10 arg11 arg12 arg13 arg14 X4 X5 X6 X7 X8 X' 8))) := by
  simp only [cc0_adamw_int8_eq_skeleton]; unfold cc0_adamw_int8_skel
  iintro ⟨HS, H14, H4, H5, H6, H7, H8, H9, H10, H11, H12, H13⟩
  rw [dif_neg k0_h1]
  sl_exec
  have w3 := hR.e0
  have w4 := hR.e1
  have w5 := hR.e2
  rw [w3, w4, w5]
  iapply wp_wand_r
  isplitl [H4 H5 H6 H7 H8 H14 H9 H10 H11 H12 H13]
  · iapply (stripsRun Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 cc0_scratch2 _ I X4 X5 X6 X7 X8 X e4 e5 e6 e7 e8 eg f9 f10 f11 f12 f13)
    sl_close
  iintro %_ Hs
  isplitl [HS]
  · iexists _
    isplitl [HS]
    · iexact HS
    ipureintro; exact hR
  iexists X
  isplitr [Hs]
  · ipureintro; exact eg
  iexact Hs

end Cert.KernelIdeal.Run
end
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import proofs.«01_k».proof.Proof.Gen.KernelIdeal.Frame
public import proofs.«01_k».proof.Proof.IdealPrologue
public import proofs.«01_k».proof.Proof.IdealLater

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

/-- The gradient in HBM, its copy in VMEM, and the three scalars' rows. -/
abbrev hbG : Memref sig .tc .hbm S7168x2048 .bf16 := Memref.whole main_arg1
abbrev scG : Memref sig .tc .vmem S7168x2048 .bf16 := Memref.whole cc0_scratch0
abbrev scS : Memref sig .tc .vmem S8x128 .f32 := Memref.whole cc0_scratch1

variable (m : (ℓ : Loc nD τ sig) → Buf (Elt F) ℓ) (ρ : Dev nD → PrngReg)

/-! ## The blocks a point leaves, from its tiles -/

/-- The block whose tile `(k, b)` is `T k b`. -/
def wideOf {e : EltTy} (T : Fin 8 → Fin 16 → S32x128.Idx → Elt F e) : S256x2048.Idx → Elt F e := fun y =>
  T ⟨(y 0).val / 32, by have h : (y 0).val < 256 := (y 0).isLt; omega⟩ ⟨(y 1).val / 128, by have h : (y 1).val < 2048 := (y 1).isLt; omega⟩
    (fun a => ⟨![(y 0).val % 32, (y 1).val % 128] a, by fin_cases a; exacts [Nat.mod_lt _ (by decide), Nat.mod_lt _ (by decide)]⟩)

/-- The block of scales whose tile `(k, b)` is `T k b`. -/
def colOf {e : EltTy} (T : Fin 8 → Fin 16 → S32x1.Idx → Elt F e) : S256x16.Idx → Elt F e := fun y =>
  T ⟨(y 0).val / 32, by have h : (y 0).val < 256 := (y 0).isLt; omega⟩ ⟨(y 1).val, (y 1).isLt⟩
    (fun a => ⟨![(y 0).val % 32, 0] a, by fin_cases a; exacts [Nat.mod_lt _ (by decide), Nat.zero_lt_one]⟩)

theorem WideDone.eq {e : EltTy} {A : S256x2048.Idx → Elt F e} {T : Fin 8 → Fin 16 → S32x128.Idx → Elt F e} (h : WideDone 8 A T) : A = wideOf T := by
  funext y
  have hy : (y 0).val < 256 := (y 0).isLt
  have hy1 : (y 1).val < 2048 := (y 1).isLt
  refine Eq.trans (congrArg A (funext fun a => Fin.ext ?_)) (h ⟨(y 0).val / 32, by omega⟩ (by show (y 0).val / 32 < 8; omega) ⟨(y 1).val / 128, by omega⟩ _)
  fin_cases a
  · show (y 0).val = 32 * ((y 0).val / 32) + 1 * ((y 0).val % 32); omega
  · show (y 1).val = 128 * ((y 1).val / 128) + 1 * ((y 1).val % 128); omega

theorem ColDone.eq {e : EltTy} {A : S256x16.Idx → Elt F e} {T : Fin 8 → Fin 16 → S32x1.Idx → Elt F e} (h : ColDone 8 A T) : A = colOf T := by
  funext y
  have hy : (y 0).val < 256 := (y 0).isLt
  have hy1 : (y 1).val < 16 := (y 1).isLt
  refine Eq.trans (congrArg A (funext fun a => Fin.ext ?_)) (h ⟨(y 0).val / 32, by omega⟩ (by show (y 0).val / 32 < 8; omega) ⟨(y 1).val, by omega⟩ _)
  fin_cases a
  · show (y 0).val = 32 * ((y 0).val / 32) + 1 * ((y 0).val % 32); omega
  · show (y 1).val = (y 1).val + 1 * 0; omega

/-! ## What the points read -/

abbrev p0 : Fin cfg0.N := ⟨0, by decide⟩

/-- The step count and the loss scale, and the gradient. -/
def tW (c : Dev nD) : Elt F .i32 := iblk m c 0 p0 ((Rect.unit (s := S1) ![0] S1.size inb_S1_S1_0).toLoadRect.idx (Shape.Idx.first (by decide)))
def lsW (c : Dev nD) : Elt F .f32 := iblk m c 1 p0 ((Rect.unit (s := S1) ![0] S1.size inb_S1_S1_0).toLoadRect.idx (Shape.Idx.first (by decide)))
abbrev gV (c : Dev nD) : Vec F S7168x2048 .bf16 := V m c main_arg1

/-- The blocks and rows point `t` computes from. -/
def insAt (c : Dev nD) (t : Fin cfg0.N) : Ins F :=
  ⟨iblk m c 2 t, iblk m c 3 t, iblk m c 4 t, iblk m c 5 t, iblk m c 6 t, gV m c, row0 (gV m c) (lsW m c), row1 (tW m c), row2 (tW m c)⟩

/-! ## The proof data -/

/-- The two scratches before point `t`: anything at first, then the gradient and the scalar rows. -/
def scratchAt (c : Dev nD) (t : ℕ) : sProp 𝕄 :=
  if t = 0 then iprop((∃ f, owns (c : Thread nD τ) scG fullShare f) ∗ (∃ f, owns (c : Thread nD τ) scS fullShare f))
  else iprop(owns (c : Thread nD τ) scG fullShare (gV m c)
    ∗ (∃ f, (scS.view.loc (c : Thread nD τ) ↦[scS.view.set]{fullShare} f) ∗ ⌜Rows scS f (row0 (gV m c) (lsW m c)) (row1 (tW m c)) (row2 (tW m c))⌝))

def PhiAt (c : Dev nD) (t : ℕ) : sProp 𝕄 :=
  iprop(scratchAt m c t ∗ (∃ r, prngReg c r) ∗ semsZero c ∗ (hbG.view.loc (c : Thread nD τ) ↦{fullShare} V m c main_arg1))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wideOf fun k b => (insAt m c t).d (grid0.coords t) k b
    | ⟨8, _⟩ => wideOf fun k b => k0_pay29 ((insAt m c t).m (grid0.coords t) k b)
    | ⟨9, _⟩ => colOf fun k b => k0_pay28 ((insAt m c t).m (grid0.coords t) k b)
    | ⟨10, _⟩ => wideOf fun k b => k0_pay32 (k0_pay31 ((insAt m c t).v (grid0.coords t) k b))
    | ⟨11, _⟩ => colOf fun k b => k0_pay30 ((insAt m c t).v (grid0.coords t) k b)
  Φ t := PhiAt m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = (wideOf fun k b => (insAt m c t).d (grid0.coords t) k b) := by dsimp only [dats]
theorem after_8 (c : Dev nD) (t : Fin cfg0.N) : (dats m 0 c).after 8 t = (wideOf fun k b => k0_pay29 ((insAt m c t).m (grid0.coords t) k b)) := by dsimp only [dats]
theorem after_9 (c : Dev nD) (t : Fin cfg0.N) : (dats m 0 c).after 9 t = (colOf fun k b => k0_pay28 ((insAt m c t).m (grid0.coords t) k b)) := by dsimp only [dats]
theorem after_10 (c : Dev nD) (t : Fin cfg0.N) : (dats m 0 c).after 10 t = (wideOf fun k b => k0_pay32 (k0_pay31 ((insAt m c t).v (grid0.coords t) k b))) := by dsimp only [dats]
theorem after_11 (c : Dev nD) (t : Fin cfg0.N) : (dats m 0 c).after 11 t = (colOf fun k b => k0_pay30 ((insAt m c t).v (grid0.coords t) k b)) := by dsimp only [dats]

theorem first_iff : ∀ t : Fin cfg0.N, k0_cond1 (grid0.coords t) = 1#1 ↔ t.val = 0 := by decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

set_option maxHeartbeats 1000000

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6, after_7, after_8, after_9, after_10, after_11]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt scratchAt
  rw [if_neg (Nat.succ_ne_zero t.val)]
  unfold owns
  by_cases h1 : k0_cond1 (grid0.coords t) = 1#1
  · have ht : t.val = 0 := (first_iff t).1 h1
    obtain rfl : t = p0 := Fin.ext ht
    rw [if_pos ht]
    iintro ⟨⟨⟨⟨%_, %X14, -, HS0⟩, ⟨%_, %f15, -, HS1⟩⟩, Hp, ⟨Q0, Q1, Q2, Q3, Q4, Q5, Q6, Q7, Q8, Q9, Q10, Q11, Q12, Q13⟩, HG⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, -, H7⟩, ⟨%d8, %f8, -, H8⟩, ⟨%d9, %f9, -, H9⟩, ⟨%d10, %f10, -, H10⟩, ⟨%d11, %f11, -, H11⟩⟩
    iapply wp_wand_r
    isplitl [HS0 HS1 Q0 Q1 Q2 Q3 Q4 Q5 Q6 Q7 Q8 Q9 Q10 Q11 Q12 Q13 HG HW H0 H1 H2 H3 H4 H5 H6 H7 H8 H9 H10 H11]
    · iapply (firstRun c (grid0.coords p0) (win0_0.stage (cfg0.slots p0 0)) (hstage0_0 ((cfg0.slots p0 0).cast nbuf0_0)) (win0_1.stage (cfg0.slots p0 1)) (hstage0_1 ((cfg0.slots p0 1).cast nbuf0_1)) hbG (Memref.isWhole_whole _) (win0_2.stage (cfg0.slots p0 2)) (hstage0_2 ((cfg0.slots p0 2).cast nbuf0_2)) (win0_3.stage (cfg0.slots p0 3)) (hstage0_3 ((cfg0.slots p0 3).cast nbuf0_3)) (win0_4.stage (cfg0.slots p0 4)) (hstage0_4 ((cfg0.slots p0 4).cast nbuf0_4)) (win0_5.stage (cfg0.slots p0 5)) (hstage0_5 ((cfg0.slots p0 5).cast nbuf0_5)) (win0_6.stage (cfg0.slots p0 6)) (hstage0_6 ((cfg0.slots p0 6).cast nbuf0_6)) (win0_7.stage (cfg0.slots p0 7)) (hstage0_7 ((cfg0.slots p0 7).cast nbuf0_7)) (win0_8.stage (cfg0.slots p0 8)) (hstage0_8 ((cfg0.slots p0 8).cast nbuf0_8)) (win0_9.stage (cfg0.slots p0 9)) (hstage0_9 ((cfg0.slots p0 9).cast nbuf0_9)) (win0_10.stage (cfg0.slots p0 10)) (hstage0_10 ((cfg0.slots p0 10).cast nbuf0_10)) (win0_11.stage (cfg0.slots p0 11)) (hstage0_11 ((cfg0.slots p0 11).cast nbuf0_11)) scG (Memref.isWhole_whole _) scS (Memref.isWhole_whole _) h1 f0 f1 (V m c main_arg1) X14 f15 f2 f3 f4 f5 f6 f7 f8 f9 f10 f11 W (insAt m c p0) e2 e3 e4 e5 e6 rfl (congrArg (row0 (gV m c)) (congrFun e1 _)) (congrArg row1 (congrFun e0 _)) (congrArg row2 (congrFun e0 _)))
      sl_close
    iintro %_ ⟨H0, H1, HG, Hq, ⟨%W', HW⟩, HSr, ⟨%X', %hX, H2, H3, H4, H5, H6, HS0, ⟨%g7, H7, %h7⟩, ⟨%g8, H8, %h8⟩, ⟨%g9, H9, %h9⟩, ⟨%g10, H10, %h10⟩, ⟨%g11, H11, %h11⟩⟩⟩
    isplitl [Hp HS0 HSr Hq HG]
    · isplitl [HS0 HSr]
      · isplitl [HS0]
        · iexists _
          isplitr [HS0]
          · ipureintro; exact hX
          iexact HS0
        iexact HSr
      isplitl [Hp]
      · iexact Hp
      isplitl [Hq]
      · iexact Hq
      iexact HG
    isplitl [HW]
    · iexists W'
      isplitr [HW]
      · ipureintro; exact fun _ _ => Or.inl trivial
      iexact HW
    isplitl [H0]
    · iexists f0
      isplitr [H0]
      · ipureintro; exact e0
      iexact H0
    isplitl [H1]
    · iexists f1
      isplitr [H1]
      · ipureintro; exact e1
      iexact H1
    isplitl [H2]
    · iexists f2
      isplitr [H2]
      · ipureintro; exact e2
      iexact H2
    isplitl [H3]
    · iexists f3
      isplitr [H3]
      · ipureintro; exact e3
      iexact H3
    isplitl [H4]
    · iexists f4
      isplitr [H4]
      · ipureintro; exact e4
      iexact H4
    isplitl [H5]
    · iexists f5
      isplitr [H5]
      · ipureintro; exact e5
      iexact H5
    isplitl [H6]
    · iexists f6
      isplitr [H6]
      · ipureintro; exact e6
      iexact H6
    isplitl [H7]
    · iexists g7
      isplitr [H7]
      · ipureintro; exact h7.eq
      iexact H7
    isplitl [H8]
    · iexists g8
      isplitr [H8]
      · ipureintro; exact h8.eq
      iexact H8
    isplitl [H9]
    · iexists g9
      isplitr [H9]
      · ipureintro; exact h9.eq
      iexact H9
    isplitl [H10]
    · iexists g10
      isplitr [H10]
      · ipureintro; exact h10.eq
      iexact H10
    iexists g11
    isplitr [H11]
    · ipureintro; exact h11.eq
    iexact H11
  · have ht : t.val ≠ 0 := fun h => h1 ((first_iff t).2 h)
    rw [if_neg ht]
    iintro ⟨⟨⟨⟨%X14, %hX14, HS0⟩, ⟨%f15, HS1, %hR⟩⟩, Hp, Hq, HG⟩, ⟨%W', -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, -, H7⟩, ⟨%d8, %f8, -, H8⟩, ⟨%d9, %f9, -, H9⟩, ⟨%d10, %f10, -, H10⟩, ⟨%d11, %f11, -, H11⟩⟩
    iapply wp_wand_r
    isplitl [HS0 HS1 H2 H3 H4 H5 H6 H7 H8 H9 H10 H11]
    · iapply (laterRun c (grid0.coords t) (win0_0.stage (cfg0.slots t 0)) (hstage0_0 ((cfg0.slots t 0).cast nbuf0_0)) (win0_1.stage (cfg0.slots t 1)) (hstage0_1 ((cfg0.slots t 1).cast nbuf0_1)) hbG (Memref.isWhole_whole _) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scG (Memref.isWhole_whole _) scS (Memref.isWhole_whole _) h1 X14 f15 f2 f3 f4 f5 f6 f7 f8 f9 f10 f11 (insAt m c t) e2 e3 e4 e5 e6 hX14 hR)
      sl_close
    iintro %_ ⟨HSr, ⟨%X', %hX, H2, H3, H4, H5, H6, HS0, ⟨%g7, H7, %h7⟩, ⟨%g8, H8, %h8⟩, ⟨%g9, H9, %h9⟩, ⟨%g10, H10, %h10⟩, ⟨%g11, H11, %h11⟩⟩⟩
    isplitl [Hp HS0 HSr Hq HG]
    · isplitl [HS0 HSr]
      · isplitl [HS0]
        · iexists _
          isplitr [HS0]
          · ipureintro; exact hX
          iexact HS0
        iexact HSr
      isplitl [Hp]
      · iexact Hp
      isplitl [Hq]
      · iexact Hq
      iexact HG
    isplitl [HW]
    · iexists W'
      isplitr [HW]
      · ipureintro; exact fun _ _ => Or.inl trivial
      iexact HW
    isplitl [H0]
    · iexists f0
      isplitr [H0]
      · ipureintro; exact e0
      iexact H0
    isplitl [H1]
    · iexists f1
      isplitr [H1]
      · ipureintro; exact e1
      iexact H1
    isplitl [H2]
    · iexists f2
      isplitr [H2]
      · ipureintro; exact e2
      iexact H2
    isplitl [H3]
    · iexists f3
      isplitr [H3]
      · ipureintro; exact e3
      iexact H3
    isplitl [H4]
    · iexists f4
      isplitr [H4]
      · ipureintro; exact e4
      iexact H4
    isplitl [H5]
    · iexists f5
      isplitr [H5]
      · ipureintro; exact e5
      iexact H5
    isplitl [H6]
    · iexists f6
      isplitr [H6]
      · ipureintro; exact e6
      iexact H6
    isplitl [H7]
    · iexists g7
      isplitr [H7]
      · ipureintro; exact h7.eq
      iexact H7
    isplitl [H8]
    · iexists g8
      isplitr [H8]
      · ipureintro; exact h8.eq
      iexact H8
    isplitl [H9]
    · iexists g9
      isplitr [H9]
      · ipureintro; exact h9.eq
      iexact H9
    isplitl [H10]
    · iexists g10
      isplitr [H10]
      · ipureintro; exact h10.eq
      iexact H10
    iexists g11
    isplitr [H11]
    · ipureintro; exact h11.eq
    iexact H11

end Cert.KernelIdeal.Run
end
-- ==== Proof.IdealFrame.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import proofs.«01_k».proof.Proof.Gen.KernelIdeal.Frame
public import proofs.«01_k».proof.Proof.IdealBody

@[expose] public section

set_option maxRecDepth 16384
set_option warn.classDefReducibility false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the launch hands over: the scratches, the fourteen counters, the gradient in HBM -/

set_option maxHeartbeats 800000 in
/-- @main up to the region, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The counters the body's transfers of the gradient complete on. -/
abbrev osem0 : Fin 14 → SemLoc sig := fun j => (![SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35] : Fin 14 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = semsZero c := by
  rw [Pipeline.ownSems0_eq_of_list c osem0 [0, 1, 2, 3, 4, 5, 6, 7, 8, 9, 10, 11, 12, 13] (by decide) (by decide)]; rfl

/-- The array in HBM the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (hbG.view.loc (c : Thread nD τ) ↦{fullShare} V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ f, owns (c : Thread nD τ) scG fullShare f) ∗ (∃ f, owns (c : Thread nD τ) scS fullShare f))
          ∗ (∃ r, prngReg c r) ∗ semsZero c ∗ (hbG.view.loc (c : Thread nD τ) ↦{fullShare} V m c main_arg1)) := by
  rw [Pipeline.ΦD_eq, scopedRest0_eq, ownSems00_eq, hbmPts0_eq]
  simp only [scG, scS, owns_whole]; try rfl

theorem phi_in (c : Dev nD) : (Pipeline.ΦD osem0 spec0 H0 (V m) c : sProp 𝕄) ⊢ (dats m 0 c).Φ 0 := by
  rw [PhiD0_eq]
  show _ ⊢ PhiAt m c 0
  unfold PhiAt scratchAt
  rw [if_pos rfl]

theorem phi_out (c : Dev nD) : (dats m 0 c).Φ (Fin.last cfg0.N) ⊢ (Pipeline.ΦD osem0 spec0 H0 (V m) c : sProp 𝕄) := by
  rw [PhiD0_eq]
  show PhiAt m c (Fin.last cfg0.N).val ⊢ _
  unfold PhiAt scratchAt
  rw [if_neg (by decide)]
  iintro ⟨⟨HG, ⟨%f, HS, -⟩⟩, Hp, Hq, Hh⟩
  isplitl [HG HS]
  · isplitl [HG]
    · iexists _; iexact HG
    iexists _
    unfold owns
    iexists f
    isplitr [HS]
    · ipureintro; rfl
    iexact HS
  isplitl [Hp]
  · iexact Hp
  isplitl [Hq]
  · iexact Hq
  iexact Hh

/-! ## The run and the frame -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends as the points left it, every other buffer as launched, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The argument arrays end as they began. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: the argument arrays end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m r h.1 c, h.2⟩) (run_main m ρ)

end Cert.KernelIdeal.Run
end
-- ==== Proof.Spec.lean ====
module

public import Idealize.ShloMosaic.PureOps.Ideal
public import Idealize.ShloMosaic.PureOps.Ideal.Laws
public import Idealize.ShloMosaic.Lib.Pointwise

@[expose] public section

noncomputable section

/-! The AdamW step over the extended reals, one element at a time: what both programs compute. -/
namespace Cert.AdamW

open Idealize.ShloMosaic

/-- The real a binary32 literal stands for. -/
abbrev lit (b : BitVec 32) : EReal := Ideal.ofBits .f32 b

/-- The arguments, by coordinates. -/
structure Args where
  p : Fin 7168 → Fin 2048 → EReal
  g : Fin 7168 → Fin 2048 → EReal
  mc : Fin 7168 → Fin 2048 → BitVec 8
  ms : Fin 7168 → Fin 16 → EReal
  vc : Fin 7168 → Fin 2048 → BitVec 8
  vs : Fin 7168 → Fin 16 → EReal
  t : BitVec 32
  ls : EReal

/-- The arguments from the arrays that hold them. -/
def Args.of (p g : (⟨2, ![7168, 2048]⟩ : Shape).Idx → EReal) (mc : (⟨2, ![7168, 2048]⟩ : Shape).Idx → BitVec 8)
    (ms : (⟨2, ![7168, 16]⟩ : Shape).Idx → EReal) (vc : (⟨2, ![7168, 2048]⟩ : Shape).Idx → BitVec 8)
    (vs : (⟨2, ![7168, 16]⟩ : Shape).Idx → EReal) (t : (⟨0, ![]⟩ : Shape).Idx → BitVec 32) (ls : (⟨0, ![]⟩ : Shape).Idx → EReal) : Args :=
  ⟨fun r q => p (ix2 r q), fun r q => g (ix2 r q), fun r q => mc (ix2 r q), fun r q => ms (ix2 r q), fun r q => vc (ix2 r q),
    fun r q => vs (ix2 r q), t ix0, ls ix0⟩

/-- The 128-column block a column lies in. -/
def blk (q : Fin 2048) : Fin 16 := ⟨q.val / 128, by have := q.isLt; omega⟩

/-- Column `l` of block `b`. -/
def colAt (b : Fin 16) (l : Fin 128) : Fin 2048 := ⟨128 * b.val + l.val, by have := b.isLt; have := l.isLt; omega⟩

/-- The integer a word holds, as an extended real. -/
abbrev int {w : ℕ} (b : BitVec w) : EReal := ((b.toInt : ℝ) : EReal)

/-- The squared norm of the unscaled gradient. -/
def Args.total (A : Args) : EReal :=
  ∑ r : Fin 7168, ∑ q : Fin 2048, (A.g r q * Ideal.div 1 A.ls) * (A.g r q * Ideal.div 1 A.ls)

/-- The one factor that unscales and clips. -/
def Args.factor (A : Args) : EReal := min 1 (Ideal.div 1 (Ideal.sqrt A.total)) * Ideal.div 1 A.ls

/-- The unscaled, clipped gradient. -/
def Args.gk (A : Args) (r : Fin 7168) (q : Fin 2048) : EReal := A.g r q * A.factor

/-- The new first moment. -/
def Args.m (A : Args) (r : Fin 7168) (q : Fin 2048) : EReal :=
  lit 0x3F666666#32 * (int (A.mc r q) * A.ms r (blk q)) + lit 0x3DCCCCCD#32 * A.gk r q

/-- The new second moment. -/
def Args.v (A : Args) (r : Fin 7168) (q : Fin 2048) : EReal :=
  lit 0x3F7FBE77#32 * (int (A.vc r q) * A.vs r (blk q)) + lit 0x3A83126F#32 * (A.gk r q * A.gk r q)

/-- A bias correction `1 - β ^ t`. -/
def bias (b t : BitVec 32) : EReal := 1 - Ideal.pow (lit b) (int t)

/-- The update. -/
def Args.d (A : Args) (r : Fin 7168) (q : Fin 2048) : EReal :=
  lit 0xBA83126F#32 * (Ideal.div (A.m r q * Ideal.div 1 (bias 0x3F666666#32 A.t))
    (Ideal.sqrt (A.v r q * Ideal.div 1 (bias 0x3F7FBE77#32 A.t)) + lit 0x322BCC77#32) + lit 0x3C23D70A#32 * A.p r q)

/-- The largest magnitude of a row's block. -/
def amax (x : Fin 7168 → Fin 2048 → EReal) (r : Fin 7168) (b : Fin 16) : EReal :=
  Finset.univ.fold max (lit 0xFF800000#32) fun l : Fin 128 => max (x r (colAt b l)) (-(x r (colAt b l)))

/-- The scale a magnitude gives. -/
def scaleOf (a : EReal) : EReal := if 0 < a then Ideal.div a (lit 0x42FE0000#32) else 1

/-- The code of a value at a scale. -/
def codeOf (x s : EReal) : BitVec 8 :=
  Ideal.fptosi 8 (min (lit 0x42FE0000#32) (max (lit 0xC2FE0000#32) (Ideal.liftRound Ideal.roundHalfEven (Ideal.div x s))))

/-- The scales of an array, and its codes. -/
def scales (x : Fin 7168 → Fin 2048 → EReal) (r : Fin 7168) (b : Fin 16) : EReal := scaleOf (amax x r b)
def codes (x : Fin 7168 → Fin 2048 → EReal) (r : Fin 7168) (q : Fin 2048) : BitVec 8 := codeOf (x r q) (scales x r (blk q))

end Cert.AdamW
end
-- ==== Proof.KTotal.lean ====
module

public import proofs.«01_k».proof.Proof.IdealFrame
public import proofs.«01_k».proof.Proof.Spec
public import Idealize.ShloMosaic.Lib.Pointwise

@[expose] public section

set_option maxRecDepth 16384

noncomputable section

namespace Cert.KernelIdeal.Run

open Cert.KernelIdeal Cert.KernelIdeal.Gen Cert.AdamW
open Idealize.ShloMosaic Idealize.ShloMosaic.TcCoe Idealize.ShloMosaic.Tactic
open Idealize.SL.Sem

/-! ## The squared norm: the order the kernel adds in does not matter -/

/-- What an accumulator adds up to. -/
def tot (y : FVec Ideal S8x128 .f32) : EReal := ∑ a : Fin 8, ∑ b : Fin 128, y (ix2 a b)

theorem tot_eq (y : FVec Ideal S8x128 .f32) : tot y = ∑ j : S8x128.Idx, (y j : EReal) := (sum_idx2 _).symm

/-- One element's contribution. -/
def sq (A : Vec Ideal S7168x2048 .bf16) (u : EReal) (r : Fin 7168) (q : Fin 2048) : EReal :=
  ((A (ix2 r q) : EReal) * u) * ((A (ix2 r q) : EReal) * u)

/-- One slab adds its elements' squares, whatever lane each goes to. -/
theorem tot_slab (inv : FVec Ideal S1x1 .f32) (acc : FVec Ideal S8x128 .f32) (z : Vec Ideal S16x2048 .bf16) :
    tot (k0_pay7 inv acc z) = tot acc + ∑ r : Fin 16, ∑ q : Fin 2048,
      ((z (ix2 r q) : EReal) * inv (ix2 0 0)) * ((z (ix2 r q) : EReal) * inv (ix2 0 0)) := by
  have hp : ∀ j : S8x128.Idx, k0_pay7 inv acc z j = acc j + Ideal.reduceAdd reduces_S2x8x16x128_S8x128
        (shapeCast S2x8x16x128
          (mulf (mulf (extf FTy.f32 z bitsLt_bf16_f32) (broadcastTo S16x2048 inv broadcasts_S1x1_S16x2048))
            (mulf (extf FTy.f32 z bitsLt_bf16_f32) (broadcastTo S16x2048 inv broadcasts_S1x1_S16x2048)))
          shapeCasts_S16x2048_S2x8x16x128) j := by
    intro j
    pointwise [k0_pay7]
  rw [tot_eq, tot_eq, Finset.sum_congr rfl fun j _ => hp j, Finset.sum_add_distrib]
  congr 1
  unfold Ideal.reduceAdd
  rw [Finset.sum_fiberwise, ← sum_idx2 (fun i : S16x2048.Idx => ((z i : EReal) * inv (ix2 0 0)) * ((z i : EReal) * inv (ix2 0 0)))]
  unfold shapeCast
  refine (Equiv.sum_comp (Shape.reshapeEquiv shapeCasts_S16x2048_S2x8x16x128) (fun i : S16x2048.Idx => (mulf (mulf (extf FTy.f32 z bitsLt_bf16_f32) (broadcastTo S16x2048 inv broadcasts_S1x1_S16x2048))
            (mulf (extf FTy.f32 z bitsLt_bf16_f32) (broadcastTo S16x2048 inv broadcasts_S1x1_S16x2048)) i : EReal))).trans ?_
  refine Finset.sum_congr rfl fun i _ => ?_
  idx_vars i
  pointwise

/-- An accumulator whose every step adds a number adds all of them. -/
theorem tot_accAt {n : ℕ} (step : Fin n → FVec Ideal S8x128 .f32 → FVec Ideal S8x128 .f32) (f : Fin n → EReal)
    (h : ∀ k a, tot (step k a) = tot a + f k) (init : FVec Ideal S8x128 .f32) :
    ∀ (k : ℕ) (hk : k ≤ n), tot (accAt step init k) = tot init + ∑ j : Fin k, f (Fin.castLE hk j) := by
  intro k
  induction k with
  | zero => intro hk; simp [accAt]
  | succ k ih =>
    intro hk
    rw [accAt_succ step init ⟨k, hk⟩, h, ih (Nat.le_of_succ_le hk), Fin.sum_univ_castSucc, add_assoc]
    rfl

theorem tot_chunk (A : Vec Ideal S7168x2048 .bf16) (inv : FVec Ideal S1x1 .f32) (n : Fin 14) (init : FVec Ideal S8x128 .f32) :
    tot (chunkAcc A inv n init) = tot init + ∑ j : Fin 32, ∑ r : Fin 16, ∑ q : Fin 2048,
      sq A (inv (ix2 0 0)) ⟨16 * j.val + 512 * n.val + r.val, by have := n.isLt; have := j.isLt; have := r.isLt; omega⟩ q := by
  unfold chunkAcc
  refine (tot_accAt _ (fun j : Fin 32 => ∑ r : Fin 16, ∑ q : Fin 2048,
      sq A (inv (ix2 0 0)) ⟨16 * j.val + 512 * n.val + r.val, by have := n.isLt; have := j.isLt; have := r.isLt; omega⟩ q) ?_ init 32 le_rfl).trans ?_
  · intro j a
    refine (tot_slab _ _ _).trans (congrArg (tot a + ·) (Finset.sum_congr rfl fun r _ => Finset.sum_congr rfl fun q _ => ?_))
    have e : (slabRect n j).toLoadRect.idx (ix2 r q) = ix2 ⟨16 * j.val + 512 * n.val + r.val, by have := n.isLt; have := j.isLt; have := r.isLt; omega⟩ q := by
      funext a
      apply Fin.ext
      fin_cases a
      · show 16 * j.val + 512 * n.val + 1 * r.val = 16 * j.val + 512 * n.val + r.val; omega
      · show 0 + 1 * q.val = q.val; omega
    unfold sq
    rw [← e]
  · rfl

/-- Splitting a sum over `a * b` positions into `a` runs of `b`. -/
theorem sum_runs {N : ℕ} (a b : ℕ) (hN : a * b = N) (f : Fin N → EReal) :
    ∑ k : Fin N, f k = ∑ i : Fin a, ∑ j : Fin b, f ⟨b * i.val + j.val, by
      have hi := i.isLt
      have hj := j.isLt
      have : b * i.val + b ≤ b * a := by rw [← Nat.mul_succ]; exact Nat.mul_le_mul_left b hi
      rw [← hN, Nat.mul_comm a b]; omega⟩ := by
  subst hN
  rw [← Fintype.sum_prod_type', ← Equiv.sum_comp finProdFinEquiv]
  refine Finset.sum_congr rfl fun x _ => congrArg f (Fin.ext ?_)
  show x.2.val + b * x.1.val = b * x.1.val + x.2.val
  omega

theorem tot_all (A : Vec Ideal S7168x2048 .bf16) (inv : FVec Ideal S1x1 .f32) :
    tot (sumAll A inv) = ∑ r : Fin 7168, ∑ q : Fin 2048, sq A (inv (ix2 0 0)) r q := by
  unfold sumAll
  refine (tot_accAt _ _ (fun n a => tot_chunk A inv n a) _ 14 le_rfl).trans ?_
  have h0 : tot (k0_pay4 (F := Ideal)) = 0 := by
    unfold tot
    refine Finset.sum_eq_zero fun a _ => Finset.sum_eq_zero fun b _ => ?_
    pointwise [k0_pay4]
  rw [h0, zero_add]
  refine Eq.trans (Finset.sum_congr rfl fun n _ => ?_) (sum_runs 14 512 (by norm_num) (fun r => ∑ q : Fin 2048, sq A (inv (ix2 0 0)) r q)).symm
  refine Eq.trans (Finset.sum_congr rfl fun j _ => ?_) (sum_runs (N := 512) 32 16 (by norm_num) _).symm
  refine Finset.sum_congr rfl fun r _ => Finset.sum_congr rfl fun q _ => ?_
  refine congrArg (fun r => sq A (inv (ix2 0 0)) r q) (Fin.ext ?_)
  show 16 * j.val + 512 * n.val + r.val = 512 * n.val + (16 * j.val + r.val)
  omega

end Cert.KernelIdeal.Run
end
-- ==== Proof.KBlocks.lean ====
module

public import proofs.«01_k».proof.Proof.IdealFrame
public import proofs.«01_k».proof.Proof.Spec
public import Idealize.ShloMosaic.Lib.Pointwise

@[expose] public section

set_option maxRecDepth 16384

noncomputable section

namespace Cert.KernelIdeal.Run

open Cert.KernelIdeal Cert.KernelIdeal.Gen Cert.AdamW
open Idealize.ShloMosaic Idealize.ShloMosaic.TcCoe Idealize.ShloMosaic.Tactic
open Idealize.SL.Sem

/-! ## Which elements of the arrays a point's blocks are -/

theorem coords_val : ∀ t : Fin cfg0.N, (grid0.coords t 0).val = t.val := by decide

/-- Row `a` of point `t`'s blocks. -/
def rowAt (t : Fin cfg0.N) (a : Fin 256) : Fin 7168 := ⟨256 * t.val + a.val, by have h : t.val < 28 := t.isLt; have := a.isLt; omega⟩

theorem index_2 : ∀ t : Fin cfg0.N, cc0_transform_3 (grid0.coords t) 0 = t.val := by decide

theorem emb_2 (t : Fin cfg0.N) (a : Fin 256) (q : Fin 2048) :
    ((cfg0.win 2).blk t).view.emb (ix2 a q : S256x2048.Idx) = (ix2 (rowAt t a) q : S7168x2048.Idx) := by
  funext x
  apply Fin.ext
  fin_cases x
  · show cc0_transform_3 (grid0.coords t) 0 * 256 + 1 * a.val = 256 * t.val + a.val
    rw [index_2]; omega
  · show 0 * 2048 + 1 * q.val = q.val; omega

theorem index_3 : ∀ t : Fin cfg0.N, cc0_transform_4 (grid0.coords t) 0 = t.val := by decide

theorem emb_3 (t : Fin cfg0.N) (a : Fin 256) (q : Fin 2048) :
    ((cfg0.win 3).blk t).view.emb (ix2 a q : S256x2048.Idx) = (ix2 (rowAt t a) q : S7168x2048.Idx) := by
  funext x
  apply Fin.ext
  fin_cases x
  · show cc0_transform_4 (grid0.coords t) 0 * 256 + 1 * a.val = 256 * t.val + a.val
    rw [index_3]; omega
  · show 0 * 2048 + 1 * q.val = q.val; omega

theorem index_4 : ∀ t : Fin cfg0.N, cc0_transform_5 (grid0.coords t) 0 = t.val := by decide

theorem emb_4 (t : Fin cfg0.N) (a : Fin 256) (q : Fin 16) :
    ((cfg0.win 4).blk t).view.emb (ix2 a q : S256x16.Idx) = (ix2 (rowAt t a) q : S7168x16.Idx) := by
  funext x
  apply Fin.ext
  fin_cases x
  · show cc0_transform_5 (grid0.coords t) 0 * 256 + 1 * a.val = 256 * t.val + a.val
    rw [index_4]; omega
  · show 0 * 16 + 1 * q.val = q.val; omega

theorem index_5 : ∀ t : Fin cfg0.N, cc0_transform_6 (grid0.coords t) 0 = t.val := by decide

theorem emb_5 (t : Fin cfg0.N) (a : Fin 256) (q : Fin 2048) :
    ((cfg0.win 5).blk t).view.emb (ix2 a q : S256x2048.Idx) = (ix2 (rowAt t a) q : S7168x2048.Idx) := by
  funext x
  apply Fin.ext
  fin_cases x
  · show cc0_transform_6 (grid0.coords t) 0 * 256 + 1 * a.val = 256 * t.val + a.val
    rw [index_5]; omega
  · show 0 * 2048 + 1 * q.val = q.val; omega

theorem index_6 : ∀ t : Fin cfg0.N, cc0_transform_7 (grid0.coords t) 0 = t.val := by decide

theorem emb_6 (t : Fin cfg0.N) (a : Fin 256) (q : Fin 16) :
    ((cfg0.win 6).blk t).view.emb (ix2 a q : S256x16.Idx) = (ix2 (rowAt t a) q : S7168x16.Idx) := by
  funext x
  apply Fin.ext
  fin_cases x
  · show cc0_transform_7 (grid0.coords t) 0 * 256 + 1 * a.val = 256 * t.val + a.val
    rw [index_6]; omega
  · show 0 * 16 + 1 * q.val = q.val; omega

theorem index_7 : ∀ t : Fin cfg0.N, cc0_transform_8 (grid0.coords t) 0 = t.val := by decide

theorem emb_7 (t : Fin cfg0.N) (a : Fin 256) (q : Fin 2048) :
    ((cfg0.win 7).blk t).view.emb (ix2 a q : S256x2048.Idx) = (ix2 (rowAt t a) q : S7168x2048.Idx) := by
  funext x
  apply Fin.ext
  fin_cases x
  · show cc0_transform_8 (grid0.coords t) 0 * 256 + 1 * a.val = 256 * t.val + a.val
    rw [index_7]; omega
  · show 0 * 2048 + 1 * q.val = q.val; omega

theorem index_8 : ∀ t : Fin cfg0.N, cc0_transform_9 (grid0.coords t) 0 = t.val := by decide

theorem emb_8 (t : Fin cfg0.N) (a : Fin 256) (q : Fin 2048) :
    ((cfg0.win 8).blk t).view.emb (ix2 a q : S256x2048.Idx) = (ix2 (rowAt t a) q : S7168x2048.Idx) := by
  funext x
  apply Fin.ext
  fin_cases x
  · show cc0_transform_9 (grid0.coords t) 0 * 256 + 1 * a.val = 256 * t.val + a.val
    rw [index_8]; omega
  · show 0 * 2048 + 1 * q.val = q.val; omega

theorem index_9 : ∀ t : Fin cfg0.N, cc0_transform_10 (grid0.coords t) 0 = t.val := by decide

theorem emb_9 (t : Fin cfg0.N) (a : Fin 256) (q : Fin 16) :
    ((cfg0.win 9).blk t).view.emb (ix2 a q : S256x16.Idx) = (ix2 (rowAt t a) q : S7168x16.Idx) := by
  funext x
  apply Fin.ext
  fin_cases x
  · show cc0_transform_10 (grid0.coords t) 0 * 256 + 1 * a.val = 256 * t.val + a.val
    rw [index_9]; omega
  · show 0 * 16 + 1 * q.val = q.val; omega

theorem index_10 : ∀ t : Fin cfg0.N, cc0_transform_11 (grid0.coords t) 0 = t.val := by decide

theorem emb_10 (t : Fin cfg0.N) (a : Fin 256) (q : Fin 2048) :
    ((cfg0.win 10).blk t).view.emb (ix2 a q : S256x2048.Idx) = (ix2 (rowAt t a) q : S7168x2048.Idx) := by
  funext x
  apply Fin.ext
  fin_cases x
  · show cc0_transform_11 (grid0.coords t) 0 * 256 + 1 * a.val = 256 * t.val + a.val
    rw [index_10]; omega
  · show 0 * 2048 + 1 * q.val = q.val; omega

theorem index_11 : ∀ t : Fin cfg0.N, cc0_transform_12 (grid0.coords t) 0 = t.val := by decide

theorem emb_11 (t : Fin cfg0.N) (a : Fin 256) (q : Fin 16) :
    ((cfg0.win 11).blk t).view.emb (ix2 a q : S256x16.Idx) = (ix2 (rowAt t a) q : S7168x16.Idx) := by
  funext x
  apply Fin.ext
  fin_cases x
  · show cc0_transform_12 (grid0.coords t) 0 * 256 + 1 * a.val = 256 * t.val + a.val
    rw [index_11]; omega
  · show 0 * 16 + 1 * q.val = q.val; omega

variable (m : (ℓ : Loc nD τ sig) → Buf (Elt Ideal) ℓ)

theorem iblk_2 (c : Dev nD) (t : Fin cfg0.N) (a : Fin 256) (q : Fin 2048) :
    iblk m c 2 t (ix2 a q : S256x2048.Idx) = V m c main_arg0 (ix2 (rowAt t a) q : S7168x2048.Idx) := by
  unfold iblk
  rw [View.read_apply, emb_2]
  rfl

theorem iblk_3 (c : Dev nD) (t : Fin cfg0.N) (a : Fin 256) (q : Fin 2048) :
    iblk m c 3 t (ix2 a q : S256x2048.Idx) = V m c main_arg2 (ix2 (rowAt t a) q : S7168x2048.Idx) := by
  unfold iblk
  rw [View.read_apply, emb_3]
  rfl

theorem iblk_4 (c : Dev nD) (t : Fin cfg0.N) (a : Fin 256) (q : Fin 16) :
    iblk m c 4 t (ix2 a q : S256x16.Idx) = V m c main_arg3 (ix2 (rowAt t a) q : S7168x16.Idx) := by
  unfold iblk
  rw [View.read_apply, emb_4]
  rfl

theorem iblk_5 (c : Dev nD) (t : Fin cfg0.N) (a : Fin 256) (q : Fin 2048) :
    iblk m c 5 t (ix2 a q : S256x2048.Idx) = V m c main_arg4 (ix2 (rowAt t a) q : S7168x2048.Idx) := by
  unfold iblk
  rw [View.read_apply, emb_5]
  rfl

theorem iblk_6 (c : Dev nD) (t : Fin cfg0.N) (a : Fin 256) (q : Fin 16) :
    iblk m c 6 t (ix2 a q : S256x16.Idx) = V m c main_arg5 (ix2 (rowAt t a) q : S7168x16.Idx) := by
  unfold iblk
  rw [View.read_apply, emb_6]
  rfl

/-- The points' blocks of window 7 tile its array. -/
theorem cover_7 (i : S7168x2048.Idx) : ∃ t : Fin cfg0.N, (cfg0.win 7).flush t = true ∧ i ∈ ((cfg0.win 7).blk t).view.set := by
  idx_vars i
  have h0 := i0.isLt
  have ht : i0.val / 256 < cfg0.N := by show i0.val / 256 < 28; omega
  refine ⟨⟨i0.val / 256, ht⟩, flush0_7 _, ?_⟩
  have e := emb_7 ⟨i0.val / 256, ht⟩ ⟨i0.val % 256, Nat.mod_lt _ (by decide)⟩ i1
  rw [show rowAt ⟨i0.val / 256, ht⟩ ⟨i0.val % 256, Nat.mod_lt _ (by decide)⟩ = i0 from Fin.ext (by show 256 * (i0.val / 256) + i0.val % 256 = i0.val; omega)] at e
  exact e ▸ View.emb_mem_set _ _

/-- An array the points' blocks of window 7 are read from is what the run leaves there. -/
theorem final_7 (c : Dev nD) (G : Fin 7168 → Fin 2048 → Elt Ideal (cfg0.win 7).elt)
    (h : ∀ t (a : Fin 256) (q : Fin 2048), (dats m 0 c).after 7 t (ix2 a q : S256x2048.Idx) = G (rowAt t a) q) :
    (dats m 0 c).arrAt 7 cfg0.N = fun y : S7168x2048.Idx => G (y 0) (y 1) := by
  refine (dats m 0 c).arrAt_eq_of_cover 7 (fun y : S7168x2048.Idx => G (y 0) (y 1)) (fun t _ => ?_) cover_7
  funext y
  obtain ⟨a, q, rfl⟩ : ∃ (a : Fin 256) (q : Fin 2048), y = (ix2 a q : S256x2048.Idx) := ⟨y 0, y 1, eq_ix2 y⟩
  refine (h t a q).trans ?_
  rw [View.read_apply, emb_7]
  rfl

/-- The points' blocks of window 8 tile its array. -/
theorem cover_8 (i : S7168x2048.Idx) : ∃ t : Fin cfg0.N, (cfg0.win 8).flush t = true ∧ i ∈ ((cfg0.win 8).blk t).view.set := by
  idx_vars i
  have h0 := i0.isLt
  have ht : i0.val / 256 < cfg0.N := by show i0.val / 256 < 28; omega
  refine ⟨⟨i0.val / 256, ht⟩, flush0_8 _, ?_⟩
  have e := emb_8 ⟨i0.val / 256, ht⟩ ⟨i0.val % 256, Nat.mod_lt _ (by decide)⟩ i1
  rw [show rowAt ⟨i0.val / 256, ht⟩ ⟨i0.val % 256, Nat.mod_lt _ (by decide)⟩ = i0 from Fin.ext (by show 256 * (i0.val / 256) + i0.val % 256 = i0.val; omega)] at e
  exact e ▸ View.emb_mem_set _ _

/-- An array the points' blocks of window 8 are read from is what the run leaves there. -/
theorem final_8 (c : Dev nD) (G : Fin 7168 → Fin 2048 → Elt Ideal (cfg0.win 8).elt)
    (h : ∀ t (a : Fin 256) (q : Fin 2048), (dats m 0 c).after 8 t (ix2 a q : S256x2048.Idx) = G (rowAt t a) q) :
    (dats m 0 c).arrAt 8 cfg0.N = fun y : S7168x2048.Idx => G (y 0) (y 1) := by
  refine (dats m 0 c).arrAt_eq_of_cover 8 (fun y : S7168x2048.Idx => G (y 0) (y 1)) (fun t _ => ?_) cover_8
  funext y
  obtain ⟨a, q, rfl⟩ : ∃ (a : Fin 256) (q : Fin 2048), y = (ix2 a q : S256x2048.Idx) := ⟨y 0, y 1, eq_ix2 y⟩
  refine (h t a q).trans ?_
  rw [View.read_apply, emb_8]
  rfl

/-- The points' blocks of window 9 tile its array. -/
theorem cover_9 (i : S7168x16.Idx) : ∃ t : Fin cfg0.N, (cfg0.win 9).flush t = true ∧ i ∈ ((cfg0.win 9).blk t).view.set := by
  idx_vars i
  have h0 := i0.isLt
  have ht : i0.val / 256 < cfg0.N := by show i0.val / 256 < 28; omega
  refine ⟨⟨i0.val / 256, ht⟩, flush0_9 _, ?_⟩
  have e := emb_9 ⟨i0.val / 256, ht⟩ ⟨i0.val % 256, Nat.mod_lt _ (by decide)⟩ i1
  rw [show rowAt ⟨i0.val / 256, ht⟩ ⟨i0.val % 256, Nat.mod_lt _ (by decide)⟩ = i0 from Fin.ext (by show 256 * (i0.val / 256) + i0.val % 256 = i0.val; omega)] at e
  exact e ▸ View.emb_mem_set _ _

/-- An array the points' blocks of window 9 are read from is what the run leaves there. -/
theorem final_9 (c : Dev nD) (G : Fin 7168 → Fin 16 → Elt Ideal (cfg0.win 9).elt)
    (h : ∀ t (a : Fin 256) (q : Fin 16), (dats m 0 c).after 9 t (ix2 a q : S256x16.Idx) = G (rowAt t a) q) :
    (dats m 0 c).arrAt 9 cfg0.N = fun y : S7168x16.Idx => G (y 0) (y 1) := by
  refine (dats m 0 c).arrAt_eq_of_cover 9 (fun y : S7168x16.Idx => G (y 0) (y 1)) (fun t _ => ?_) cover_9
  funext y
  obtain ⟨a, q, rfl⟩ : ∃ (a : Fin 256) (q : Fin 16), y = (ix2 a q : S256x16.Idx) := ⟨y 0, y 1, eq_ix2 y⟩
  refine (h t a q).trans ?_
  rw [View.read_apply, emb_9]
  rfl

/-- The points' blocks of window 10 tile its array. -/
theorem cover_10 (i : S7168x2048.Idx) : ∃ t : Fin cfg0.N, (cfg0.win 10).flush t = true ∧ i ∈ ((cfg0.win 10).blk t).view.set := by
  idx_vars i
  have h0 := i0.isLt
  have ht : i0.val / 256 < cfg0.N := by show i0.val / 256 < 28; omega
  refine ⟨⟨i0.val / 256, ht⟩, flush0_10 _, ?_⟩
  have e := emb_10 ⟨i0.val / 256, ht⟩ ⟨i0.val % 256, Nat.mod_lt _ (by decide)⟩ i1
  rw [show rowAt ⟨i0.val / 256, ht⟩ ⟨i0.val % 256, Nat.mod_lt _ (by decide)⟩ = i0 from Fin.ext (by show 256 * (i0.val / 256) + i0.val % 256 = i0.val; omega)] at e
  exact e ▸ View.emb_mem_set _ _

/-- An array the points' blocks of window 10 are read from is what the run leaves there. -/
theorem final_10 (c : Dev nD) (G : Fin 7168 → Fin 2048 → Elt Ideal (cfg0.win 10).elt)
    (h : ∀ t (a : Fin 256) (q : Fin 2048), (dats m 0 c).after 10 t (ix2 a q : S256x2048.Idx) = G (rowAt t a) q) :
    (dats m 0 c).arrAt 10 cfg0.N = fun y : S7168x2048.Idx => G (y 0) (y 1) := by
  refine (dats m 0 c).arrAt_eq_of_cover 10 (fun y : S7168x2048.Idx => G (y 0) (y 1)) (fun t _ => ?_) cover_10
  funext y
  obtain ⟨a, q, rfl⟩ : ∃ (a : Fin 256) (q : Fin 2048), y = (ix2 a q : S256x2048.Idx) := ⟨y 0, y 1, eq_ix2 y⟩
  refine (h t a q).trans ?_
  rw [View.read_apply, emb_10]
  rfl

/-- The points' blocks of window 11 tile its array. -/
theorem cover_11 (i : S7168x16.Idx) : ∃ t : Fin cfg0.N, (cfg0.win 11).flush t = true ∧ i ∈ ((cfg0.win 11).blk t).view.set := by
  idx_vars i
  have h0 := i0.isLt
  have ht : i0.val / 256 < cfg0.N := by show i0.val / 256 < 28; omega
  refine ⟨⟨i0.val / 256, ht⟩, flush0_11 _, ?_⟩
  have e := emb_11 ⟨i0.val / 256, ht⟩ ⟨i0.val % 256, Nat.mod_lt _ (by decide)⟩ i1
  rw [show rowAt ⟨i0.val / 256, ht⟩ ⟨i0.val % 256, Nat.mod_lt _ (by decide)⟩ = i0 from Fin.ext (by show 256 * (i0.val / 256) + i0.val % 256 = i0.val; omega)] at e
  exact e ▸ View.emb_mem_set _ _

/-- An array the points' blocks of window 11 are read from is what the run leaves there. -/
theorem final_11 (c : Dev nD) (G : Fin 7168 → Fin 16 → Elt Ideal (cfg0.win 11).elt)
    (h : ∀ t (a : Fin 256) (q : Fin 16), (dats m 0 c).after 11 t (ix2 a q : S256x16.Idx) = G (rowAt t a) q) :
    (dats m 0 c).arrAt 11 cfg0.N = fun y : S7168x16.Idx => G (y 0) (y 1) := by
  refine (dats m 0 c).arrAt_eq_of_cover 11 (fun y : S7168x16.Idx => G (y 0) (y 1)) (fun t _ => ?_) cover_11
  funext y
  obtain ⟨a, q, rfl⟩ : ∃ (a : Fin 256) (q : Fin 16), y = (ix2 a q : S256x16.Idx) := ⟨y 0, y 1, eq_ix2 y⟩
  refine (h t a q).trans ?_
  rw [View.read_apply, emb_11]
  rfl

end Cert.KernelIdeal.Run
end
-- ==== Proof.KValue.lean ====
module

public import proofs.«01_k».proof.Proof.IdealFrame
public import proofs.«01_k».proof.Proof.Spec
public import proofs.«01_k».proof.Proof.KTotal
public import proofs.«01_k».proof.Proof.KBlocks
public import Idealize.ShloMosaic.Lib.Pointwise

@[expose] public section

set_option maxRecDepth 16384

noncomputable section

namespace Cert.KernelIdeal.Run

open Cert.KernelIdeal Cert.KernelIdeal.Gen Cert.AdamW
open Idealize.ShloMosaic Idealize.ShloMosaic.TcCoe Idealize.ShloMosaic.Tactic
open Idealize.SL.Sem

/-! ## The arrays the run leaves, element by element -/

variable (m : (ℓ : Loc nD τ sig) → Buf (Elt Ideal) ℓ)

/-- The arguments device `c` is launched with. -/
def argsOf (c : Dev nD) : Args := Args.of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem V_main_v0 (c : Dev nD) : V m c main_v0 = shapeCast S1 (m ((c : Thread nD τ).loc main_arg6)) shapeCasts_S_S1 := by
  rfl

theorem V_main_v1 (c : Dev nD) : V m c main_v1 = shapeCast S1 (m ((c : Thread nD τ).loc main_arg7)) shapeCasts_S_S1 := by
  rfl

theorem tW_eq (c : Dev nD) : tW m c = (argsOf m c).t := by
  unfold tW iblk
  rw [View.read_apply]
  show V m c main_v0 _ = _
  rw [V_main_v0]
  exact congrArg (m ((c : Thread nD τ).loc main_arg6)) (funext fun x => x.elim0)

theorem lsW_eq (c : Dev nD) : lsW m c = (argsOf m c).ls := by
  unfold lsW iblk
  rw [View.read_apply]
  show V m c main_v1 _ = _
  rw [V_main_v1]
  exact congrArg (m ((c : Thread nD τ).loc main_arg7)) (funext fun x => x.elim0)

theorem gV_apply (c : Dev nD) (r : Fin 7168) (q : Fin 2048) : gV m c (ix2 r q : S7168x2048.Idx) = (argsOf m c).g r q :=
  congrFun (V_main_arg1 m c) _

/-- The row that unscales and clips. -/
theorem row0_apply (c : Dev nD) (l : Fin 128) : row0 (gV m c) (lsW m c) (ix2 0 l) = (argsOf m c).factor := by
  have h3 : k0_pay3 (F := Ideal) (lsW m c) (ix2 0 0) = Ideal.div 1 (argsOf m c).ls := by
    rw [lsW_eq]
    pointwise [k0_pay3]
  have ht := tot_all (gV m c) (k0_pay3 (lsW m c))
  have hs : ∑ r : Fin 7168, ∑ q : Fin 2048, sq (gV m c) (k0_pay3 (F := Ideal) (lsW m c) (ix2 0 0)) r q = (argsOf m c).total := by
    unfold Args.total sq
    refine Finset.sum_congr rfl fun r _ => Finset.sum_congr rfl fun q _ => ?_
    rw [h3, gV_apply]
  have h : ∀ x y, k0_pay21 (F := Ideal) x y (ix2 0 l) = min 1 (Ideal.div 1 (Ideal.sqrt (tot y))) * x (ix2 0 0) := by
    intro x y
    unfold tot
    pointwise [k0_pay21]
  unfold row0
  rw [h, ht, hs, h3]
  rfl

theorem row1_apply (c : Dev nD) (l : Fin 128) : row1 (F := Ideal) (tW m c) (ix2 0 l) = Ideal.div 1 (bias 0x3F666666#32 (argsOf m c).t) := by
  rw [tW_eq]
  pointwise [row1, k0_pay22, k0_pay19]
  rfl

theorem row2_apply (c : Dev nD) (l : Fin 128) : row2 (F := Ideal) (tW m c) (ix2 0 l) = Ideal.div 1 (bias 0x3F7FBE77#32 (argsOf m c).t) := by
  rw [tW_eq]
  pointwise [row2, k0_pay1, k0_pay19, k0_pay20]
  rfl

/-- Row `i` of strip `k`. -/
def inStrip (k : Fin 8) (i : Fin 32) : Fin 256 := ⟨32 * k.val + i.val, by have := k.isLt; have := i.isLt; omega⟩

theorem wide_idx (k : Fin 8) (b : Fin 16) (i : Fin 32) (l : Fin 128) : (wideRect k b).toLoadRect.idx (ix2 i l) = ix2 (inStrip k i) (colAt b l) := by
  funext a
  apply Fin.ext
  fin_cases a
  · show 32 * k.val + 1 * i.val = 32 * k.val + i.val; omega
  · show 128 * b.val + 1 * l.val = 128 * b.val + l.val; omega

theorem scale_idx (k : Fin 8) (i : Fin 32) (b : Fin 16) : (scaleRect k).toLoadRect.idx (ix2 i b) = ix2 (inStrip k i) b := by
  funext a
  apply Fin.ext
  fin_cases a
  · show 32 * k.val + 1 * i.val = 32 * k.val + i.val; omega
  · show 0 + 1 * b.val = b.val; omega

theorem grad_idx (t : Fin cfg0.N) (k : Fin 8) (b : Fin 16) (i : Fin 32) (l : Fin 128) :
    (gradRect (grid0.coords t) k b).toLoadRect.idx (ix2 i l) = ix2 (rowAt t (inStrip k i)) (colAt b l) := by
  funext a
  apply Fin.ext
  fin_cases a
  · show 256 * (grid0.coords t 0).val + 32 * k.val + 1 * i.val = 256 * t.val + (32 * k.val + i.val)
    rw [coords_val]; omega
  · show 128 * b.val + 1 * l.val = 128 * b.val + l.val; omega

theorem blk_colAt (b : Fin 16) (l : Fin 128) : blk (colAt b l) = b :=
  Fin.ext (by show (128 * b.val + l.val) / 128 = b.val; have := l.isLt; omega)

theorem mTile_apply (b : Fin 16) (v3 ms g mc) (i : Fin 32) (l : Fin 128) : mTile (F := Ideal) b v3 ms g mc (ix2 i l)
    = lit 0x3F666666#32 * (int (mc (ix2 i l) : BitVec 8) * ms (ix2 i b)) + lit 0x3DCCCCCD#32 * (g (ix2 i l) * v3 (ix2 0 l)) := by
  pointwise [mTile, k0_pay23]
  rfl

theorem vTile_apply (b : Fin 16) (v3 vs g vc) (i : Fin 32) (l : Fin 128) : vTile (F := Ideal) b v3 vs g vc (ix2 i l)
    = lit 0x3F7FBE77#32 * (int (vc (ix2 i l) : BitVec 8) * vs (ix2 i b))
      + lit 0x3A83126F#32 * ((g (ix2 i l) * v3 (ix2 0 l)) * (g (ix2 i l) * v3 (ix2 0 l))) := by
  pointwise [vTile, k0_pay23]
  rfl

theorem dTile_apply (v4 v5 : Vec Ideal S1x128 .f32) (x y : FVec Ideal S32x128 .f32) (p : Vec Ideal S32x128 .f32) (i : Fin 32) (l : Fin 128) :
    dTile (F := Ideal) v4 v5 x y p (ix2 i l) = lit 0xBA83126F#32 * (Ideal.div (x (ix2 i l) * v4 (ix2 0 l))
      (Ideal.sqrt (y (ix2 i l) * v5 (ix2 0 l)) + lit 0x322BCC77#32) + lit 0x3C23D70A#32 * p (ix2 i l)) := by
  pointwise [dTile, k0_pay27]

/-- The tiles of a point, as blocks of the arrays of new moments and updates. -/
theorem m_apply (c : Dev nD) (t : Fin cfg0.N) (k : Fin 8) (b : Fin 16) (i : Fin 32) (l : Fin 128) :
    (insAt m c t).m (grid0.coords t) k b (ix2 i l) = (argsOf m c).m (rowAt t (inStrip k i)) (colAt b l) := by
  unfold Ins.m
  rw [mTile_apply]
  simp only [wide_idx, scale_idx, grad_idx]
  unfold insAt
  dsimp only
  rw [row0_apply, iblk_3, iblk_4, gV_apply, V_main_arg2, V_main_arg3]
  unfold Args.m Args.gk
  rw [blk_colAt]
  rfl

theorem v_apply (c : Dev nD) (t : Fin cfg0.N) (k : Fin 8) (b : Fin 16) (i : Fin 32) (l : Fin 128) :
    (insAt m c t).v (grid0.coords t) k b (ix2 i l) = (argsOf m c).v (rowAt t (inStrip k i)) (colAt b l) := by
  unfold Ins.v
  rw [vTile_apply]
  simp only [wide_idx, scale_idx, grad_idx]
  unfold insAt
  dsimp only
  rw [row0_apply, iblk_5, iblk_6, gV_apply, V_main_arg4, V_main_arg5]
  unfold Args.v Args.gk
  rw [blk_colAt]
  rfl

theorem d_apply (c : Dev nD) (t : Fin cfg0.N) (k : Fin 8) (b : Fin 16) (i : Fin 32) (l : Fin 128) :
    (insAt m c t).d (grid0.coords t) k b (ix2 i l) = (argsOf m c).d (rowAt t (inStrip k i)) (colAt b l) := by
  unfold Ins.d
  rw [dTile_apply, m_apply, v_apply]
  simp only [wide_idx]
  unfold insAt
  dsimp only
  rw [row1_apply, row2_apply, iblk_2, V_main_arg0]
  rfl

/-- The quantiser on a tile. -/
theorem scale_m_apply (x : FVec Ideal S32x128 .f32) (i : Fin 32) : k0_pay28 x (ix2 i 0)
    = scaleOf (Finset.univ.fold max (lit 0xFF800000#32) fun l : Fin 128 => max (x (ix2 i l) : EReal) (-(x (ix2 i l) : EReal))) := by
  pointwise [k0_pay28]
  rfl

theorem scale_v_apply (x : FVec Ideal S32x128 .f32) (i : Fin 32) : k0_pay30 x (ix2 i 0)
    = scaleOf (Finset.univ.fold max (lit 0xFF800000#32) fun l : Fin 128 => max (x (ix2 i l) : EReal) (-(x (ix2 i l) : EReal))) := by
  pointwise [k0_pay30]
  rfl

theorem code_m_apply (x : FVec Ideal S32x128 .f32) (i : Fin 32) (l : Fin 128) : k0_pay29 x (ix2 i l) = codeOf (x (ix2 i l)) (k0_pay28 x (ix2 i 0)) := by
  pointwise [k0_pay29]
  rfl

theorem code_v_apply (x : FVec Ideal S32x128 .f32) (i : Fin 32) (l : Fin 128) : k0_pay32 (k0_pay31 x) (ix2 i l) = codeOf (x (ix2 i l)) (k0_pay30 x (ix2 i 0)) := by
  pointwise [k0_pay32, k0_pay31]
  rfl

/-- A point's wide block at an element, from its tiles. -/
theorem wideOf_apply {e : EltTy} (T : Fin 8 → Fin 16 → S32x128.Idx → Elt Ideal e) (G : Fin 7168 → Fin 2048 → Elt Ideal e) (t : Fin cfg0.N)
    (h : ∀ k b i l, T k b (ix2 i l) = G (rowAt t (inStrip k i)) (colAt b l)) (a : Fin 256) (q : Fin 2048) :
    wideOf T (ix2 a q) = G (rowAt t a) q := by
  have ha := a.isLt
  have hq := q.isLt
  refine Eq.trans ?_ ((h ⟨a.val / 32, by omega⟩ ⟨q.val / 128, by omega⟩ ⟨a.val % 32, Nat.mod_lt _ (by decide)⟩ ⟨q.val % 128, Nat.mod_lt _ (by decide)⟩).trans ?_)
  · unfold wideOf
    refine congrArg (T ⟨a.val / 32, by omega⟩ ⟨q.val / 128, by omega⟩) (funext fun x => Fin.ext ?_)
    fin_cases x <;> rfl
  · congr 1
    · exact congrArg (rowAt t) (Fin.ext (by show 32 * (a.val / 32) + a.val % 32 = a.val; omega))
    · exact Fin.ext (by show 128 * (q.val / 128) + q.val % 128 = q.val; omega)

theorem colOf_apply {e : EltTy} (T : Fin 8 → Fin 16 → S32x1.Idx → Elt Ideal e) (G : Fin 7168 → Fin 16 → Elt Ideal e) (t : Fin cfg0.N)
    (h : ∀ k b i, T k b (ix2 i 0) = G (rowAt t (inStrip k i)) b) (a : Fin 256) (b : Fin 16) :
    colOf T (ix2 a b) = G (rowAt t a) b := by
  have ha := a.isLt
  refine Eq.trans ?_ ((h ⟨a.val / 32, by omega⟩ b ⟨a.val % 32, Nat.mod_lt _ (by decide)⟩).trans ?_)
  · unfold colOf
    refine congrArg (T ⟨a.val / 32, by omega⟩ b) (funext fun x => Fin.ext ?_)
    fin_cases x <;> rfl
  · exact congrArg (fun r => G r b) (congrArg (rowAt t) (Fin.ext (by show 32 * (a.val / 32) + a.val % 32 = a.val; omega)))

theorem scale_m_tile (c : Dev nD) (t : Fin cfg0.N) (k : Fin 8) (b : Fin 16) (i : Fin 32) :
    k0_pay28 ((insAt m c t).m (grid0.coords t) k b) (ix2 i 0) = scales (argsOf m c).m (rowAt t (inStrip k i)) b := by
  rw [scale_m_apply]
  simp only [m_apply]
  rfl

theorem scale_v_tile (c : Dev nD) (t : Fin cfg0.N) (k : Fin 8) (b : Fin 16) (i : Fin 32) :
    k0_pay30 ((insAt m c t).v (grid0.coords t) k b) (ix2 i 0) = scales (argsOf m c).v (rowAt t (inStrip k i)) b := by
  rw [scale_v_apply]
  simp only [v_apply]
  rfl

theorem code_m_tile (c : Dev nD) (t : Fin cfg0.N) (k : Fin 8) (b : Fin 16) (i : Fin 32) (l : Fin 128) :
    k0_pay29 ((insAt m c t).m (grid0.coords t) k b) (ix2 i l) = codes (argsOf m c).m (rowAt t (inStrip k i)) (colAt b l) := by
  rw [code_m_apply, scale_m_tile, m_apply]
  unfold codes
  rw [blk_colAt]

theorem code_v_tile (c : Dev nD) (t : Fin cfg0.N) (k : Fin 8) (b : Fin 16) (i : Fin 32) (l : Fin 128) :
    k0_pay32 (k0_pay31 ((insAt m c t).v (grid0.coords t) k b)) (ix2 i l) = codes (argsOf m c).v (rowAt t (inStrip k i)) (colAt b l) := by
  rw [code_v_apply, scale_v_tile, v_apply]
  unfold codes
  rw [blk_colAt]

/-- The five results. -/
theorem res_d (c : Dev nD) : (dats m 0 c).arrAt 7 cfg0.N = fun y : S7168x2048.Idx => (argsOf m c).d (y 0) (y 1) :=
  final_7 m c _ fun t a q => (congrFun (after_7 m c t) _).trans (wideOf_apply (e := .f32) _ (argsOf m c).d t (d_apply m c t) a q)
theorem res_mc (c : Dev nD) : (dats m 0 c).arrAt 8 cfg0.N = fun y : S7168x2048.Idx => codes (argsOf m c).m (y 0) (y 1) :=
  final_8 m c _ fun t a q => (congrFun (after_8 m c t) _).trans (wideOf_apply (e := .i8) _ (codes (argsOf m c).m) t (code_m_tile m c t) a q)
theorem res_ms (c : Dev nD) : (dats m 0 c).arrAt 9 cfg0.N = fun y : S7168x16.Idx => scales (argsOf m c).m (y 0) (y 1) :=
  final_9 m c _ fun t a q => (congrFun (after_9 m c t) _).trans (colOf_apply (e := .f32) _ (scales (argsOf m c).m) t (scale_m_tile m c t) a q)
theorem res_vc (c : Dev nD) : (dats m 0 c).arrAt 10 cfg0.N = fun y : S7168x2048.Idx => codes (argsOf m c).v (y 0) (y 1) :=
  final_10 m c _ fun t a q => (congrFun (after_10 m c t) _).trans (wideOf_apply (e := .i8) _ (codes (argsOf m c).v) t (code_v_tile m c t) a q)
theorem res_vs (c : Dev nD) : (dats m 0 c).arrAt 11 cfg0.N = fun y : S7168x16.Idx => scales (argsOf m c).v (y 0) (y 1) :=
  final_11 m c _ fun t a q => (congrFun (after_11 m c t) _).trans (colOf_apply (e := .f32) _ (scales (argsOf m c).v) t (scale_v_tile m c t) a q)

end Cert.KernelIdeal.Run
end
-- ==== Proof.SpecLaws.lean ====
module

public import proofs.«01_k».proof.Proof.Spec
public import Idealize.ShloMosaic.Lib.IdealHost

@[expose] public section

noncomputable section

/-! The reference's arithmetic and the kernel's are the same functions of the arguments. -/
namespace Cert.AdamW

open Idealize.ShloMosaic

/-! ## Unscaling and clipping -/

/-- At a scale that is not zero a quotient is the product with the reciprocal. -/
theorem div_eq_mul {y : EReal} (hy : y ≠ 0) (x : EReal) : Ideal.div x y = x * Ideal.div 1 y := by
  unfold Ideal.div
  rw [if_neg hy, if_neg hy, one_mul]

/-- A double sum of nonnegative terms, one of them `⊤`, is `⊤`. -/
theorem sum_eq_top (f : Fin 7168 → Fin 2048 → EReal) (h0 : ∀ r q, 0 ≤ f r q) (r : Fin 7168) (q : Fin 2048) (h : f r q = ⊤) :
    ∑ r, ∑ q, f r q = ⊤ := by
  refine top_le_iff.1 ?_
  rw [← h]
  exact (Finset.single_le_sum (f := fun q => f r q) (fun q _ => h0 r q) (Finset.mem_univ q)).trans
    (Finset.single_le_sum (f := fun r => ∑ q, f r q) (fun r _ => Finset.sum_nonneg fun q _ => h0 r q) (Finset.mem_univ r))

/-- A norm of `⊤` clips everything away. -/
theorem clip_top : min 1 (Ideal.div 1 (Ideal.sqrt ⊤)) = (0 : EReal) := by
  simp [Ideal.div]

theorem div_zero_sq (x : EReal) : Ideal.div x 0 * Ideal.div x 0 = ⊤ := by
  unfold Ideal.div
  rw [if_pos rfl]
  split <;> simp

theorem mul_top_sq (x : EReal) : (x * ⊤) * (x * ⊤) = if x = 0 then 0 else ⊤ := by
  rcases lt_trichotomy x 0 with h | h | h
  · rw [EReal.mul_top_of_neg h, if_neg h.ne]; simp
  · subst h; simp
  · rw [EReal.mul_top_of_pos h, if_neg h.ne']; simp

/-- The reference's clipped gradient. -/
def Args.gRef (A : Args) (r : Fin 7168) (q : Fin 2048) : EReal :=
  Ideal.div (A.g r q) A.ls * min 1 (Ideal.div 1 (Ideal.sqrt (0 + ∑ r : Fin 7168, ∑ q : Fin 2048, Ideal.div (A.g r q) A.ls * Ideal.div (A.g r q) A.ls)))

/-- Unscaling by a quotient and then clipping is multiplying by the one factor, at every loss scale. -/
theorem gRef_eq (A : Args) (r : Fin 7168) (q : Fin 2048) : A.gRef r q = A.gk r q := by
  unfold Args.gRef Args.gk Args.factor Args.total
  rw [zero_add]
  by_cases h : A.ls = 0
  · rw [h]
    have hu : Ideal.div 1 0 = (⊤ : EReal) := by simp [Ideal.div]
    rw [hu]
    simp only [div_zero_sq, mul_top_sq]
    rw [sum_eq_top _ (fun _ _ => le_top) r q rfl, clip_top, mul_zero]
    by_cases hx : A.g r q = 0
    · rw [hx, zero_mul]
    · rw [sum_eq_top (fun r q => if A.g r q = 0 then (0 : EReal) else ⊤) (fun r q => by split <;> simp) r q (if_neg hx),
        clip_top, zero_mul, mul_zero]
  · simp only [div_eq_mul h (A.g _ _)]
    rw [mul_assoc, mul_comm (Ideal.div 1 A.ls)]

/-! ## The bias corrections -/

theorem lit_beta1 : ∃ β : ℝ, 0 < β ∧ β < 1 ∧ lit 0x3F666666#32 = (β : EReal) := by
  refine ⟨15099494 / 16777216, by norm_num, by norm_num, ?_⟩
  simp [lit, Ideal.ofBits, Ideal.ieee, -EReal.coe_mul]; norm_num

theorem lit_beta2 : ∃ β : ℝ, 0 < β ∧ β < 1 ∧ lit 0x3F7FBE77#32 = (β : EReal) := by
  refine ⟨16760439 / 16777216, by norm_num, by norm_num, ?_⟩
  simp [lit, Ideal.ofBits, Ideal.ieee, -EReal.coe_mul]; norm_num

/-- After the first step a bias correction is not zero. -/
theorem bias_ne {b t : BitVec 32} (hb : ∃ β : ℝ, 0 < β ∧ β < 1 ∧ lit b = (β : EReal)) (ht : t ≠ 0) : bias b t ≠ 0 := by
  obtain ⟨β, h0, h1, hβ⟩ := hb
  have hp : Ideal.pow (lit b) (int t) = ((Real.rpow β (t.toInt : ℝ) : ℝ) : EReal) := by
    rw [hβ]; rfl
  have hz : t.toInt ≠ 0 := fun h => ht (BitVec.eq_of_toInt_eq (by rw [h]; rfl))
  unfold bias
  rw [hp, ← EReal.coe_one, ← EReal.coe_sub]
  intro h
  have h' : (1 : ℝ) - Real.rpow β (t.toInt : ℝ) = 0 := EReal.coe_eq_zero.1 h
  have he : Real.rpow β (t.toInt : ℝ) = 1 := by linarith
  rcases lt_or_gt_of_ne hz with hn | hn
  · have := Real.one_lt_rpow_of_pos_of_lt_one_of_neg h0 h1 (z := (t.toInt : ℝ)) (by exact_mod_cast hn)
    exact absurd he this.ne'
  · have := Real.rpow_lt_one h0.le h1 (z := (t.toInt : ℝ)) (by exact_mod_cast hn)
    exact absurd he this.ne

/-! ## The codes -/

theorem lit_127 : lit 0x42FE0000#32 = ((127 : ℝ) : EReal) := by
  simp [lit, Ideal.ofBits, Ideal.ieee, -EReal.coe_mul]; norm_num

theorem lit_neg127 : lit 0xC2FE0000#32 = ((-127 : ℝ) : EReal) := by
  simp [lit, Ideal.ofBits, Ideal.ieee, -EReal.coe_mul, -EReal.coe_neg]; norm_num

/-- A small integer's word, cut to a byte, is its byte. -/
theorem cut_ofInt (n : ℤ) : (BitVec.ofInt 32 n).setWidth 8 = BitVec.ofInt 8 n := by
  apply BitVec.eq_of_toNat_eq
  simp only [BitVec.toNat_setWidth, BitVec.toNat_ofInt]
  omega

/-- A value clamped to `[-127, 127]` becomes the same byte through a word or at once. -/
theorem cut_fptosi (z : EReal) :
    (Ideal.fptosi 32 (min (lit 0x42FE0000#32) (max (lit 0xC2FE0000#32) z))).setWidth 8
      = Ideal.fptosi 8 (min (lit 0x42FE0000#32) (max (lit 0xC2FE0000#32) z)) := by
  rw [lit_127, lit_neg127]
  obtain ⟨r, hr, h0, h1⟩ : ∃ r : ℝ, min ((127 : ℝ) : EReal) (max ((-127 : ℝ) : EReal) z) = (r : EReal) ∧ -127 ≤ r ∧ r ≤ 127 := by
    induction z with
    | bot => exact ⟨-127, by simp [-EReal.coe_neg], le_rfl, by norm_num⟩
    | top => exact ⟨127, by simp, by norm_num, le_rfl⟩
    | coe z => exact ⟨min 127 (max (-127) z), by rw [EReal.coe_strictMono.monotone.map_min, EReal.coe_strictMono.monotone.map_max], le_min (by norm_num) (le_max_left _ _), min_le_left _ _⟩
  rw [hr]
  unfold Ideal.fptosi
  rw [cut_ofInt, Ideal.toIntClamped_coe, Ideal.toIntClamped_coe]
  congr 1
  have hn : -127 ≤ (if 0 ≤ r then ⌊r⌋ else ⌈r⌉) ∧ (if 0 ≤ r then ⌊r⌋ else ⌈r⌉) ≤ 127 := by
    split
    · exact ⟨Int.le_floor.2 (by exact_mod_cast h0), Int.cast_le (R := ℝ).1 ((Int.floor_le r).trans (by exact_mod_cast h1))⟩
    · exact ⟨Int.cast_le (R := ℝ).1 (le_trans (by exact_mod_cast h0) (Int.le_ceil r)), Int.ceil_le.2 (by exact_mod_cast h1)⟩
  generalize (if 0 ≤ r then ⌊r⌋ else ⌈r⌉) = n at hn ⊢
  norm_num
  omega

end Cert.AdamW
end
-- ==== Proof.RValue.lean ====
module

public import proofs.«01_k».proof.Proof.Gen.ReferenceIdeal.Run
public import proofs.«01_k».proof.Proof.SpecLaws
public import Idealize.ShloMosaic.Lib.Pointwise
public import Idealize.ShloMosaic.Lib.Tactic.CleanTypes

@[expose] public section

set_option maxRecDepth 16384

noncomputable section

/-! The reference's results, element by element. -/
namespace Cert.ReferenceIdeal.Elements

open Cert.ReferenceIdeal Cert.ReferenceIdeal.Gen Cert.ReferenceIdeal.Value Cert.AdamW
open Idealize.ShloMosaic Idealize.ShloMosaic.TcCoe Idealize.SL.Sem Idealize.ShloMosaic.StableHlo

variable (V0 : Valuation τ sig (Elt Ideal))

/-- The arguments a valuation holds. -/
def argsV : Args := Args.of (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))
  (V0 (Proc.devRef .tc main_arg7))

/-- A byte widened to a word is the same number. -/
theorem sitofp_ext (b : BitVec 8) : FloatOps.sitofp (F := Ideal) .f32 (BitVec.signExtend 32 b) = int b := by
  change (((BitVec.signExtend 32 b).toInt : ℝ) : EReal) = _
  rw [BitVec.toInt_signExtend_of_le (by omega)]

theorem v2_apply (r : Fin 7168) (q : Fin 2048) : res_main_v2 V0 (ix2 r q : S7168x2048.Idx) = Ideal.div ((argsV V0).g r q) (argsV V0).ls := by
  unfold res_main_v2
  clean_types
  pointwise
  rfl

theorem v9_apply (r : Fin 7168) (q : Fin 2048) : res_main_v9 V0 (ix2 r q : S7168x2048.Idx) = (argsV V0).gk r q := by
  rw [← gRef_eq]
  unfold Args.gRef
  unfold res_main_v9
  clean_types
  pointwise
  simp only [v2_apply]

theorem v26_apply (r : Fin 7168) (q : Fin 2048) : res_main_v26 V0 (ix2 r q : S7168x2048.Idx) = (argsV V0).m r q := by
  unfold res_main_v26
  clean_types
  pointwise
  rw [v9_apply, sitofp_ext]
  rfl

theorem v32_apply (r : Fin 7168) (q : Fin 2048) : res_main_v32 V0 (ix2 r q : S7168x2048.Idx) = (argsV V0).v r q := by
  unfold res_main_v32
  clean_types
  pointwise
  rw [v9_apply, sitofp_ext]
  rfl

/-- A magnitude at a column, by block and place. -/
theorem abs_at (x : Fin 7168 → Fin 2048 → EReal) (r : Fin 7168) {q : Fin 2048} {b : Fin 16} {l : Fin 128} (h : q.val = 128 * b.val + l.val) :
    FloatOps.absf (F := Ideal) (φ := .f32) (x r q) = max (x r (colAt b l)) (-(x r (colAt b l))) := by
  obtain rfl : q = colAt b l := Fin.ext h
  rfl

theorem v115_apply (r : Fin 7168) (b : Fin 16) : res_main_v115 V0 (ix2 r b : S7168x16.Idx) = amax (argsV V0).m r b := by
  have hx : ∀ q, res_main_v26 V0 (ix2 r q : S7168x2048.Idx) = (argsV V0).m r q := v26_apply V0 r
  unfold res_main_v115
  clean_types
  generalize res_main_v26 V0 = x at hx ⊢
  pointwise
  unfold amax
  simp only [hx]
  fin_vals b with hk
  all_goals simp only [hk, Nat.reduceSub, Nat.reduceLT, ↓reduceDIte]
  all_goals exact Finset.fold_congr fun l _ => abs_at _ r (by simp only [hk, Nat.reduceMul, Nat.zero_add])

theorem v120_apply (r : Fin 7168) (b : Fin 16) : res_main_v120 V0 (ix2 r b : S7168x16.Idx) = scales (argsV V0).m r b := by
  unfold res_main_v120
  clean_types
  pointwise
  rw [v115_apply]
  rfl

theorem v194_apply (r : Fin 7168) (b : Fin 16) : res_main_v194 V0 (ix2 r b : S7168x16.Idx) = amax (argsV V0).v r b := by
  have hx : ∀ q, res_main_v32 V0 (ix2 r q : S7168x2048.Idx) = (argsV V0).v r q := v32_apply V0 r
  unfold res_main_v194
  clean_types
  generalize res_main_v32 V0 = x at hx ⊢
  pointwise
  unfold amax
  simp only [hx]
  fin_vals b with hk
  all_goals simp only [hk, Nat.reduceSub, Nat.reduceLT, ↓reduceDIte]
  all_goals exact Finset.fold_congr fun l _ => abs_at _ r (by simp only [hk, Nat.reduceMul, Nat.zero_add])

theorem v199_apply (r : Fin 7168) (b : Fin 16) : res_main_v199 V0 (ix2 r b : S7168x16.Idx) = scales (argsV V0).v r b := by
  unfold res_main_v199
  clean_types
  pointwise
  rw [v194_apply]
  rfl

/-- The step counter, as a number. -/
theorem v33_apply : res_main_v33 V0 ix0 = int (argsV V0).t := rfl

/-- The update, after the first step. -/
theorem delta (ht : (argsV V0).t ≠ 0) :
    mulf (broadcastInDim S7168x2048 ![] bcast_S_S7168x2048 (constant S_ .f32 0xBA83126F#32)) (addf (Host.divf (Host.divf (res_main_v26 V0) (broadcastInDim S7168x2048 ![] bcast_S_S7168x2048 (subf (constant S_ .f32 0x3F800000#32) (Host.powf (constant S_ .f32 0x3F666666#32) (res_main_v33 V0))))) (addf (Host.sqrt (Host.divf (res_main_v32 V0) (broadcastInDim S7168x2048 ![] bcast_S_S7168x2048 (subf (constant S_ .f32 0x3F800000#32) (Host.powf (constant S_ .f32 0x3F7FBE77#32) (res_main_v33 V0)))))) (broadcastInDim S7168x2048 ![] bcast_S_S7168x2048 (constant S_ .f32 0x322BCC77#32)))) (mulf (broadcastInDim S7168x2048 ![] bcast_S_S7168x2048 (constant S_ .f32 0x3C23D70A#32)) (V0 (Proc.devRef .tc main_arg0))))
      = fun y : S7168x2048.Idx => (argsV V0).d (y 0) (y 1) := by
  funext y
  obtain ⟨r, q, rfl⟩ : ∃ (r : Fin 7168) (q : Fin 2048), y = ix2 r q := ⟨y 0, y 1, eq_ix2 y⟩
  change _ = (argsV V0).d r q
  clean_types
  pointwise
  rw [v26_apply, v32_apply, v33_apply]
  unfold Args.d
  rw [← div_eq_mul (bias_ne lit_beta1 ht), ← div_eq_mul (bias_ne lit_beta2 ht)]
  rfl

/-- The first moment's codes. -/
theorem codes_m :
    id (trunci 8 (fptosi 32 (minimumf (broadcastInDim S7168x2048 ![] bcast_S_S7168x2048 (id (constant S_ .f32 0x42FE0000#32))) (maximumf (broadcastInDim S7168x2048 ![] bcast_S_S7168x2048 (id (constant S_ .f32 0xC2FE0000#32))) (Host.roundeven (Host.divf (res_main_v26 V0) (shapeCast _ (broadcastInDim S7168x16x128 ![0, 1, 2] bcast_S7168x16x1_S7168x16x128_0_1_2 (broadcastInDim S7168x16x1 ![0, 1] bcast_S7168x16_S7168x16x1_0_1 (res_main_v120 V0))) shapeCasts_S7168x16x128_S7168x2048)))))) natLt_8_32)
      = fun y : S7168x2048.Idx => codes (argsV V0).m (y 0) (y 1) := by
  funext y
  obtain ⟨r, q, rfl⟩ : ∃ (r : Fin 7168) (q : Fin 2048), y = ix2 r q := ⟨y 0, y 1, eq_ix2 y⟩
  change _ = codes (argsV V0).m r q
  simp only [id_eq]
  clean_types
  pointwise
  rw [v26_apply, v120_apply]
  exact cut_fptosi _

/-- The first moment's scales. -/
theorem scales_m : id (res_main_v120 V0) = fun y : S7168x16.Idx => scales (argsV V0).m (y 0) (y 1) := by
  funext y
  obtain ⟨r, b, rfl⟩ : ∃ (r : Fin 7168) (b : Fin 16), y = ix2 r b := ⟨y 0, y 1, eq_ix2 y⟩
  exact v120_apply V0 r b

/-- The second moment's codes. -/
theorem codes_v :
    id (trunci 8 (fptosi 32 (minimumf (broadcastInDim S7168x2048 ![] bcast_S_S7168x2048 (id (constant S_ .f32 0x42FE0000#32))) (maximumf (broadcastInDim S7168x2048 ![] bcast_S_S7168x2048 (id (constant S_ .f32 0xC2FE0000#32))) (Host.roundeven (Host.divf (res_main_v32 V0) (shapeCast _ (broadcastInDim S7168x16x128 ![0, 1, 2] bcast_S7168x16x1_S7168x16x128_0_1_2 (broadcastInDim S7168x16x1 ![0, 1] bcast_S7168x16_S7168x16x1_0_1 (res_main_v199 V0))) shapeCasts_S7168x16x128_S7168x2048)))))) natLt_8_32)
      = fun y : S7168x2048.Idx => codes (argsV V0).v (y 0) (y 1) := by
  funext y
  obtain ⟨r, q, rfl⟩ : ∃ (r : Fin 7168) (q : Fin 2048), y = ix2 r q := ⟨y 0, y 1, eq_ix2 y⟩
  change _ = codes (argsV V0).v r q
  simp only [id_eq]
  clean_types
  pointwise
  rw [v32_apply, v199_apply]
  exact cut_fptosi _

/-- The second moment's scales. -/
theorem scales_v : id (res_main_v199 V0) = fun y : S7168x16.Idx => scales (argsV V0).v (y 0) (y 1) := by
  funext y
  obtain ⟨r, b, rfl⟩ : ∃ (r : Fin 7168) (b : Fin 16), y = ix2 r b := ⟨y 0, y 1, eq_ix2 y⟩
  exact v199_apply V0 r b

end Cert.ReferenceIdeal.Elements
end
-- ==== Proof.Algebraic.lean ====
module

public import proofs.«01_k».proof.Defs
public import proofs.«01_k».proof.Proof.KValue
public import proofs.«01_k».proof.Proof.RValue
public import Idealize.ShloMosaic.Adequacy
public import Idealize.ShloMosaic.Init

@[expose] public section

noncomputable section

/-! The kernel and the reference leave the same five arrays. -/
namespace Cert.Algebraic

open Idealize.ShloMosaic Idealize.SL.Sem Cert.AdamW
open Idealize.ShloMosaic.TcCoe Idealize.ShloMosaic.StableHlo

instance preFacts : Cert.Pre_after_first_step.Facts := ⟨⟩

/-- The precondition says that the step counter is not zero. -/
theorem step_ne {m : (ℓ : Loc Cert.KernelIdeal.nD Cert.KernelIdeal.τ Cert.KernelIdeal.sig) → Buf (Elt Ideal) ℓ}
    (hpre : Cert.Pre_KernelIdeal_after_first_step m) (c : Dev Cert.KernelIdeal.nD) : (Cert.KernelIdeal.Run.argsOf m c).t ≠ 0 := by
  intro h
  have h1 := congrFun (hpre c) ix0
  unfold Cert.Pre_after_first_step.fn at h1
  have h2 : m ((c.tc : Thread Cert.KernelIdeal.nD Cert.KernelIdeal.τ).loc Cert.KernelIdeal.main_arg6) ix0 = 0#32 := h
  revert h1
  pointwise
  rw [h2]
  decide

/-- The run of the kernel, with the arrays it leaves. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v2_0) = (fun y => (Cert.KernelIdeal.Run.argsOf m c).d (y 0) (y 1))
      ∧ r.2.mem ((c.tc : Thread Cert.KernelIdeal.nD Cert.KernelIdeal.τ).loc Cert.KernelIdeal.main_v2_1) = (fun y => codes (Cert.KernelIdeal.Run.argsOf m c).m (y 0) (y 1))
      ∧ r.2.mem ((c.tc : Thread Cert.KernelIdeal.nD Cert.KernelIdeal.τ).loc Cert.KernelIdeal.main_v2_2) = (fun y => scales (Cert.KernelIdeal.Run.argsOf m c).m (y 0) (y 1))
      ∧ r.2.mem ((c.tc : Thread Cert.KernelIdeal.nD Cert.KernelIdeal.τ).loc Cert.KernelIdeal.main_v2_3) = (fun y => codes (Cert.KernelIdeal.Run.argsOf m c).v (y 0) (y 1))
      ∧ r.2.mem ((c.tc : Thread Cert.KernelIdeal.nD Cert.KernelIdeal.τ).loc Cert.KernelIdeal.main_v2_4) = (fun y => scales (Cert.KernelIdeal.Run.argsOf m c).v (y 0) (y 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) :=
  (θ_run (Cert.KernelIdeal.defs (F := Ideal)) _ _).mono (fun r h c =>
    ⟨((h.1 c).1 7).trans (Cert.KernelIdeal.Run.res_d m c), ((h.1 c).1 8).trans (Cert.KernelIdeal.Run.res_mc m c),
      ((h.1 c).1 9).trans (Cert.KernelIdeal.Run.res_ms m c), ((h.1 c).1 10).trans (Cert.KernelIdeal.Run.res_vc m c),
      ((h.1 c).1 11).trans (Cert.KernelIdeal.Run.res_vs m c), Cert.KernelIdeal.Run.args_kept m r h.1 c⟩)
    (Cert.KernelIdeal.Run.run_main m g)

theorem algebraic :
    Cert.algebraic_KernelIdeal_ReferenceIdeal_pre_after_first_step := by
  intro m g m' g' hpre hargs
  have hA : ∀ c : Dev Cert.KernelIdeal.nD,
      Cert.ReferenceIdeal.Elements.argsV (launchContents m' c) = Cert.KernelIdeal.Run.argsOf m c := by
    intro c
    obtain ⟨h0, h1, h2, h3, h4, h5, h6, h7⟩ := hargs c
    unfold Cert.ReferenceIdeal.Elements.argsV Cert.KernelIdeal.Run.argsOf
    exact (show _ = Args.of _ _ _ _ _ _ _ _ by rw [← h0, ← h1, ← h2, ← h3, ← h4, ← h5, ← h6, ← h7])
  refine ⟨fun c y => (Cert.KernelIdeal.Run.argsOf m c).d (y 0) (y 1), fun c y => codes (Cert.KernelIdeal.Run.argsOf m c).m (y 0) (y 1),
    fun c y => scales (Cert.KernelIdeal.Run.argsOf m c).m (y 0) (y 1), fun c y => codes (Cert.KernelIdeal.Run.argsOf m c).v (y 0) (y 1),
    fun c y => scales (Cert.KernelIdeal.Run.argsOf m c).v (y 0) (y 1), kernel_run m g, ?_⟩
  refine (θ_run (Cert.ReferenceIdeal.defs (F := Ideal)) _ _).mono (fun r h c => ?_) (Cert.ReferenceIdeal.Value.run (F := Ideal) m' g')
  obtain ⟨e0, e1, e2, e3, e4, ek⟩ := h c
  have ht : (Cert.ReferenceIdeal.Elements.argsV (launchContents m' c)).t ≠ 0 := by rw [hA c]; exact step_ne hpre c
  have hc := hA c
  refine ⟨e0.trans ((Cert.ReferenceIdeal.Elements.delta _ ht).trans ?_), e1.trans ((Cert.ReferenceIdeal.Elements.codes_m _).trans ?_), e2.trans ((Cert.ReferenceIdeal.Elements.scales_m _).trans ?_),
    e3.trans ((Cert.ReferenceIdeal.Elements.codes_v _).trans ?_), e4.trans ((Cert.ReferenceIdeal.Elements.scales_v _).trans ?_), ek⟩
  · exact congrArg (fun (A : Args) (y : (⟨2, ![7168, 2048]⟩ : Shape).Idx) => A.d (y 0) (y 1)) hc
  · exact congrArg (fun (A : Args) (y : (⟨2, ![7168, 2048]⟩ : Shape).Idx) => codes A.m (y 0) (y 1)) hc
  · exact congrArg (fun (A : Args) (y : (⟨2, ![7168, 16]⟩ : Shape).Idx) => scales A.m (y 0) (y 1)) hc
  · exact congrArg (fun (A : Args) (y : (⟨2, ![7168, 2048]⟩ : Shape).Idx) => codes A.v (y 0) (y 1)) hc
  · exact congrArg (fun (A : Args) (y : (⟨2, ![7168, 16]⟩ : Shape).Idx) => scales A.v (y 0) (y 1)) hc

end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.IdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Algebraic.preFacts,
  fun m ρ _ => Cert.Kernel.Run.frame m ρ, fun m ρ _ => Cert.KernelIdeal.Run.frame m ρ, fun m ρ _ => Cert.KernelIdeal.Run.frame m ρ,
  frame_r, fun m ρ _ => frame_r m ρ trivial, trivial, Cert.Algebraic.algebraic⟩

end Cert.Proof

end
